-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v78_0)) (v1 : (c : Dev Cert.KernelIdeal.nD) → Buf (Elt Ideal) ((c.tc : Thread Cert.KernelIdeal.nD Cert.KernelIdeal.τ).loc Cert.KernelIdeal.main_v78_1)) (v2 : (c : Dev Cert.KernelIdeal.nD) → Buf (Elt Ideal) ((c.tc : Thread Cert.KernelIdeal.nD Cert.KernelIdeal.τ).loc Cert.KernelIdeal.main_v78_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78_0) = v0 c
          ∧ r.2.mem ((c.tc : Thread Cert.KernelIdeal.nD Cert.KernelIdeal.τ).loc Cert.KernelIdeal.main_v78_1) = v1 c
          ∧ r.2.mem ((c.tc : Thread Cert.KernelIdeal.nD Cert.KernelIdeal.τ).loc Cert.KernelIdeal.main_v78_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_v138) = v1 c
          ∧ r.2.mem ((c.tc : Thread Cert.ReferenceIdeal.nD Cert.ReferenceIdeal.τ).loc Cert.ReferenceIdeal.main_v139) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def preserves_Kernel2_Kernel2Ideal : Prop :=
  IdealRules.named_const.Statement Cert.Kernel2Ideal.κ "q_scale" .f32 0x3E38AA3B#32 (((8 * (Real.log 2))⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v13_0)) (v1 : (c : Dev Cert.Kernel2Ideal.nD) → Buf (Elt Ideal) ((c.tc : Thread Cert.Kernel2Ideal.nD Cert.Kernel2Ideal.τ).loc Cert.Kernel2Ideal.main_v13_1)) (v2 : (c : Dev Cert.Kernel2Ideal.nD) → Buf (Elt Ideal) ((c.tc : Thread Cert.Kernel2Ideal.nD Cert.Kernel2Ideal.τ).loc Cert.Kernel2Ideal.main_v13_2)) (v3 : (c : Dev Cert.Kernel2Ideal.nD) → Buf (Elt Ideal) ((c.tc : Thread Cert.Kernel2Ideal.nD Cert.Kernel2Ideal.τ).loc Cert.Kernel2Ideal.main_v13_3)) (v4 : (c : Dev Cert.Kernel2Ideal.nD) → Buf (Elt Ideal) ((c.tc : Thread Cert.Kernel2Ideal.nD Cert.Kernel2Ideal.τ).loc Cert.Kernel2Ideal.main_v13_4)) (v5 : (c : Dev Cert.Kernel2Ideal.nD) → Buf (Elt Ideal) ((c.tc : Thread Cert.Kernel2Ideal.nD Cert.Kernel2Ideal.τ).loc Cert.Kernel2Ideal.main_v13_5)) (v6 : (c : Dev Cert.Kernel2Ideal.nD) → Buf (Elt Ideal) ((c.tc : Thread Cert.Kernel2Ideal.nD Cert.Kernel2Ideal.τ).loc Cert.Kernel2Ideal.main_v13_6)) (v7 : (c : Dev Cert.Kernel2Ideal.nD) → Buf (Elt Ideal) ((c.tc : Thread Cert.Kernel2Ideal.nD Cert.Kernel2Ideal.τ).loc Cert.Kernel2Ideal.main_v13_7)) (v8 : (c : Dev Cert.Kernel2Ideal.nD) → Buf (Elt Ideal) ((c.tc : Thread Cert.Kernel2Ideal.nD Cert.Kernel2Ideal.τ).loc Cert.Kernel2Ideal.main_v13_8)) (v9 : (c : Dev Cert.Kernel2Ideal.nD) → Buf (Elt Ideal) ((c.tc : Thread Cert.Kernel2Ideal.nD Cert.Kernel2Ideal.τ).loc Cert.Kernel2Ideal.main_v13_9)) (v10 : (c : Dev Cert.Kernel2Ideal.nD) → Buf (Elt Ideal) ((c.tc : Thread Cert.Kernel2Ideal.nD Cert.Kernel2Ideal.τ).loc Cert.Kernel2Ideal.main_v13_10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13_0) = v0 c
          ∧ r.2.mem ((c.tc : Thread Cert.Kernel2Ideal.nD Cert.Kernel2Ideal.τ).loc Cert.Kernel2Ideal.main_v13_1) = v1 c
          ∧ r.2.mem ((c.tc : Thread Cert.Kernel2Ideal.nD Cert.Kernel2Ideal.τ).loc Cert.Kernel2Ideal.main_v13_2) = v2 c
          ∧ r.2.mem ((c.tc : Thread Cert.Kernel2Ideal.nD Cert.Kernel2Ideal.τ).loc Cert.Kernel2Ideal.main_v13_3) = v3 c
          ∧ r.2.mem ((c.tc : Thread Cert.Kernel2Ideal.nD Cert.Kernel2Ideal.τ).loc Cert.Kernel2Ideal.main_v13_4) = v4 c
          ∧ r.2.mem ((c.tc : Thread Cert.Kernel2Ideal.nD Cert.Kernel2Ideal.τ).loc Cert.Kernel2Ideal.main_v13_5) = v5 c
          ∧ r.2.mem ((c.tc : Thread Cert.Kernel2Ideal.nD Cert.Kernel2Ideal.τ).loc Cert.Kernel2Ideal.main_v13_6) = v6 c
          ∧ r.2.mem ((c.tc : Thread Cert.Kernel2Ideal.nD Cert.Kernel2Ideal.τ).loc Cert.Kernel2Ideal.main_v13_7) = v7 c
          ∧ r.2.mem ((c.tc : Thread Cert.Kernel2Ideal.nD Cert.Kernel2Ideal.τ).loc Cert.Kernel2Ideal.main_v13_8) = v8 c
          ∧ r.2.mem ((c.tc : Thread Cert.Kernel2Ideal.nD Cert.Kernel2Ideal.τ).loc Cert.Kernel2Ideal.main_v13_9) = v9 c
          ∧ r.2.mem ((c.tc : Thread Cert.Kernel2Ideal.nD Cert.Kernel2Ideal.τ).loc Cert.Kernel2Ideal.main_v13_10) = v10 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_v27) = v1 c
          ∧ r.2.mem ((c.tc : Thread Cert.Reference2Ideal.nD Cert.Reference2Ideal.τ).loc Cert.Reference2Ideal.main_v28) = v2 c
          ∧ r.2.mem ((c.tc : Thread Cert.Reference2Ideal.nD Cert.Reference2Ideal.τ).loc Cert.Reference2Ideal.main_v30) = v3 c
          ∧ r.2.mem ((c.tc : Thread Cert.Reference2Ideal.nD Cert.Reference2Ideal.τ).loc Cert.Reference2Ideal.main_v31) = v4 c
          ∧ r.2.mem ((c.tc : Thread Cert.Reference2Ideal.nD Cert.Reference2Ideal.τ).loc Cert.Reference2Ideal.main_v32) = v5 c
          ∧ r.2.mem ((c.tc : Thread Cert.Reference2Ideal.nD Cert.Reference2Ideal.τ).loc Cert.Reference2Ideal.main_v34) = v6 c
          ∧ r.2.mem ((c.tc : Thread Cert.Reference2Ideal.nD Cert.Reference2Ideal.τ).loc Cert.Reference2Ideal.main_v36) = v7 c
          ∧ r.2.mem ((c.tc : Thread Cert.Reference2Ideal.nD Cert.Reference2Ideal.τ).loc Cert.Reference2Ideal.main_v37) = v8 c
          ∧ r.2.mem ((c.tc : Thread Cert.Reference2Ideal.nD Cert.Reference2Ideal.τ).loc Cert.Reference2Ideal.main_v38) = v9 c
          ∧ r.2.mem ((c.tc : Thread Cert.Reference2Ideal.nD Cert.Reference2Ideal.τ).loc Cert.Reference2Ideal.main_v17) = v10 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)) →
    ∃ (v0 : (c : Dev Cert.Kernel3Ideal.nD) → Buf (Elt Ideal) ((c.tc : Thread Cert.Kernel3Ideal.nD Cert.Kernel3Ideal.τ).loc Cert.Kernel3Ideal.main_v84_0)) (v1 : (c : Dev Cert.Kernel3Ideal.nD) → Buf (Elt Ideal) ((c.tc : Thread Cert.Kernel3Ideal.nD Cert.Kernel3Ideal.τ).loc Cert.Kernel3Ideal.main_v84_1)) (v2 : (c : Dev Cert.Kernel3Ideal.nD) → Buf (Elt Ideal) ((c.tc : Thread Cert.Kernel3Ideal.nD Cert.Kernel3Ideal.τ).loc Cert.Kernel3Ideal.main_v84_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v84_0) = v0 c
          ∧ r.2.mem ((c.tc : Thread Cert.Kernel3Ideal.nD Cert.Kernel3Ideal.τ).loc Cert.Kernel3Ideal.main_v84_1) = v1 c
          ∧ r.2.mem ((c.tc : Thread Cert.Kernel3Ideal.nD Cert.Kernel3Ideal.τ).loc Cert.Kernel3Ideal.main_v84_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v121) = v0 c
          ∧ r.2.mem ((c.tc : Thread Cert.Reference3Ideal.nD Cert.Reference3Ideal.τ).loc Cert.Reference3Ideal.main_v15) = v1 c
          ∧ r.2.mem ((c.tc : Thread Cert.Reference3Ideal.nD Cert.Reference3Ideal.τ).loc Cert.Reference3Ideal.main_v98) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  IdealRules.named_const.Statement Cert.Kernel5Ideal.κ "q_scale" .f32 0x3E38AA3B#32 (((8 * (Real.log 2))⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v13_0)) (v1 : (c : Dev Cert.Kernel5Ideal.nD) → Buf (Elt Ideal) ((c.tc : Thread Cert.Kernel5Ideal.nD Cert.Kernel5Ideal.τ).loc Cert.Kernel5Ideal.main_v13_1)) (v2 : (c : Dev Cert.Kernel5Ideal.nD) → Buf (Elt Ideal) ((c.tc : Thread Cert.Kernel5Ideal.nD Cert.Kernel5Ideal.τ).loc Cert.Kernel5Ideal.main_v13_2)) (v3 : (c : Dev Cert.Kernel5Ideal.nD) → Buf (Elt Ideal) ((c.tc : Thread Cert.Kernel5Ideal.nD Cert.Kernel5Ideal.τ).loc Cert.Kernel5Ideal.main_v13_3)) (v4 : (c : Dev Cert.Kernel5Ideal.nD) → Buf (Elt Ideal) ((c.tc : Thread Cert.Kernel5Ideal.nD Cert.Kernel5Ideal.τ).loc Cert.Kernel5Ideal.main_v13_4)) (v5 : (c : Dev Cert.Kernel5Ideal.nD) → Buf (Elt Ideal) ((c.tc : Thread Cert.Kernel5Ideal.nD Cert.Kernel5Ideal.τ).loc Cert.Kernel5Ideal.main_v13_5)) (v6 : (c : Dev Cert.Kernel5Ideal.nD) → Buf (Elt Ideal) ((c.tc : Thread Cert.Kernel5Ideal.nD Cert.Kernel5Ideal.τ).loc Cert.Kernel5Ideal.main_v13_6)) (v7 : (c : Dev Cert.Kernel5Ideal.nD) → Buf (Elt Ideal) ((c.tc : Thread Cert.Kernel5Ideal.nD Cert.Kernel5Ideal.τ).loc Cert.Kernel5Ideal.main_v13_7)) (v8 : (c : Dev Cert.Kernel5Ideal.nD) → Buf (Elt Ideal) ((c.tc : Thread Cert.Kernel5Ideal.nD Cert.Kernel5Ideal.τ).loc Cert.Kernel5Ideal.main_v13_8)) (v9 : (c : Dev Cert.Kernel5Ideal.nD) → Buf (Elt Ideal) ((c.tc : Thread Cert.Kernel5Ideal.nD Cert.Kernel5Ideal.τ).loc Cert.Kernel5Ideal.main_v13_9)) (v10 : (c : Dev Cert.Kernel5Ideal.nD) → Buf (Elt Ideal) ((c.tc : Thread Cert.Kernel5Ideal.nD Cert.Kernel5Ideal.τ).loc Cert.Kernel5Ideal.main_v13_10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13_0) = v0 c
          ∧ r.2.mem ((c.tc : Thread Cert.Kernel5Ideal.nD Cert.Kernel5Ideal.τ).loc Cert.Kernel5Ideal.main_v13_1) = v1 c
          ∧ r.2.mem ((c.tc : Thread Cert.Kernel5Ideal.nD Cert.Kernel5Ideal.τ).loc Cert.Kernel5Ideal.main_v13_2) = v2 c
          ∧ r.2.mem ((c.tc : Thread Cert.Kernel5Ideal.nD Cert.Kernel5Ideal.τ).loc Cert.Kernel5Ideal.main_v13_3) = v3 c
          ∧ r.2.mem ((c.tc : Thread Cert.Kernel5Ideal.nD Cert.Kernel5Ideal.τ).loc Cert.Kernel5Ideal.main_v13_4) = v4 c
          ∧ r.2.mem ((c.tc : Thread Cert.Kernel5Ideal.nD Cert.Kernel5Ideal.τ).loc Cert.Kernel5Ideal.main_v13_5) = v5 c
          ∧ r.2.mem ((c.tc : Thread Cert.Kernel5Ideal.nD Cert.Kernel5Ideal.τ).loc Cert.Kernel5Ideal.main_v13_6) = v6 c
          ∧ r.2.mem ((c.tc : Thread Cert.Kernel5Ideal.nD Cert.Kernel5Ideal.τ).loc Cert.Kernel5Ideal.main_v13_7) = v7 c
          ∧ r.2.mem ((c.tc : Thread Cert.Kernel5Ideal.nD Cert.Kernel5Ideal.τ).loc Cert.Kernel5Ideal.main_v13_8) = v8 c
          ∧ r.2.mem ((c.tc : Thread Cert.Kernel5Ideal.nD Cert.Kernel5Ideal.τ).loc Cert.Kernel5Ideal.main_v13_9) = v9 c
          ∧ r.2.mem ((c.tc : Thread Cert.Kernel5Ideal.nD Cert.Kernel5Ideal.τ).loc Cert.Kernel5Ideal.main_v13_10) = v10 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v26) = v0 c
          ∧ r.2.mem ((c.tc : Thread Cert.Reference5Ideal.nD Cert.Reference5Ideal.τ).loc Cert.Reference5Ideal.main_v27) = v1 c
          ∧ r.2.mem ((c.tc : Thread Cert.Reference5Ideal.nD Cert.Reference5Ideal.τ).loc Cert.Reference5Ideal.main_v28) = v2 c
          ∧ r.2.mem ((c.tc : Thread Cert.Reference5Ideal.nD Cert.Reference5Ideal.τ).loc Cert.Reference5Ideal.main_v30) = v3 c
          ∧ r.2.mem ((c.tc : Thread Cert.Reference5Ideal.nD Cert.Reference5Ideal.τ).loc Cert.Reference5Ideal.main_v31) = v4 c
          ∧ r.2.mem ((c.tc : Thread Cert.Reference5Ideal.nD Cert.Reference5Ideal.τ).loc Cert.Reference5Ideal.main_v32) = v5 c
          ∧ r.2.mem ((c.tc : Thread Cert.Reference5Ideal.nD Cert.Reference5Ideal.τ).loc Cert.Reference5Ideal.main_v34) = v6 c
          ∧ r.2.mem ((c.tc : Thread Cert.Reference5Ideal.nD Cert.Reference5Ideal.τ).loc Cert.Reference5Ideal.main_v36) = v7 c
          ∧ r.2.mem ((c.tc : Thread Cert.Reference5Ideal.nD Cert.Reference5Ideal.τ).loc Cert.Reference5Ideal.main_v37) = v8 c
          ∧ r.2.mem ((c.tc : Thread Cert.Reference5Ideal.nD Cert.Reference5Ideal.τ).loc Cert.Reference5Ideal.main_v38) = v9 c
          ∧ r.2.mem ((c.tc : Thread Cert.Reference5Ideal.nD Cert.Reference5Ideal.τ).loc Cert.Reference5Ideal.main_v17) = v10 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S16384x1024 : Shape := ⟨2, ![16384, 1024]⟩
abbrev S16384x512 : Shape := ⟨2, ![16384, 512]⟩
abbrev S1024 : Shape := ⟨1, ![1024]⟩
abbrev S1024x6728 : Shape := ⟨2, ![1024, 6728]⟩
abbrev S4x1024 : Shape := ⟨2, ![4, 1024]⟩
abbrev S16x64x64 : Shape := ⟨3, ![16, 64, 64]⟩
abbrev S512x1024 : Shape := ⟨2, ![512, 1024]⟩
abbrev S1024x1024 : Shape := ⟨2, ![1024, 1024]⟩
abbrev S1x1024 : Shape := ⟨2, ![1, 1024]⟩
abbrev S1024x4096 : Shape := ⟨2, ![1024, 4096]⟩
abbrev S1x64x64 : Shape := ⟨3, ![1, 64, 64]⟩
abbrev S64x64 : Shape := ⟨2, ![64, 64]⟩
abbrev S_ : Shape := ⟨0, ![]⟩
abbrev S64x1024 : Shape := ⟨2, ![64, 1024]⟩
abbrev S8x1024 : Shape := ⟨2, ![8, 1024]⟩
abbrev S256x1024 : Shape := ⟨2, ![256, 1024]⟩
abbrev S256x512 : Shape := ⟨2, ![256, 512]⟩
abbrev S264x1024 : Shape := ⟨2, ![264, 1024]⟩
abbrev S256 : Shape := ⟨1, ![256]⟩
abbrev S256x1 : Shape := ⟨2, ![256, 1]⟩
abbrev S256x4096 : Shape := ⟨2, ![256, 4096]⟩

abbrev nBuf : Space → Nat
  | .hbm => 160
  | .vmem => 24
  | .smem => 0
  | _ => 0

abbrev hbmTy0_0 (i : Nat) : BufTy := match i % 128 with
  | 0 => ⟨S16384x1024, .f32⟩
  | 1 => ⟨S16384x512, .f32⟩
  | 2 => ⟨S16384x512, .f32⟩
  | 3 => ⟨S1024, .f32⟩
  | 4 => ⟨S1024x6728, .f32⟩
  | 5 => ⟨S4x1024, .f32⟩
  | 6 => ⟨S1024, .f32⟩
  | 7 => ⟨S16x64x64, .f32⟩
  | 8 => ⟨S1024, .f32⟩
  | 9 => ⟨S16x64x64, .f32⟩
  | 10 => ⟨S1024, .f32⟩
  | 11 => ⟨S1024, .f32⟩
  | 12 => ⟨S512x1024, .f32⟩
  | 13 => ⟨S1024x1024, .f32⟩
  | 14 => ⟨S1024x1024, .f32⟩
  | 15 => ⟨S1x1024, .f32⟩
  | 16 => ⟨S1024x4096, .f32⟩
  | 17 => ⟨S1024x4096, .bf16⟩
  | 18 => ⟨S1x1024, .f32⟩
  | 19 => ⟨S1x64x64, .f32⟩
  | 20 => ⟨S64x64, .f32⟩
  | 21 => ⟨S1x64x64, .f32⟩
  | 22 => ⟨S64x64, .f32⟩
  | 23 => ⟨S1x64x64, .f32⟩
  | 24 => ⟨S64x64, .f32⟩
  | 25 => ⟨S1x64x64, .f32⟩
  | 26 => ⟨S64x64, .f32⟩
  | 27 => ⟨S1x64x64, .f32⟩
  | 28 => ⟨S64x64, .f32⟩
  | 29 => ⟨S1x64x64, .f32⟩
  | 30 => ⟨S64x64, .f32⟩
  | 31 => ⟨S1x64x64, .f32⟩
  | 32 => ⟨S64x64, .f32⟩
  | 33 => ⟨S1x64x64, .f32⟩
  | 34 => ⟨S64x64, .f32⟩
  | 35 => ⟨S1x64x64, .f32⟩
  | 36 => ⟨S64x64, .f32⟩
  | 37 => ⟨S1x64x64, .f32⟩
  | 38 => ⟨S64x64, .f32⟩
  | 39 => ⟨S1x64x64, .f32⟩
  | 40 => ⟨S64x64, .f32⟩
  | 41 => ⟨S1x64x64, .f32⟩
  | 42 => ⟨S64x64, .f32⟩
  | 43 => ⟨S1x64x64, .f32⟩
  | 44 => ⟨S64x64, .f32⟩
  | 45 => ⟨S1x64x64, .f32⟩
  | 46 => ⟨S64x64, .f32⟩
  | 47 => ⟨S1x64x64, .f32⟩
  | 48 => ⟨S64x64, .f32⟩
  | 49 => ⟨S1x64x64, .f32⟩
  | 50 => ⟨S64x64, .f32⟩
  | 51 => ⟨S_, .f32⟩
  | 52 => ⟨S64x1024, .f32⟩
  | 53 => ⟨S_, .f32⟩
  | 54 => ⟨S64x1024, .f32⟩
  | 55 => ⟨S_, .f32⟩
  | 56 => ⟨S64x1024, .f32⟩
  | 57 => ⟨S_, .f32⟩
  | 58 => ⟨S64x1024, .f32⟩
  | 59 => ⟨S_, .f32⟩
  | 60 => ⟨S64x1024, .f32⟩
  | 61 => ⟨S_, .f32⟩
  | 62 => ⟨S64x1024, .f32⟩
  | 63 => ⟨S_, .f32⟩
  | 64 => ⟨S64x1024, .f32⟩
  | 65 => ⟨S_, .f32⟩
  | 66 => ⟨S64x1024, .f32⟩
  | 67 => ⟨S_, .f32⟩
  | 68 => ⟨S64x1024, .f32⟩
  | 69 => ⟨S_, .f32⟩
  | 70 => ⟨S64x1024, .f32⟩
  | 71 => ⟨S_, .f32⟩
  | 72 => ⟨S64x1024, .f32⟩
  | 73 => ⟨S_, .f32⟩
  | 74 => ⟨S64x1024, .f32⟩
  | 75 => ⟨S_, .f32⟩
  | 76 => ⟨S64x1024, .f32⟩
  | 77 => ⟨S_, .f32⟩
  | 78 => ⟨S64x1024, .f32⟩
  | 79 => ⟨S_, .f32⟩
  | 80 => ⟨S64x1024, .f32⟩
  | 81 => ⟨S_, .f32⟩
  | 82 => ⟨S64x1024, .f32⟩
  | 83 => ⟨S1024x1024, .f32⟩
  | 84 => ⟨S1024x1024, .bf16⟩
  | 85 => ⟨S1x1024, .f32⟩
  | 86 => ⟨S1x64x64, .f32⟩
  | 87 => ⟨S64x64, .f32⟩
  | 88 => ⟨S1x64x64, .f32⟩
  | 89 => ⟨S64x64, .f32⟩
  | 90 => ⟨S1x64x64, .f32⟩
  | 91 => ⟨S64x64, .f32⟩
  | 92 => ⟨S1x64x64, .f32⟩
  | 93 => ⟨S64x64, .f32⟩
  | 94 => ⟨S1x64x64, .f32⟩
  | 95 => ⟨S64x64, .f32⟩
  | 96 => ⟨S1x64x64, .f32⟩
  | 97 => ⟨S64x64, .f32⟩
  | 98 => ⟨S1x64x64, .f32⟩
  | 99 => ⟨S64x64, .f32⟩
  | 100 => ⟨S1x64x64, .f32⟩
  | 101 => ⟨S64x64, .f32⟩
  | 102 => ⟨S1x64x64, .f32⟩
  | 103 => ⟨S64x64, .f32⟩
  | 104 => ⟨S1x64x64, .f32⟩
  | 105 => ⟨S64x64, .f32⟩
  | 106 => ⟨S1x64x64, .f32⟩
  | 107 => ⟨S64x64, .f32⟩
  | 108 => ⟨S1x64x64, .f32⟩
  | 109 => ⟨S64x64, .f32⟩
  | 110 => ⟨S1x64x64, .f32⟩
  | 111 => ⟨S64x64, .f32⟩
  | 112 => ⟨S1x64x64, .f32⟩
  | 113 => ⟨S64x64, .f32⟩
  | 114 => ⟨S1x64x64, .f32⟩
  | 115 => ⟨S64x64, .f32⟩
  | 116 => ⟨S1x64x64, .f32⟩
  | 117 => ⟨S64x64, .f32⟩
  | 118 => ⟨S_, .f32⟩
  | 119 => ⟨S64x1024, .f32⟩
  | 120 => ⟨S_, .f32⟩
  | 121 => ⟨S64x1024, .f32⟩
  | 122 => ⟨S_, .f32⟩
  | 123 => ⟨S64x1024, .f32⟩
  | 124 => ⟨S_, .f32⟩
  | 125 => ⟨S64x1024, .f32⟩
  | 126 => ⟨S_, .f32⟩
  | 127 => ⟨S64x1024, .f32⟩
  | _ => ⟨S16384x1024, .f32⟩

abbrev hbmTy0_1 (i : Nat) : BufTy := match i % 128 with
  | 0 => ⟨S_, .f32⟩
  | 1 => ⟨S64x1024, .f32⟩
  | 2 => ⟨S_, .f32⟩
  | 3 => ⟨S64x1024, .f32⟩
  | 4 => ⟨S_, .f32⟩
  | 5 => ⟨S64x1024, .f32⟩
  | 6 => ⟨S_, .f32⟩
  | 7 => ⟨S64x1024, .f32⟩
  | 8 => ⟨S_, .f32⟩
  | 9 => ⟨S64x1024, .f32⟩
  | 10 => ⟨S_, .f32⟩
  | 11 => ⟨S64x1024, .f32⟩
  | 12 => ⟨S_, .f32⟩
  | 13 => ⟨S64x1024, .f32⟩
  | 14 => ⟨S_, .f32⟩
  | 15 => ⟨S64x1024, .f32⟩
  | 16 => ⟨S_, .f32⟩
  | 17 => ⟨S64x1024, .f32⟩
  | 18 => ⟨S_, .f32⟩
  | 19 => ⟨S64x1024, .f32⟩
  | 20 => ⟨S_, .f32⟩
  | 21 => ⟨S64x1024, .f32⟩
  | 22 => ⟨S1024x1024, .f32⟩
  | 23 => ⟨S1024x1024, .bf16⟩
  | 24 => ⟨S1x1024, .f32⟩
  | 25 => ⟨S1x1024, .f32⟩
  | 26 => ⟨S512x1024, .bf16⟩
  | 27 => ⟨S1024x1024, .bf16⟩
  | 28 => ⟨S1024x1024, .bf16⟩
  | 29 => ⟨S16384x1024, .f32⟩
  | 30 => ⟨S8x1024, .f32⟩
  | 31 => ⟨S8x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4096, .bf16⟩
  | .local _ .vmem, ⟨4, _⟩ => ⟨S4x1024, .f32⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S512x1024, .bf16⟩
  | .local _ .vmem, ⟨16, _⟩ => ⟨S1024x1024, .bf16⟩
  | .local _ .vmem, ⟨17, _⟩ => ⟨S1024x1024, .bf16⟩
  | .local _ .vmem, ⟨18, _⟩ => ⟨S256x1024, .f32⟩
  | .local _ .vmem, ⟨19, _⟩ => ⟨S256x1024, .f32⟩
  | .local _ .vmem, ⟨20, _⟩ => ⟨S8x1024, .f32⟩
  | .local _ .vmem, ⟨21, _⟩ => ⟨S8x1024, .f32⟩
  | .local _ .vmem, ⟨22, _⟩ => ⟨S264x1024, .f32⟩
  | .local _ .vmem, ⟨23, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_call0_cst : Ref sig .tc := ⟨.hbm, 51, rfl⟩
abbrev main_call0_v16 : Ref sig .tc := ⟨.hbm, 52, rfl⟩
abbrev main_call0_cst_0 : Ref sig .tc := ⟨.hbm, 53, rfl⟩
abbrev main_call0_v17 : Ref sig .tc := ⟨.hbm, 54, rfl⟩
abbrev main_call0_cst_1 : Ref sig .tc := ⟨.hbm, 55, rfl⟩
abbrev main_call0_v18 : Ref sig .tc := ⟨.hbm, 56, rfl⟩
abbrev main_call0_cst_2 : Ref sig .tc := ⟨.hbm, 57, rfl⟩
abbrev main_call0_v19 : Ref sig .tc := ⟨.hbm, 58, rfl⟩
abbrev main_call0_cst_3 : Ref sig .tc := ⟨.hbm, 59, rfl⟩
abbrev main_call0_v20 : Ref sig .tc := ⟨.hbm, 60, rfl⟩
abbrev main_call0_cst_4 : Ref sig .tc := ⟨.hbm, 61, rfl⟩
abbrev main_call0_v21 : Ref sig .tc := ⟨.hbm, 62, rfl⟩
abbrev main_call0_cst_5 : Ref sig .tc := ⟨.hbm, 63, rfl⟩
abbrev main_call0_v22 : Ref sig .tc := ⟨.hbm, 64, rfl⟩
abbrev main_call0_cst_6 : Ref sig .tc := ⟨.hbm, 65, rfl⟩
abbrev main_call0_v23 : Ref sig .tc := ⟨.hbm, 66, rfl⟩
abbrev main_call0_cst_7 : Ref sig .tc := ⟨.hbm, 67, rfl⟩
abbrev main_call0_v24 : Ref sig .tc := ⟨.hbm, 68, rfl⟩
abbrev main_call0_cst_8 : Ref sig .tc := ⟨.hbm, 69, rfl⟩
abbrev main_call0_v25 : Ref sig .tc := ⟨.hbm, 70, rfl⟩
abbrev main_call0_cst_9 : Ref sig .tc := ⟨.hbm, 71, rfl⟩
abbrev main_call0_v26 : Ref sig .tc := ⟨.hbm, 72, rfl⟩
abbrev main_call0_cst_10 : Ref sig .tc := ⟨.hbm, 73, rfl⟩
abbrev main_call0_v27 : Ref sig .tc := ⟨.hbm, 74, rfl⟩
abbrev main_call0_cst_11 : Ref sig .tc := ⟨.hbm, 75, rfl⟩
abbrev main_call0_v28 : Ref sig .tc := ⟨.hbm, 76, rfl⟩
abbrev main_call0_cst_12 : Ref sig .tc := ⟨.hbm, 77, rfl⟩
abbrev main_call0_v29 : Ref sig .tc := ⟨.hbm, 78, rfl⟩
abbrev main_call0_cst_13 : Ref sig .tc := ⟨.hbm, 79, rfl⟩
abbrev main_call0_v30 : Ref sig .tc := ⟨.hbm, 80, rfl⟩
abbrev main_call0_cst_14 : Ref sig .tc := ⟨.hbm, 81, rfl⟩
abbrev main_call0_v31 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_call1_cst : Ref sig .tc := ⟨.hbm, 118, rfl⟩
abbrev main_call1_v16 : Ref sig .tc := ⟨.hbm, 119, rfl⟩
abbrev main_call1_cst_0 : Ref sig .tc := ⟨.hbm, 120, rfl⟩
abbrev main_call1_v17 : Ref sig .tc := ⟨.hbm, 121, rfl⟩
abbrev main_call1_cst_1 : Ref sig .tc := ⟨.hbm, 122, rfl⟩
abbrev main_call1_v18 : Ref sig .tc := ⟨.hbm, 123, rfl⟩
abbrev main_call1_cst_2 : Ref sig .tc := ⟨.hbm, 124, rfl⟩
abbrev main_call1_v19 : Ref sig .tc := ⟨.hbm, 125, rfl⟩
abbrev main_call1_cst_3 : Ref sig .tc := ⟨.hbm, 126, rfl⟩
abbrev main_call1_v20 : Ref sig .tc := ⟨.hbm, 127, rfl⟩
abbrev main_call1_cst_4 : Ref sig .tc := ⟨.hbm, 128, rfl⟩
abbrev main_call1_v21 : Ref sig .tc := ⟨.hbm, 129, rfl⟩
abbrev main_call1_cst_5 : Ref sig .tc := ⟨.hbm, 130, rfl⟩
abbrev main_call1_v22 : Ref sig .tc := ⟨.hbm, 131, rfl⟩
abbrev main_call1_cst_6 : Ref sig .tc := ⟨.hbm, 132, rfl⟩
abbrev main_call1_v23 : Ref sig .tc := ⟨.hbm, 133, rfl⟩
abbrev main_call1_cst_7 : Ref sig .tc := ⟨.hbm, 134, rfl⟩
abbrev main_call1_v24 : Ref sig .tc := ⟨.hbm, 135, rfl⟩
abbrev main_call1_cst_8 : Ref sig .tc := ⟨.hbm, 136, rfl⟩
abbrev main_call1_v25 : Ref sig .tc := ⟨.hbm, 137, rfl⟩
abbrev main_call1_cst_9 : Ref sig .tc := ⟨.hbm, 138, rfl⟩
abbrev main_call1_v26 : Ref sig .tc := ⟨.hbm, 139, rfl⟩
abbrev main_call1_cst_10 : Ref sig .tc := ⟨.hbm, 140, rfl⟩
abbrev main_call1_v27 : Ref sig .tc := ⟨.hbm, 141, rfl⟩
abbrev main_call1_cst_11 : Ref sig .tc := ⟨.hbm, 142, rfl⟩
abbrev main_call1_v28 : Ref sig .tc := ⟨.hbm, 143, rfl⟩
abbrev main_call1_cst_12 : Ref sig .tc := ⟨.hbm, 144, rfl⟩
abbrev main_call1_v29 : Ref sig .tc := ⟨.hbm, 145, rfl⟩
abbrev main_call1_cst_13 : Ref sig .tc := ⟨.hbm, 146, rfl⟩
abbrev main_call1_v30 : Ref sig .tc := ⟨.hbm, 147, rfl⟩
abbrev main_call1_cst_14 : Ref sig .tc := ⟨.hbm, 148, rfl⟩
abbrev main_call1_v31 : Ref sig .tc := ⟨.hbm, 149, rfl⟩
abbrev main_v71 : Ref sig .tc := ⟨.hbm, 150, rfl⟩
abbrev main_v72 : Ref sig .tc := ⟨.hbm, 151, rfl⟩
abbrev main_v73 : Ref sig .tc := ⟨.hbm, 152, rfl⟩
abbrev main_v74 : Ref sig .tc := ⟨.hbm, 153, rfl⟩
abbrev main_v75 : Ref sig .tc := ⟨.hbm, 154, rfl⟩
abbrev main_v76 : Ref sig .tc := ⟨.hbm, 155, rfl⟩
abbrev main_v77 : Ref sig .tc := ⟨.hbm, 156, rfl⟩
abbrev main_v78_0 : Ref sig .tc := ⟨.hbm, 157, rfl⟩
abbrev main_v78_1 : Ref sig .tc := ⟨.hbm, 158, rfl⟩
abbrev main_v78_2 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg17_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem17_0 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceIdeal.lean ====
abbrev S16384x1024 : Shape := ⟨2, ![16384, 1024]⟩
abbrev S16384x512 : Shape := ⟨2, ![16384, 512]⟩
abbrev S1024 : Shape := ⟨1, ![1024]⟩
abbrev S1024x6728 : Shape := ⟨2, ![1024, 6728]⟩
abbrev S4x1024 : Shape := ⟨2, ![4, 1024]⟩
abbrev S16x64x64 : Shape := ⟨3, ![16, 64, 64]⟩
abbrev S512x1024 : Shape := ⟨2, ![512, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x4096 : Shape := ⟨2, ![1024, 4096]⟩
abbrev S16384x4096 : Shape := ⟨2, ![16384, 4096]⟩
abbrev S3x1024 : Shape := ⟨2, ![3, 1024]⟩
abbrev S16387x1024 : Shape := ⟨2, ![16387, 1024]⟩
abbrev S16384x16x64 : Shape := ⟨3, ![16384, 16, 64]⟩
abbrev S16x64x16384 : Shape := ⟨3, ![16, 64, 16384]⟩
abbrev S8x1024 : Shape := ⟨2, ![8, 1024]⟩

abbrev nBuf : Space → Nat
  | .hbm => 224
  | .vmem => 0
  | .smem => 0
  | _ => 0

abbrev hbmTy0_0 (i : Nat) : BufTy := match i % 128 with
  | 0 => ⟨S16384x1024, .f32⟩
  | 1 => ⟨S16384x512, .f32⟩
  | 2 => ⟨S16384x512, .f32⟩
  | 3 => ⟨S1024, .f32⟩
  | 4 => ⟨S1024x6728, .f32⟩
  | 5 => ⟨S4x1024, .f32⟩
  | 6 => ⟨S1024, .f32⟩
  | 7 => ⟨S16x64x64, .f32⟩
  | 8 => ⟨S1024, .f32⟩
  | 9 => ⟨S16x64x64, .f32⟩
  | 10 => ⟨S1024, .f32⟩
  | 11 => ⟨S1024, .f32⟩
  | 12 => ⟨S512x1024, .f32⟩
  | 13 => ⟨S1024x1024, .f32⟩
  | 14 => ⟨S1024x1024, .f32⟩
  | 15 => ⟨S16384x1024, .f32⟩
  | 16 => ⟨S_, .f32⟩
  | 17 => ⟨S16384, .f32⟩
  | 18 => ⟨S16384x1, .f32⟩
  | 19 => ⟨S_, .f32⟩
  | 20 => ⟨S16384x1, .f32⟩
  | 21 => ⟨S16384x1, .f32⟩
  | 22 => ⟨S_, .f32⟩
  | 23 => ⟨S16384x1, .f32⟩
  | 24 => ⟨S16384x1, .f32⟩
  | 25 => ⟨S16384x1, .f32⟩
  | 26 => ⟨S16384x1024, .f32⟩
  | 27 => ⟨S16384x1024, .f32⟩
  | 28 => ⟨S1x1024, .f32⟩
  | 29 => ⟨S16384x1024, .f32⟩
  | 30 => ⟨S16384x1024, .f32⟩
  | 31 => ⟨S1024x4096, .f32⟩
  | 32 => ⟨S16384x4096, .f32⟩
  | 33 => ⟨S16384x1024, .f32⟩
  | 34 => ⟨S16384x1024, .f32⟩
  | 35 => ⟨S16384x1024, .f32⟩
  | 36 => ⟨S16384x1024, .f32⟩
  | 37 => ⟨S_, .f32⟩
  | 38 => ⟨S3x1024, .f32⟩
  | 39 => ⟨S16387x1024, .f32⟩
  | 40 => ⟨S1x1024, .f32⟩
  | 41 => ⟨S1024, .f32⟩
  | 42 => ⟨S16384x1024, .f32⟩
  | 43 => ⟨S1x1024, .f32⟩
  | 44 => ⟨S16384x1024, .f32⟩
  | 45 => ⟨S16384x1024, .f32⟩
  | 46 => ⟨S_, .f32⟩
  | 47 => ⟨S16384x1024, .f32⟩
  | 48 => ⟨S16384x1024, .f32⟩
  | 49 => ⟨S1x1024, .f32⟩
  | 50 => ⟨S1024, .f32⟩
  | 51 => ⟨S16384x1024, .f32⟩
  | 52 => ⟨S1x1024, .f32⟩
  | 53 => ⟨S16384x1024, .f32⟩
  | 54 => ⟨S16384x1024, .f32⟩
  | 55 => ⟨S16384x1024, .f32⟩
  | 56 => ⟨S1x1024, .f32⟩
  | 57 => ⟨S1024, .f32⟩
  | 58 => ⟨S16384x1024, .f32⟩
  | 59 => ⟨S1x1024, .f32⟩
  | 60 => ⟨S16384x1024, .f32⟩
  | 61 => ⟨S16384x1024, .f32⟩
  | 62 => ⟨S16384x1024, .f32⟩
  | 63 => ⟨S1x1024, .f32⟩
  | 64 => ⟨S1024, .f32⟩
  | 65 => ⟨S16384x1024, .f32⟩
  | 66 => ⟨S1x1024, .f32⟩
  | 67 => ⟨S16384x1024, .f32⟩
  | 68 => ⟨S16384x1024, .f32⟩
  | 69 => ⟨S16384x1024, .f32⟩
  | 70 => ⟨S1x1024, .f32⟩
  | 71 => ⟨S16384x1024, .f32⟩
  | 72 => ⟨S16384x1024, .f32⟩
  | 73 => ⟨S16384x16x64, .f32⟩
  | 74 => ⟨S16x64x16384, .f32⟩
  | 75 => ⟨S16384x16x64, .f32⟩
  | 76 => ⟨S16384x1024, .f32⟩
  | 77 => ⟨S1x1024, .f32⟩
  | 78 => ⟨S16384x1024, .f32⟩
  | 79 => ⟨S16384x1024, .f32⟩
  | 80 => ⟨S16384x1024, .f32⟩
  | 81 => ⟨S16384x1024, .f32⟩
  | 82 => ⟨S_, .f32⟩
  | 83 => ⟨S16384x1024, .f32⟩
  | 84 => ⟨S16384x1024, .f32⟩
  | 85 => ⟨S_, .f32⟩
  | 86 => ⟨S16384x1024, .f32⟩
  | 87 => ⟨S16384x1024, .f32⟩
  | 88 => ⟨S16x64x16384, .f32⟩
  | 89 => ⟨S16384x16x64, .f32⟩
  | 90 => ⟨S16384x1024, .f32⟩
  | 91 => ⟨S1x1024, .f32⟩
  | 92 => ⟨S16384x1024, .f32⟩
  | 93 => ⟨S16384x1024, .f32⟩
  | 94 => ⟨S16384x1024, .f32⟩
  | 95 => ⟨S16384x1024, .f32⟩
  | 96 => ⟨S_, .f32⟩
  | 97 => ⟨S16384x1024, .f32⟩
  | 98 => ⟨S16384x1024, .f32⟩
  | 99 => ⟨S_, .f32⟩
  | 100 => ⟨S16384x1024, .f32⟩
  | 101 => ⟨S16384x1024, .f32⟩
  | 102 => ⟨S_, .f32⟩
  | 103 => ⟨S16384x1024, .f32⟩
  | 104 => ⟨S16384x1024, .f32⟩
  | 105 => ⟨S1024, .f32⟩
  | 106 => ⟨S_, .f32⟩
  | 107 => ⟨S1024, .f32⟩
  | 108 => ⟨S1024, .f32⟩
  | 109 => ⟨S1024, .f32⟩
  | 110 => ⟨S1024, .f32⟩
  | 111 => ⟨S1024, .i1⟩
  | 112 => ⟨S1024, .f32⟩
  | 113 => ⟨S1024, .f32⟩
  | 114 => ⟨S1024, .f32⟩
  | 115 => ⟨S1024, .f32⟩
  | 116 => ⟨S1024, .f32⟩
  | 117 => ⟨S1024, .f32⟩
  | 118 => ⟨S1024, .f32⟩
  | 119 => ⟨S1024, .f32⟩
  | 120 => ⟨S1x1024, .f32⟩
  | 121 => ⟨S16384x1024, .f32⟩
  | 122 => ⟨S16384x1024, .f32⟩
  | 123 => ⟨S16384x1024, .f32⟩
  | 124 => ⟨S_, .f32⟩
  | 125 => ⟨S16384x1024, .f32⟩
  | 126 => ⟨S16384x1024, .f32⟩
  | 127 => ⟨S16384x1024, .f32⟩
  | _ => ⟨S16384x1024, .f32⟩

abbrev hbmTy0_1 (i : Nat) : BufTy := match i % 128 with
  | 0 => ⟨S16384x1024, .f32⟩
  | 1 => ⟨S16384x1024, .f32⟩
  | 2 => ⟨S16384x1024, .f32⟩
  | 3 => ⟨S16384x1024, .f32⟩
  | 4 => ⟨S_, .f32⟩
  | 5 => ⟨S1024, .f32⟩
  | 6 => ⟨S_, .f32⟩
  | 7 => ⟨S16384x1024, .f32⟩
  | 8 => ⟨S_, .i32⟩
  | 9 => ⟨S16384x1024, .f32⟩
  | 10 => ⟨S16384x1024, .f32⟩
  | 11 => ⟨S_, .i32⟩
  | 12 => ⟨S1024, .f32⟩
  | 13 => ⟨S16384x1024, .f32⟩
  | 14 => ⟨S_, .i32⟩
  | 15 => ⟨S_, .i1⟩
  | 16 => ⟨S_, .i32⟩
  | 17 => ⟨S1x1024, .f32⟩
  | 18 => ⟨S1024, .f32⟩
  | 19 => ⟨S_, .i32⟩
  | 20 => ⟨S1x1024, .f32⟩
  | 21 => ⟨S1024, .f32⟩
  | 22 => ⟨S1024, .f32⟩
  | 23 => ⟨S1024, .f32⟩
  | 24 => ⟨S1x1024, .f32⟩
  | 25 => ⟨S_, .i32⟩
  | 26 => ⟨S16384x1024, .f32⟩
  | 27 => ⟨S_, .i32⟩
  | 28 => ⟨S_, .i32⟩
  | 29 => ⟨S16384x1024, .f32⟩
  | 30 => ⟨S_, .f32⟩
  | 31 => ⟨S16384, .f32⟩
  | 32 => ⟨S16384x1, .f32⟩
  | 33 => ⟨S_, .f32⟩
  | 34 => ⟨S16384x1, .f32⟩
  | 35 => ⟨S16384x1, .f32⟩
  | 36 => ⟨S_, .f32⟩
  | 37 => ⟨S16384x1, .f32⟩
  | 38 => ⟨S16384x1, .f32⟩
  | 39 => ⟨S16384x1, .f32⟩
  | 40 => ⟨S16384x1024, .f32⟩
  | 41 => ⟨S16384x1024, .f32⟩
  | 42 => ⟨S1x1024, .f32⟩
  | 43 => ⟨S16384x1024, .f32⟩
  | 44 => ⟨S16384x1024, .f32⟩
  | 45 => ⟨S1024x4096, .f32⟩
  | 46 => ⟨S16384x4096, .f32⟩
  | 47 => ⟨S16384x1024, .f32⟩
  | 48 => ⟨S16384x1024, .f32⟩
  | 49 => ⟨S16384x1024, .f32⟩
  | 50 => ⟨S16384x1024, .f32⟩
  | 51 => ⟨S16384x512, .f32⟩
  | 52 => ⟨S16384x512, .f32⟩
  | 53 => ⟨S_, .f32⟩
  | 54 => ⟨S16384x512, .f32⟩
  | 55 => ⟨S16384x512, .f32⟩
  | 56 => ⟨S_, .f32⟩
  | 57 => ⟨S16384x512, .f32⟩
  | 58 => ⟨S16384x512, .f32⟩
  | 59 => ⟨S16384x512, .f32⟩
  | 60 => ⟨S16384x512, .f32⟩
  | 61 => ⟨S16384x1024, .f32⟩
  | 62 => ⟨S16384x1024, .f32⟩
  | 63 => ⟨S16384x1024, .f32⟩
  | 64 => ⟨S_, .f32⟩
  | 65 => ⟨S16384x1024, .f32⟩
  | 66 => ⟨S16384x1024, .f32⟩
  | 67 => ⟨S_, .f32⟩
  | 68 => ⟨S16384x1024, .f32⟩
  | 69 => ⟨S16384x1024, .f32⟩
  | 70 => ⟨S16384x1024, .f32⟩
  | 71 => ⟨S16384x1024, .f32⟩
  | 72 => ⟨S16384x1024, .f32⟩
  | 73 => ⟨S16384x1024, .f32⟩
  | 74 => ⟨S16384x1024, .f32⟩
  | 75 => ⟨S_, .f32⟩
  | 76 => ⟨S16384x1024, .f32⟩
  | 77 => ⟨S16384x1024, .f32⟩
  | 78 => ⟨S_, .f32⟩
  | 79 => ⟨S16384x1024, .f32⟩
  | 80 => ⟨S16384x1024, .f32⟩
  | 81 => ⟨S16384x1024, .f32⟩
  | 82 => ⟨S16384x1024, .f32⟩
  | 83 => ⟨S16384x1024, .f32⟩
  | 84 => ⟨S_, .f32⟩
  | 85 => ⟨S16384x1024, .f32⟩
  | 86 => ⟨S16384x1024, .f32⟩
  | 87 => ⟨S_, .f32⟩
  | 88 => ⟨S16384x1024, .f32⟩
  | 89 => ⟨S16384x1024, .f32⟩
  | 90 => ⟨S16384x1024, .f32⟩
  | 91 => ⟨S16384x1024, .f32⟩
  | 92 => ⟨S16384x1024, .f32⟩
  | 93 => ⟨S16384x1024, .f32⟩
  | 94 => ⟨S8x1024, .f32⟩
  | 95 => ⟨S8x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_4 : Ref sig .tc := ⟨.hbm, 82, rfl⟩
abbrev main_v62 : Ref sig .tc := ⟨.hbm, 83, rfl⟩
abbrev main_v63 : Ref sig .tc := ⟨.hbm, 84, rfl⟩
abbrev main_cst_5 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_6 : Ref sig .tc := ⟨.hbm, 96, rfl⟩
abbrev main_v74 : Ref sig .tc := ⟨.hbm, 97, rfl⟩
abbrev main_v75 : Ref sig .tc := ⟨.hbm, 98, rfl⟩
abbrev main_cst_7 : Ref sig .tc := ⟨.hbm, 99, rfl⟩
abbrev main_v76 : Ref sig .tc := ⟨.hbm, 100, rfl⟩
abbrev main_v77 : Ref sig .tc := ⟨.hbm, 101, rfl⟩
abbrev main_cst_8 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_call0_cst : Ref sig .tc := ⟨.hbm, 106, rfl⟩
abbrev main_call0_v0 : Ref sig .tc := ⟨.hbm, 107, rfl⟩
abbrev main_call0_v1 : Ref sig .tc := ⟨.hbm, 108, rfl⟩
abbrev main_call0_v2 : Ref sig .tc := ⟨.hbm, 109, rfl⟩
abbrev main_call0_v3 : Ref sig .tc := ⟨.hbm, 110, rfl⟩
abbrev main_call0_v4 : Ref sig .tc := ⟨.hbm, 111, rfl⟩
abbrev main_call0_v5 : Ref sig .tc := ⟨.hbm, 112, rfl⟩
abbrev main_call0_v6 : Ref sig .tc := ⟨.hbm, 113, rfl⟩
abbrev main_call0_v7 : Ref sig .tc := ⟨.hbm, 114, rfl⟩
abbrev main_call0_v8 : Ref sig .tc := ⟨.hbm, 115, rfl⟩
abbrev main_call0_v9 : Ref sig .tc := ⟨.hbm, 116, rfl⟩
abbrev main_call0_v10 : Ref sig .tc := ⟨.hbm, 117, rfl⟩
abbrev main_call0_v11 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_9 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_10 : Ref sig .tc := ⟨.hbm, 132, rfl⟩
abbrev main_v93 : Ref sig .tc := ⟨.hbm, 133, rfl⟩
abbrev main_cst_11 : Ref sig .tc := ⟨.hbm, 134, rfl⟩
abbrev main_v94 : Ref sig .tc := ⟨.hbm, 135, rfl⟩
abbrev main_c : Ref sig .tc := ⟨.hbm, 136, rfl⟩
abbrev main_v95_0 : Ref sig .tc := ⟨.hbm, 137, rfl⟩
abbrev main_v95_1 : Ref sig .tc := ⟨.hbm, 138, rfl⟩
abbrev main_v95_2 : Ref sig .tc := ⟨.hbm, 139, rfl⟩
abbrev main_v95_3 : Ref sig .tc := ⟨.hbm, 140, rfl⟩
abbrev main_v95_4 : Ref sig .tc := ⟨.hbm, 141, rfl⟩
abbrev main_while0c_c_23 : Ref sig .tc := ⟨.hbm, 142, rfl⟩
abbrev main_while0c_v140 : Ref sig .tc := ⟨.hbm, 143, rfl⟩
abbrev main_while0b_call1_c : Ref sig .tc := ⟨.hbm, 144, rfl⟩
abbrev main_while0b_call1_v0 : Ref sig .tc := ⟨.hbm, 145, rfl⟩
abbrev main_while0b_v140 : Ref sig .tc := ⟨.hbm, 146, rfl⟩
abbrev main_while0b_call2_c : Ref sig .tc := ⟨.hbm, 147, rfl⟩
abbrev main_while0b_call2_v0 : Ref sig .tc := ⟨.hbm, 148, rfl⟩
abbrev main_while0b_v141 : Ref sig .tc := ⟨.hbm, 149, rfl⟩
abbrev main_while0b_v142 : Ref sig .tc := ⟨.hbm, 150, rfl⟩
abbrev main_while0b_v143 : Ref sig .tc := ⟨.hbm, 151, rfl⟩
abbrev main_while0b_call3_v0 : Ref sig .tc := ⟨.hbm, 152, rfl⟩
abbrev main_while0b_call3_c : Ref sig .tc := ⟨.hbm, 153, rfl⟩
abbrev main_while0b_v144 : Ref sig .tc := ⟨.hbm, 154, rfl⟩
abbrev main_while0b_c_23 : Ref sig .tc := ⟨.hbm, 155, rfl⟩
abbrev main_while0b_v145 : Ref sig .tc := ⟨.hbm, 156, rfl⟩
abbrev main_v96 : Ref sig .tc := ⟨.hbm, 157, rfl⟩
abbrev main_cst_12 : Ref sig .tc := ⟨.hbm, 158, rfl⟩
abbrev main_v97 : Ref sig .tc := ⟨.hbm, 159, rfl⟩
abbrev main_v98 : Ref sig .tc := ⟨.hbm, 160, rfl⟩
abbrev main_cst_13 : Ref sig .tc := ⟨.hbm, 161, rfl⟩
abbrev main_v99 : Ref sig .tc := ⟨.hbm, 162, rfl⟩
abbrev main_v100 : Ref sig .tc := ⟨.hbm, 163, rfl⟩
abbrev main_cst_14 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_call4_v0 : Ref sig .tc := ⟨.hbm, 179, rfl⟩
abbrev main_call4_v1 : Ref sig .tc := ⟨.hbm, 180, rfl⟩
abbrev main_call4_cst : Ref sig .tc := ⟨.hbm, 181, rfl⟩
abbrev main_call4_v2 : Ref sig .tc := ⟨.hbm, 182, rfl⟩
abbrev main_call4_v3 : Ref sig .tc := ⟨.hbm, 183, rfl⟩
abbrev main_call4_cst_0 : Ref sig .tc := ⟨.hbm, 184, rfl⟩
abbrev main_call4_v4 : Ref sig .tc := ⟨.hbm, 185, rfl⟩
abbrev main_call4_v5 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_call5_v0 : Ref sig .tc := ⟨.hbm, 190, rfl⟩
abbrev main_call5_v1 : Ref sig .tc := ⟨.hbm, 191, rfl⟩
abbrev main_call5_cst : Ref sig .tc := ⟨.hbm, 192, rfl⟩
abbrev main_call5_v2 : Ref sig .tc := ⟨.hbm, 193, rfl⟩
abbrev main_call5_v3 : Ref sig .tc := ⟨.hbm, 194, rfl⟩
abbrev main_call5_cst_0 : Ref sig .tc := ⟨.hbm, 195, rfl⟩
abbrev main_call5_v4 : Ref sig .tc := ⟨.hbm, 196, rfl⟩
abbrev main_call5_v5 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_cst_15 : Ref sig .tc := ⟨.hbm, 203, rfl⟩
abbrev main_v123 : Ref sig .tc := ⟨.hbm, 204, rfl⟩
abbrev main_v124 : Ref sig .tc := ⟨.hbm, 205, rfl⟩
abbrev main_cst_16 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_cst_17 : Ref sig .tc := ⟨.hbm, 212, rfl⟩
abbrev main_v130 : Ref sig .tc := ⟨.hbm, 213, rfl⟩
abbrev main_v131 : Ref sig .tc := ⟨.hbm, 214, rfl⟩
abbrev main_cst_18 : Ref sig .tc := ⟨.hbm, 215, rfl⟩
abbrev main_v132 : Ref sig .tc := ⟨.hbm, 216, rfl⟩
abbrev main_v133 : Ref sig .tc := ⟨.hbm, 217, rfl⟩
abbrev main_v134 : Ref sig .tc := ⟨.hbm, 218, rfl⟩
abbrev main_v135 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_v139 : Ref sig .tc := ⟨.hbm, 223, rfl⟩

abbrev nD : Nat := 1
abbrev τ : Topo := Topo.v7x

variable {F : FTy → Type} [FloatOps F]

abbrev main_while0_count : Scf.Loop 32 := ⟨0#32, 16384#32, 1#32⟩
-- ==== Kernel2.lean ====
abbrev S16384x1024 : Shape := ⟨2, ![16384, 1024]⟩
abbrev S1024 : Shape := ⟨1, ![1024]⟩
abbrev S1024x6728 : Shape := ⟨2, ![1024, 6728]⟩
abbrev S1024x1536 : Shape := ⟨2, ![1024, 1536]⟩
abbrev S1024x584 : Shape := ⟨2, ![1024, 584]⟩
abbrev S1024x2120 : Shape := ⟨2, ![1024, 2120]⟩
abbrev S2120x1024 : Shape := ⟨2, ![2120, 1024]⟩
abbrev S_ : Shape := ⟨0, ![]⟩
abbrev S2128x1024 : Shape := ⟨2, ![2128, 1024]⟩
abbrev S1x1024 : Shape := ⟨2, ![1, 1024]⟩
abbrev S1024x512 : Shape := ⟨2, ![1024, 512]⟩
abbrev S1024x64 : Shape := ⟨2, ![1024, 64]⟩
abbrev S512x16384 : Shape := ⟨2, ![512, 16384]⟩
abbrev S64x16384 : Shape := ⟨2, ![64, 16384]⟩
abbrev S8x16384 : Shape := ⟨2, ![8, 16384]⟩
abbrev S16384x512 : Shape := ⟨2, ![16384, 512]⟩
abbrev S16384x64 : Shape := ⟨2, ![16384, 64]⟩
abbrev S256x1024 : Shape := ⟨2, ![256, 1024]⟩
abbrev S512x256 : Shape := ⟨2, ![512, 256]⟩
abbrev S64x256 : Shape := ⟨2, ![64, 256]⟩
abbrev S8x256 : Shape := ⟨2, ![8, 256]⟩
abbrev S256x512 : Shape := ⟨2, ![256, 512]⟩
abbrev S256x64 : Shape := ⟨2, ![256, 64]⟩
abbrev S256 : Shape := ⟨1, ![256]⟩
abbrev S256x1 : Shape := ⟨2, ![256, 1]⟩
abbrev S2128x256 : Shape := ⟨2, ![2128, 256]⟩

abbrev nBuf : Space → Nat
  | .hbm => 29
  | .vmem => 29
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x6728, .f32⟩
  | .hbm, ⟨3, _⟩ => ⟨S1024x1536, .f32⟩
  | .hbm, ⟨4, _⟩ => ⟨S1024x584, .f32⟩
  | .hbm, ⟨5, _⟩ => ⟨S1024x2120, .f32⟩
  | .hbm, ⟨6, _⟩ => ⟨S2120x1024, .f32⟩
  | .hbm, ⟨7, _⟩ => ⟨S_, .i32⟩
  | .hbm, ⟨8, _⟩ => ⟨S_, .f32⟩
  | .hbm, ⟨9, _⟩ => ⟨S2128x1024, .f32⟩
  | .hbm, ⟨10, _⟩ => ⟨S1x1024, .f32⟩
  | .hbm, ⟨11, _⟩ => ⟨S2128x1024, .bf16⟩
  | .hbm, ⟨12, _⟩ => ⟨S1024x512, .f32⟩
  | .hbm, ⟨13, _⟩ => ⟨S1024x512, .bf16⟩
  | .hbm, ⟨14, _⟩ => ⟨S1024x512, .f32⟩
  | .hbm, ⟨15, _⟩ => ⟨S1024x512, .bf16⟩
  | .hbm, ⟨16, _⟩ => ⟨S1024x64, .f32⟩
  | .hbm, ⟨17, _⟩ => ⟨S1024x64, .bf16⟩
  | .hbm, ⟨18, _⟩ => ⟨S512x16384, .bf16⟩
  | .hbm, ⟨19, _⟩ => ⟨S512x16384, .f32⟩
  | .hbm, ⟨20, _⟩ => ⟨S512x16384, .f32⟩
  | .hbm, ⟨21, _⟩ => ⟨S512x16384, .bf16⟩
  | .hbm, ⟨22, _⟩ => ⟨S64x16384, .f32⟩
  | .hbm, ⟨23, _⟩ => ⟨S8x16384, .f32⟩
  | .hbm, ⟨24, _⟩ => ⟨S512x16384, .bf16⟩
  | .hbm, ⟨25, _⟩ => ⟨S512x16384, .bf16⟩
  | .hbm, ⟨26, _⟩ => ⟨S16384x512, .bf16⟩
  | .hbm, ⟨27, _⟩ => ⟨S16384x64, .bf16⟩
  | .hbm, ⟨28, _⟩ => ⟨S16384x512, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2128x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x64, .bf16⟩
  | .local _ .vmem, ⟨7, _⟩ => ⟨S512x256, .bf16⟩
  | .local _ .vmem, ⟨8, _⟩ => ⟨S512x256, .bf16⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .bf16⟩
  | .local _ .vmem, ⟨14, _⟩ => ⟨S512x256, .bf16⟩
  | .local _ .vmem, ⟨15, _⟩ => ⟨S64x256, .f32⟩
  | .local _ .vmem, ⟨16, _⟩ => ⟨S64x256, .f32⟩
  | .local _ .vmem, ⟨17, _⟩ => ⟨S8x256, .f32⟩
  | .local _ .vmem, ⟨18, _⟩ => ⟨S8x256, .f32⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S512x256, .bf16⟩
  | .local _ .vmem, ⟨23, _⟩ => ⟨S256x512, .bf16⟩
  | .local _ .vmem, ⟨24, _⟩ => ⟨S256x512, .bf16⟩
  | .local _ .vmem, ⟨25, _⟩ => ⟨S256x64, .bf16⟩
  | .local _ .vmem, ⟨26, _⟩ => ⟨S256x64, .bf16⟩
  | .local _ .vmem, ⟨27, _⟩ => ⟨S256x512, .f32⟩
  | .local _ .vmem, ⟨28, _⟩ => ⟨S256x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v13_2 : Ref sig .tc := ⟨.hbm, 20, rfl⟩
abbrev main_v13_3 : Ref sig .tc := ⟨.hbm, 21, rfl⟩
abbrev main_v13_4 : Ref sig .tc := ⟨.hbm, 22, rfl⟩
abbrev main_v13_5 : Ref sig .tc := ⟨.hbm, 23, rfl⟩
abbrev main_v13_6 : Ref sig .tc := ⟨.hbm, 24, rfl⟩
abbrev main_v13_7 : Ref sig .tc := ⟨.hbm, 25, rfl⟩
abbrev main_v13_8 : Ref sig .tc := ⟨.hbm, 26, rfl⟩
abbrev main_v13_9 : Ref sig .tc := ⟨.hbm, 27, rfl⟩
abbrev main_v13_10 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x64 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Kernel2Ideal.lean ====
variable {F : FTy → Type} [FloatOps F] [Named F]
def κ : String → Option EReal := fun
  | "q_scale" => some (((8 * (Real.log 2))⁻¹ : ℝ) : EReal)
  | _ => none
-- ==== Reference2Ideal.lean ====
abbrev S16384x1024 : Shape := ⟨2, ![16384, 1024]⟩
abbrev S1024 : Shape := ⟨1, ![1024]⟩
abbrev S1024x6728 : Shape := ⟨2, ![1024, 6728]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x6728 : Shape := ⟨2, ![16384, 6728]⟩
abbrev S16384x512 : Shape := ⟨2, ![16384, 512]⟩
abbrev S16384x64 : Shape := ⟨2, ![16384, 64]⟩
abbrev S16384x8 : Shape := ⟨2, ![16384, 8]⟩
abbrev S512x16384 : Shape := ⟨2, ![512, 16384]⟩
abbrev S64x16384 : Shape := ⟨2, ![64, 16384]⟩
abbrev S8x16384 : Shape := ⟨2, ![8, 16384]⟩

abbrev nBuf : Space → Nat
  | .hbm => 47
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x6728, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x6728, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x64, .f32⟩
  | .hbm, ⟨26, _⟩ => ⟨S16384x8, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S16384x512, .f32⟩
  | .hbm, ⟨32, _⟩ => ⟨S16384x512, .f32⟩
  | .hbm, ⟨33, _⟩ => ⟨S512x16384, .f32⟩
  | .hbm, ⟨34, _⟩ => ⟨S512x16384, .bf16⟩
  | .hbm, ⟨35, _⟩ => ⟨S512x16384, .f32⟩
  | .hbm, ⟨36, _⟩ => ⟨S512x16384, .f32⟩
  | .hbm, ⟨37, _⟩ => ⟨S512x16384, .f32⟩
  | .hbm, ⟨38, _⟩ => ⟨S512x16384, .bf16⟩
  | .hbm, ⟨39, _⟩ => ⟨S64x16384, .f32⟩
  | .hbm, ⟨40, _⟩ => ⟨S8x16384, .f32⟩
  | .hbm, ⟨41, _⟩ => ⟨S512x16384, .f32⟩
  | .hbm, ⟨42, _⟩ => ⟨S512x16384, .bf16⟩
  | .hbm, ⟨43, _⟩ => ⟨S512x16384, .f32⟩
  | .hbm, ⟨44, _⟩ => ⟨S512x16384, .bf16⟩
  | .hbm, ⟨45, _⟩ => ⟨S16384x512, .bf16⟩
  | .hbm, ⟨46, _⟩ => ⟨S16384x64, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩

abbrev nD : Nat := 1
abbrev τ : Topo := Topo.v7x

variable {F : FTy → Type} [FloatOps F]
-- ==== Kernel3.lean ====
abbrev S32x1024 : Shape := ⟨2, ![32, 1024]⟩
abbrev S32x3x1024 : Shape := ⟨3, ![32, 3, 1024]⟩
abbrev S32x512 : Shape := ⟨2, ![32, 512]⟩
abbrev S1024 : Shape := ⟨1, ![1024]⟩
abbrev S1024x6728 : Shape := ⟨2, ![1024, 6728]⟩
abbrev S4x1024 : Shape := ⟨2, ![4, 1024]⟩
abbrev S16x64x64 : Shape := ⟨3, ![16, 64, 64]⟩
abbrev S512x1024 : Shape := ⟨2, ![512, 1024]⟩
abbrev S1024x1024 : Shape := ⟨2, ![1024, 1024]⟩
abbrev S1x1024 : Shape := ⟨2, ![1, 1024]⟩
abbrev S1024x4096 : Shape := ⟨2, ![1024, 4096]⟩
abbrev S1x64x64 : Shape := ⟨3, ![1, 64, 64]⟩
abbrev S64x64 : Shape := ⟨2, ![64, 64]⟩
abbrev S_ : Shape := ⟨0, ![]⟩
abbrev S64x1024 : Shape := ⟨2, ![64, 1024]⟩
abbrev S32x1x1024 : Shape := ⟨3, ![32, 1, 1024]⟩
abbrev S32 : Shape := ⟨1, ![32]⟩
abbrev S32x1 : Shape := ⟨2, ![32, 1]⟩
abbrev S32x4096 : Shape := ⟨2, ![32, 4096]⟩

abbrev nBuf : Space → Nat
  | .hbm => 168
  | .vmem => 22
  | .smem => 0
  | _ => 0

abbrev hbmTy0_0 (i : Nat) : BufTy := match i % 128 with
  | 0 => ⟨S32x1024, .f32⟩
  | 1 => ⟨S32x3x1024, .f32⟩
  | 2 => ⟨S32x1024, .f32⟩
  | 3 => ⟨S32x512, .f32⟩
  | 4 => ⟨S32x512, .f32⟩
  | 5 => ⟨S1024, .f32⟩
  | 6 => ⟨S1024x6728, .f32⟩
  | 7 => ⟨S4x1024, .f32⟩
  | 8 => ⟨S1024, .f32⟩
  | 9 => ⟨S16x64x64, .f32⟩
  | 10 => ⟨S1024, .f32⟩
  | 11 => ⟨S16x64x64, .f32⟩
  | 12 => ⟨S1024, .f32⟩
  | 13 => ⟨S1024, .f32⟩
  | 14 => ⟨S512x1024, .f32⟩
  | 15 => ⟨S1024x1024, .f32⟩
  | 16 => ⟨S1024x1024, .f32⟩
  | 17 => ⟨S1x1024, .f32⟩
  | 18 => ⟨S1024x4096, .f32⟩
  | 19 => ⟨S1024x4096, .bf16⟩
  | 20 => ⟨S1x1024, .f32⟩
  | 21 => ⟨S1x64x64, .f32⟩
  | 22 => ⟨S64x64, .f32⟩
  | 23 => ⟨S1x64x64, .f32⟩
  | 24 => ⟨S64x64, .f32⟩
  | 25 => ⟨S1x64x64, .f32⟩
  | 26 => ⟨S64x64, .f32⟩
  | 27 => ⟨S1x64x64, .f32⟩
  | 28 => ⟨S64x64, .f32⟩
  | 29 => ⟨S1x64x64, .f32⟩
  | 30 => ⟨S64x64, .f32⟩
  | 31 => ⟨S1x64x64, .f32⟩
  | 32 => ⟨S64x64, .f32⟩
  | 33 => ⟨S1x64x64, .f32⟩
  | 34 => ⟨S64x64, .f32⟩
  | 35 => ⟨S1x64x64, .f32⟩
  | 36 => ⟨S64x64, .f32⟩
  | 37 => ⟨S1x64x64, .f32⟩
  | 38 => ⟨S64x64, .f32⟩
  | 39 => ⟨S1x64x64, .f32⟩
  | 40 => ⟨S64x64, .f32⟩
  | 41 => ⟨S1x64x64, .f32⟩
  | 42 => ⟨S64x64, .f32⟩
  | 43 => ⟨S1x64x64, .f32⟩
  | 44 => ⟨S64x64, .f32⟩
  | 45 => ⟨S1x64x64, .f32⟩
  | 46 => ⟨S64x64, .f32⟩
  | 47 => ⟨S1x64x64, .f32⟩
  | 48 => ⟨S64x64, .f32⟩
  | 49 => ⟨S1x64x64, .f32⟩
  | 50 => ⟨S64x64, .f32⟩
  | 51 => ⟨S1x64x64, .f32⟩
  | 52 => ⟨S64x64, .f32⟩
  | 53 => ⟨S_, .f32⟩
  | 54 => ⟨S64x1024, .f32⟩
  | 55 => ⟨S_, .f32⟩
  | 56 => ⟨S64x1024, .f32⟩
  | 57 => ⟨S_, .f32⟩
  | 58 => ⟨S64x1024, .f32⟩
  | 59 => ⟨S_, .f32⟩
  | 60 => ⟨S64x1024, .f32⟩
  | 61 => ⟨S_, .f32⟩
  | 62 => ⟨S64x1024, .f32⟩
  | 63 => ⟨S_, .f32⟩
  | 64 => ⟨S64x1024, .f32⟩
  | 65 => ⟨S_, .f32⟩
  | 66 => ⟨S64x1024, .f32⟩
  | 67 => ⟨S_, .f32⟩
  | 68 => ⟨S64x1024, .f32⟩
  | 69 => ⟨S_, .f32⟩
  | 70 => ⟨S64x1024, .f32⟩
  | 71 => ⟨S_, .f32⟩
  | 72 => ⟨S64x1024, .f32⟩
  | 73 => ⟨S_, .f32⟩
  | 74 => ⟨S64x1024, .f32⟩
  | 75 => ⟨S_, .f32⟩
  | 76 => ⟨S64x1024, .f32⟩
  | 77 => ⟨S_, .f32⟩
  | 78 => ⟨S64x1024, .f32⟩
  | 79 => ⟨S_, .f32⟩
  | 80 => ⟨S64x1024, .f32⟩
  | 81 => ⟨S_, .f32⟩
  | 82 => ⟨S64x1024, .f32⟩
  | 83 => ⟨S_, .f32⟩
  | 84 => ⟨S64x1024, .f32⟩
  | 85 => ⟨S1024x1024, .f32⟩
  | 86 => ⟨S1024x1024, .bf16⟩
  | 87 => ⟨S1x1024, .f32⟩
  | 88 => ⟨S1x64x64, .f32⟩
  | 89 => ⟨S64x64, .f32⟩
  | 90 => ⟨S1x64x64, .f32⟩
  | 91 => ⟨S64x64, .f32⟩
  | 92 => ⟨S1x64x64, .f32⟩
  | 93 => ⟨S64x64, .f32⟩
  | 94 => ⟨S1x64x64, .f32⟩
  | 95 => ⟨S64x64, .f32⟩
  | 96 => ⟨S1x64x64, .f32⟩
  | 97 => ⟨S64x64, .f32⟩
  | 98 => ⟨S1x64x64, .f32⟩
  | 99 => ⟨S64x64, .f32⟩
  | 100 => ⟨S1x64x64, .f32⟩
  | 101 => ⟨S64x64, .f32⟩
  | 102 => ⟨S1x64x64, .f32⟩
  | 103 => ⟨S64x64, .f32⟩
  | 104 => ⟨S1x64x64, .f32⟩
  | 105 => ⟨S64x64, .f32⟩
  | 106 => ⟨S1x64x64, .f32⟩
  | 107 => ⟨S64x64, .f32⟩
  | 108 => ⟨S1x64x64, .f32⟩
  | 109 => ⟨S64x64, .f32⟩
  | 110 => ⟨S1x64x64, .f32⟩
  | 111 => ⟨S64x64, .f32⟩
  | 112 => ⟨S1x64x64, .f32⟩
  | 113 => ⟨S64x64, .f32⟩
  | 114 => ⟨S1x64x64, .f32⟩
  | 115 => ⟨S64x64, .f32⟩
  | 116 => ⟨S1x64x64, .f32⟩
  | 117 => ⟨S64x64, .f32⟩
  | 118 => ⟨S1x64x64, .f32⟩
  | 119 => ⟨S64x64, .f32⟩
  | 120 => ⟨S_, .f32⟩
  | 121 => ⟨S64x1024, .f32⟩
  | 122 => ⟨S_, .f32⟩
  | 123 => ⟨S64x1024, .f32⟩
  | 124 => ⟨S_, .f32⟩
  | 125 => ⟨S64x1024, .f32⟩
  | 126 => ⟨S_, .f32⟩
  | 127 => ⟨S64x1024, .f32⟩
  | _ => ⟨S32x1024, .f32⟩

abbrev hbmTy0_1 (i : Nat) : BufTy := match i % 128 with
  | 0 => ⟨S_, .f32⟩
  | 1 => ⟨S64x1024, .f32⟩
  | 2 => ⟨S_, .f32⟩
  | 3 => ⟨S64x1024, .f32⟩
  | 4 => ⟨S_, .f32⟩
  | 5 => ⟨S64x1024, .f32⟩
  | 6 => ⟨S_, .f32⟩
  | 7 => ⟨S64x1024, .f32⟩
  | 8 => ⟨S_, .f32⟩
  | 9 => ⟨S64x1024, .f32⟩
  | 10 => ⟨S_, .f32⟩
  | 11 => ⟨S64x1024, .f32⟩
  | 12 => ⟨S_, .f32⟩
  | 13 => ⟨S64x1024, .f32⟩
  | 14 => ⟨S_, .f32⟩
  | 15 => ⟨S64x1024, .f32⟩
  | 16 => ⟨S_, .f32⟩
  | 17 => ⟨S64x1024, .f32⟩
  | 18 => ⟨S_, .f32⟩
  | 19 => ⟨S64x1024, .f32⟩
  | 20 => ⟨S_, .f32⟩
  | 21 => ⟨S64x1024, .f32⟩
  | 22 => ⟨S_, .f32⟩
  | 23 => ⟨S64x1024, .f32⟩
  | 24 => ⟨S1024x1024, .f32⟩
  | 25 => ⟨S1024x1024, .bf16⟩
  | 26 => ⟨S1x1024, .f32⟩
  | 27 => ⟨S1x1024, .f32⟩
  | 28 => ⟨S512x1024, .bf16⟩
  | 29 => ⟨S1024x1024, .bf16⟩
  | 30 => ⟨S1024x1024, .bf16⟩
  | 31 => ⟨S32x1x1024, .f32⟩
  | 32 => ⟨S32x1024, .f32⟩
  | 33 => ⟨S32x1x1024, .f32⟩
  | 34 => ⟨S32x1024, .f32⟩
  | 35 => ⟨S32x1x1024, .f32⟩
  | 36 => ⟨S32x1024, .f32⟩
  | 37 => ⟨S32x1024, .f32⟩
  | 38 => ⟨S32x1024, .f32⟩
  | 39 => ⟨S32x1024, .f32⟩
  | _ => ⟨S32x1024, .f32⟩

abbrev hbmTy (i : Nat) : BufTy := match i / 128 with
  | 0 => hbmTy0_0 i
  | 1 => hbmTy0_1 i
  | _ => ⟨S32x1024, .f32⟩

abbrev bufTy : (tb : Table) → Fin (tcTables nBuf tb) → BufTy
  | .hbm, ⟨i, _⟩ => hbmTy i
  | .local _ .vmem, ⟨0, _⟩ => ⟨S32x1024, .f32⟩
  | .local _ .vmem, ⟨1, _⟩ => ⟨S1x1024, .f32⟩
  | .local _ .vmem, ⟨2, _⟩ => ⟨S1024x4096, .bf16⟩
  | .local _ .vmem, ⟨3, _⟩ => ⟨S4x1024, .f32⟩
  | .local _ .vmem, ⟨4, _⟩ => ⟨S1x1024, .f32⟩
  | .local _ .vmem, ⟨5, _⟩ => ⟨S1024x1024, .bf16⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x512, .f32⟩
  | .local _ .vmem, ⟨15, _⟩ => ⟨S32x512, .f32⟩
  | .local _ .vmem, ⟨16, _⟩ => ⟨S512x1024, .bf16⟩
  | .local _ .vmem, ⟨17, _⟩ => ⟨S1024x1024, .bf16⟩
  | .local _ .vmem, ⟨18, _⟩ => ⟨S1024x1024, .bf16⟩
  | .local _ .vmem, ⟨19, _⟩ => ⟨S32x1024, .f32⟩
  | .local _ .vmem, ⟨20, _⟩ => ⟨S32x1024, .f32⟩
  | .local _ .vmem, ⟨21, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call0_cst : Ref sig .tc := ⟨.hbm, 53, rfl⟩
abbrev main_call0_v16 : Ref sig .tc := ⟨.hbm, 54, rfl⟩
abbrev main_call0_cst_0 : Ref sig .tc := ⟨.hbm, 55, rfl⟩
abbrev main_call0_v17 : Ref sig .tc := ⟨.hbm, 56, rfl⟩
abbrev main_call0_cst_1 : Ref sig .tc := ⟨.hbm, 57, rfl⟩
abbrev main_call0_v18 : Ref sig .tc := ⟨.hbm, 58, rfl⟩
abbrev main_call0_cst_2 : Ref sig .tc := ⟨.hbm, 59, rfl⟩
abbrev main_call0_v19 : Ref sig .tc := ⟨.hbm, 60, rfl⟩
abbrev main_call0_cst_3 : Ref sig .tc := ⟨.hbm, 61, rfl⟩
abbrev main_call0_v20 : Ref sig .tc := ⟨.hbm, 62, rfl⟩
abbrev main_call0_cst_4 : Ref sig .tc := ⟨.hbm, 63, rfl⟩
abbrev main_call0_v21 : Ref sig .tc := ⟨.hbm, 64, rfl⟩
abbrev main_call0_cst_5 : Ref sig .tc := ⟨.hbm, 65, rfl⟩
abbrev main_call0_v22 : Ref sig .tc := ⟨.hbm, 66, rfl⟩
abbrev main_call0_cst_6 : Ref sig .tc := ⟨.hbm, 67, rfl⟩
abbrev main_call0_v23 : Ref sig .tc := ⟨.hbm, 68, rfl⟩
abbrev main_call0_cst_7 : Ref sig .tc := ⟨.hbm, 69, rfl⟩
abbrev main_call0_v24 : Ref sig .tc := ⟨.hbm, 70, rfl⟩
abbrev main_call0_cst_8 : Ref sig .tc := ⟨.hbm, 71, rfl⟩
abbrev main_call0_v25 : Ref sig .tc := ⟨.hbm, 72, rfl⟩
abbrev main_call0_cst_9 : Ref sig .tc := ⟨.hbm, 73, rfl⟩
abbrev main_call0_v26 : Ref sig .tc := ⟨.hbm, 74, rfl⟩
abbrev main_call0_cst_10 : Ref sig .tc := ⟨.hbm, 75, rfl⟩
abbrev main_call0_v27 : Ref sig .tc := ⟨.hbm, 76, rfl⟩
abbrev main_call0_cst_11 : Ref sig .tc := ⟨.hbm, 77, rfl⟩
abbrev main_call0_v28 : Ref sig .tc := ⟨.hbm, 78, rfl⟩
abbrev main_call0_cst_12 : Ref sig .tc := ⟨.hbm, 79, rfl⟩
abbrev main_call0_v29 : Ref sig .tc := ⟨.hbm, 80, rfl⟩
abbrev main_call0_cst_13 : Ref sig .tc := ⟨.hbm, 81, rfl⟩
abbrev main_call0_v30 : Ref sig .tc := ⟨.hbm, 82, rfl⟩
abbrev main_call0_cst_14 : Ref sig .tc := ⟨.hbm, 83, rfl⟩
abbrev main_call0_v31 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_call1_cst : Ref sig .tc := ⟨.hbm, 120, rfl⟩
abbrev main_call1_v16 : Ref sig .tc := ⟨.hbm, 121, rfl⟩
abbrev main_call1_cst_0 : Ref sig .tc := ⟨.hbm, 122, rfl⟩
abbrev main_call1_v17 : Ref sig .tc := ⟨.hbm, 123, rfl⟩
abbrev main_call1_cst_1 : Ref sig .tc := ⟨.hbm, 124, rfl⟩
abbrev main_call1_v18 : Ref sig .tc := ⟨.hbm, 125, rfl⟩
abbrev main_call1_cst_2 : Ref sig .tc := ⟨.hbm, 126, rfl⟩
abbrev main_call1_v19 : Ref sig .tc := ⟨.hbm, 127, rfl⟩
abbrev main_call1_cst_3 : Ref sig .tc := ⟨.hbm, 128, rfl⟩
abbrev main_call1_v20 : Ref sig .tc := ⟨.hbm, 129, rfl⟩
abbrev main_call1_cst_4 : Ref sig .tc := ⟨.hbm, 130, rfl⟩
abbrev main_call1_v21 : Ref sig .tc := ⟨.hbm, 131, rfl⟩
abbrev main_call1_cst_5 : Ref sig .tc := ⟨.hbm, 132, rfl⟩
abbrev main_call1_v22 : Ref sig .tc := ⟨.hbm, 133, rfl⟩
abbrev main_call1_cst_6 : Ref sig .tc := ⟨.hbm, 134, rfl⟩
abbrev main_call1_v23 : Ref sig .tc := ⟨.hbm, 135, rfl⟩
abbrev main_call1_cst_7 : Ref sig .tc := ⟨.hbm, 136, rfl⟩
abbrev main_call1_v24 : Ref sig .tc := ⟨.hbm, 137, rfl⟩
abbrev main_call1_cst_8 : Ref sig .tc := ⟨.hbm, 138, rfl⟩
abbrev main_call1_v25 : Ref sig .tc := ⟨.hbm, 139, rfl⟩
abbrev main_call1_cst_9 : Ref sig .tc := ⟨.hbm, 140, rfl⟩
abbrev main_call1_v26 : Ref sig .tc := ⟨.hbm, 141, rfl⟩
abbrev main_call1_cst_10 : Ref sig .tc := ⟨.hbm, 142, rfl⟩
abbrev main_call1_v27 : Ref sig .tc := ⟨.hbm, 143, rfl⟩
abbrev main_call1_cst_11 : Ref sig .tc := ⟨.hbm, 144, rfl⟩
abbrev main_call1_v28 : Ref sig .tc := ⟨.hbm, 145, rfl⟩
abbrev main_call1_cst_12 : Ref sig .tc := ⟨.hbm, 146, rfl⟩
abbrev main_call1_v29 : Ref sig .tc := ⟨.hbm, 147, rfl⟩
abbrev main_call1_cst_13 : Ref sig .tc := ⟨.hbm, 148, rfl⟩
abbrev main_call1_v30 : Ref sig .tc := ⟨.hbm, 149, rfl⟩
abbrev main_call1_cst_14 : Ref sig .tc := ⟨.hbm, 150, rfl⟩
abbrev main_call1_v31 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_v84_0 : Ref sig .tc := ⟨.hbm, 165, rfl⟩
abbrev main_v84_1 : Ref sig .tc := ⟨.hbm, 166, rfl⟩
abbrev main_v84_2 : Ref sig .tc := ⟨.hbm, 167, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S32x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S32x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S32x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S32x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== Reference3Ideal.lean ====
abbrev S32x1024 : Shape := ⟨2, ![32, 1024]⟩
abbrev S32x3x1024 : Shape := ⟨3, ![32, 3, 1024]⟩
abbrev S32x512 : Shape := ⟨2, ![32, 512]⟩
abbrev S1024 : Shape := ⟨1, ![1024]⟩
abbrev S1024x6728 : Shape := ⟨2, ![1024, 6728]⟩
abbrev S4x1024 : Shape := ⟨2, ![4, 1024]⟩
abbrev S16x64x64 : Shape := ⟨3, ![16, 64, 64]⟩
abbrev S512x1024 : Shape := ⟨2, ![512, 1024]⟩
abbrev S1024x1024 : Shape := ⟨2, ![1024, 1024]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S1024x4096 : Shape := ⟨2, ![1024, 4096]⟩
abbrev S32x4096 : Shape := ⟨2, ![32, 4096]⟩
abbrev S32x1x1024 : Shape := ⟨3, ![32, 1, 1024]⟩
abbrev S32x4x1024 : Shape := ⟨3, ![32, 4, 1024]⟩
abbrev S32x16x64 : Shape := ⟨3, ![32, 16, 64]⟩
abbrev S16x64x32 : Shape := ⟨3, ![16, 64, 32]⟩

abbrev nBuf : Space → Nat
  | .hbm => 182
  | .vmem => 0
  | .smem => 0
  | _ => 0

abbrev hbmTy0_0 (i : Nat) : BufTy := match i % 128 with
  | 0 => ⟨S32x1024, .f32⟩
  | 1 => ⟨S32x3x1024, .f32⟩
  | 2 => ⟨S32x1024, .f32⟩
  | 3 => ⟨S32x512, .f32⟩
  | 4 => ⟨S32x512, .f32⟩
  | 5 => ⟨S1024, .f32⟩
  | 6 => ⟨S1024x6728, .f32⟩
  | 7 => ⟨S4x1024, .f32⟩
  | 8 => ⟨S1024, .f32⟩
  | 9 => ⟨S16x64x64, .f32⟩
  | 10 => ⟨S1024, .f32⟩
  | 11 => ⟨S16x64x64, .f32⟩
  | 12 => ⟨S1024, .f32⟩
  | 13 => ⟨S1024, .f32⟩
  | 14 => ⟨S512x1024, .f32⟩
  | 15 => ⟨S1024x1024, .f32⟩
  | 16 => ⟨S1024x1024, .f32⟩
  | 17 => ⟨S32x1024, .f32⟩
  | 18 => ⟨S_, .f32⟩
  | 19 => ⟨S32, .f32⟩
  | 20 => ⟨S32x1, .f32⟩
  | 21 => ⟨S_, .f32⟩
  | 22 => ⟨S32x1, .f32⟩
  | 23 => ⟨S32x1, .f32⟩
  | 24 => ⟨S_, .f32⟩
  | 25 => ⟨S32x1, .f32⟩
  | 26 => ⟨S32x1, .f32⟩
  | 27 => ⟨S32x1, .f32⟩
  | 28 => ⟨S32x1024, .f32⟩
  | 29 => ⟨S32x1024, .f32⟩
  | 30 => ⟨S1x1024, .f32⟩
  | 31 => ⟨S32x1024, .f32⟩
  | 32 => ⟨S32x1024, .f32⟩
  | 33 => ⟨S1024x4096, .f32⟩
  | 34 => ⟨S32x4096, .f32⟩
  | 35 => ⟨S32x1024, .f32⟩
  | 36 => ⟨S32x1024, .f32⟩
  | 37 => ⟨S32x1024, .f32⟩
  | 38 => ⟨S32x1024, .f32⟩
  | 39 => ⟨S32x1x1024, .f32⟩
  | 40 => ⟨S32x4x1024, .f32⟩
  | 41 => ⟨S1x1024, .f32⟩
  | 42 => ⟨S1024, .f32⟩
  | 43 => ⟨S32x1x1024, .f32⟩
  | 44 => ⟨S32x1024, .f32⟩
  | 45 => ⟨S1x1024, .f32⟩
  | 46 => ⟨S32x1024, .f32⟩
  | 47 => ⟨S32x1024, .f32⟩
  | 48 => ⟨S_, .f32⟩
  | 49 => ⟨S32x1024, .f32⟩
  | 50 => ⟨S32x1024, .f32⟩
  | 51 => ⟨S1x1024, .f32⟩
  | 52 => ⟨S1024, .f32⟩
  | 53 => ⟨S32x1x1024, .f32⟩
  | 54 => ⟨S32x1024, .f32⟩
  | 55 => ⟨S1x1024, .f32⟩
  | 56 => ⟨S32x1024, .f32⟩
  | 57 => ⟨S32x1024, .f32⟩
  | 58 => ⟨S32x1024, .f32⟩
  | 59 => ⟨S1x1024, .f32⟩
  | 60 => ⟨S1024, .f32⟩
  | 61 => ⟨S32x1x1024, .f32⟩
  | 62 => ⟨S32x1024, .f32⟩
  | 63 => ⟨S1x1024, .f32⟩
  | 64 => ⟨S32x1024, .f32⟩
  | 65 => ⟨S32x1024, .f32⟩
  | 66 => ⟨S32x1024, .f32⟩
  | 67 => ⟨S1x1024, .f32⟩
  | 68 => ⟨S1024, .f32⟩
  | 69 => ⟨S32x1x1024, .f32⟩
  | 70 => ⟨S32x1024, .f32⟩
  | 71 => ⟨S1x1024, .f32⟩
  | 72 => ⟨S32x1024, .f32⟩
  | 73 => ⟨S32x1024, .f32⟩
  | 74 => ⟨S32x1024, .f32⟩
  | 75 => ⟨S1x1024, .f32⟩
  | 76 => ⟨S32x1024, .f32⟩
  | 77 => ⟨S32x1024, .f32⟩
  | 78 => ⟨S32x16x64, .f32⟩
  | 79 => ⟨S16x64x32, .f32⟩
  | 80 => ⟨S32x16x64, .f32⟩
  | 81 => ⟨S32x1024, .f32⟩
  | 82 => ⟨S1x1024, .f32⟩
  | 83 => ⟨S32x1024, .f32⟩
  | 84 => ⟨S32x1024, .f32⟩
  | 85 => ⟨S32x1024, .f32⟩
  | 86 => ⟨S32x1024, .f32⟩
  | 87 => ⟨S_, .f32⟩
  | 88 => ⟨S32x1024, .f32⟩
  | 89 => ⟨S32x1024, .f32⟩
  | 90 => ⟨S_, .f32⟩
  | 91 => ⟨S32x1024, .f32⟩
  | 92 => ⟨S32x1024, .f32⟩
  | 93 => ⟨S16x64x32, .f32⟩
  | 94 => ⟨S32x16x64, .f32⟩
  | 95 => ⟨S32x1024, .f32⟩
  | 96 => ⟨S1x1024, .f32⟩
  | 97 => ⟨S32x1024, .f32⟩
  | 98 => ⟨S32x1024, .f32⟩
  | 99 => ⟨S32x1024, .f32⟩
  | 100 => ⟨S32x1024, .f32⟩
  | 101 => ⟨S_, .f32⟩
  | 102 => ⟨S32x1024, .f32⟩
  | 103 => ⟨S32x1024, .f32⟩
  | 104 => ⟨S_, .f32⟩
  | 105 => ⟨S32x1024, .f32⟩
  | 106 => ⟨S32x1024, .f32⟩
  | 107 => ⟨S_, .f32⟩
  | 108 => ⟨S32x1024, .f32⟩
  | 109 => ⟨S32x1024, .f32⟩
  | 110 => ⟨S1024, .f32⟩
  | 111 => ⟨S_, .f32⟩
  | 112 => ⟨S1024, .f32⟩
  | 113 => ⟨S1024, .f32⟩
  | 114 => ⟨S1024, .f32⟩
  | 115 => ⟨S1024, .f32⟩
  | 116 => ⟨S1024, .i1⟩
  | 117 => ⟨S1024, .f32⟩
  | 118 => ⟨S1024, .f32⟩
  | 119 => ⟨S1024, .f32⟩
  | 120 => ⟨S1024, .f32⟩
  | 121 => ⟨S1024, .f32⟩
  | 122 => ⟨S1024, .f32⟩
  | 123 => ⟨S1024, .f32⟩
  | 124 => ⟨S1024, .f32⟩
  | 125 => ⟨S1x1024, .f32⟩
  | 126 => ⟨S32x1024, .f32⟩
  | 127 => ⟨S32x1024, .f32⟩
  | _ => ⟨S32x1024, .f32⟩

abbrev hbmTy0_1 (i : Nat) : BufTy := match i % 128 with
  | 0 => ⟨S_, .f32⟩
  | 1 => ⟨S32x1024, .f32⟩
  | 2 => ⟨S32x1024, .f32⟩
  | 3 => ⟨S32x1024, .f32⟩
  | 4 => ⟨S32x1024, .f32⟩
  | 5 => ⟨S32x1024, .f32⟩
  | 6 => ⟨S32x1024, .f32⟩
  | 7 => ⟨S32x1024, .f32⟩
  | 8 => ⟨S32x1024, .f32⟩
  | 9 => ⟨S32x1024, .f32⟩
  | 10 => ⟨S32x1024, .f32⟩
  | 11 => ⟨S32x512, .f32⟩
  | 12 => ⟨S32x512, .f32⟩
  | 13 => ⟨S_, .f32⟩
  | 14 => ⟨S32x512, .f32⟩
  | 15 => ⟨S32x512, .f32⟩
  | 16 => ⟨S_, .f32⟩
  | 17 => ⟨S32x512, .f32⟩
  | 18 => ⟨S32x512, .f32⟩
  | 19 => ⟨S32x512, .f32⟩
  | 20 => ⟨S32x512, .f32⟩
  | 21 => ⟨S32x1024, .f32⟩
  | 22 => ⟨S32x1024, .f32⟩
  | 23 => ⟨S32x1024, .f32⟩
  | 24 => ⟨S_, .f32⟩
  | 25 => ⟨S32x1024, .f32⟩
  | 26 => ⟨S32x1024, .f32⟩
  | 27 => ⟨S_, .f32⟩
  | 28 => ⟨S32x1024, .f32⟩
  | 29 => ⟨S32x1024, .f32⟩
  | 30 => ⟨S32x1024, .f32⟩
  | 31 => ⟨S32x1024, .f32⟩
  | 32 => ⟨S32x1024, .f32⟩
  | 33 => ⟨S32x1024, .f32⟩
  | 34 => ⟨S32x1024, .f32⟩
  | 35 => ⟨S_, .f32⟩
  | 36 => ⟨S32x1024, .f32⟩
  | 37 => ⟨S32x1024, .f32⟩
  | 38 => ⟨S_, .f32⟩
  | 39 => ⟨S32x1024, .f32⟩
  | 40 => ⟨S32x1024, .f32⟩
  | 41 => ⟨S32x1024, .f32⟩
  | 42 => ⟨S32x1024, .f32⟩
  | 43 => ⟨S32x1024, .f32⟩
  | 44 => ⟨S_, .f32⟩
  | 45 => ⟨S32x1024, .f32⟩
  | 46 => ⟨S32x1024, .f32⟩
  | 47 => ⟨S_, .f32⟩
  | 48 => ⟨S32x1024, .f32⟩
  | 49 => ⟨S32x1024, .f32⟩
  | 50 => ⟨S32x1024, .f32⟩
  | 51 => ⟨S32x1024, .f32⟩
  | 52 => ⟨S32x1024, .f32⟩
  | 53 => ⟨S32x1024, .f32⟩
  | _ => ⟨S32x1024, .f32⟩

abbrev hbmTy (i : Nat) : BufTy := match i / 128 with
  | 0 => hbmTy0_0 i
  | 1 => hbmTy0_1 i
  | _ => ⟨S32x1024, .f32⟩

abbrev bufTy : (tb : Table) → Fin (tcTables nBuf tb) → BufTy
  | .hbm, ⟨i, _⟩ => hbmTy i
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_cst_1 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_2 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_3 : Ref sig .tc := ⟨.hbm, 87, rfl⟩
abbrev main_v66 : Ref sig .tc := ⟨.hbm, 88, rfl⟩
abbrev main_v67 : Ref sig .tc := ⟨.hbm, 89, rfl⟩
abbrev main_cst_4 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_5 : Ref sig .tc := ⟨.hbm, 101, rfl⟩
abbrev main_v78 : Ref sig .tc := ⟨.hbm, 102, rfl⟩
abbrev main_v79 : Ref sig .tc := ⟨.hbm, 103, rfl⟩
abbrev main_cst_6 : Ref sig .tc := ⟨.hbm, 104, rfl⟩
abbrev main_v80 : Ref sig .tc := ⟨.hbm, 105, rfl⟩
abbrev main_v81 : Ref sig .tc := ⟨.hbm, 106, rfl⟩
abbrev main_cst_7 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_call0_cst : Ref sig .tc := ⟨.hbm, 111, rfl⟩
abbrev main_call0_v0 : Ref sig .tc := ⟨.hbm, 112, rfl⟩
abbrev main_call0_v1 : Ref sig .tc := ⟨.hbm, 113, rfl⟩
abbrev main_call0_v2 : Ref sig .tc := ⟨.hbm, 114, rfl⟩
abbrev main_call0_v3 : Ref sig .tc := ⟨.hbm, 115, rfl⟩
abbrev main_call0_v4 : Ref sig .tc := ⟨.hbm, 116, rfl⟩
abbrev main_call0_v5 : Ref sig .tc := ⟨.hbm, 117, rfl⟩
abbrev main_call0_v6 : Ref sig .tc := ⟨.hbm, 118, rfl⟩
abbrev main_call0_v7 : Ref sig .tc := ⟨.hbm, 119, rfl⟩
abbrev main_call0_v8 : Ref sig .tc := ⟨.hbm, 120, rfl⟩
abbrev main_call0_v9 : Ref sig .tc := ⟨.hbm, 121, rfl⟩
abbrev main_call0_v10 : Ref sig .tc := ⟨.hbm, 122, rfl⟩
abbrev main_call0_v11 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_8 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_call1_v0 : Ref sig .tc := ⟨.hbm, 139, rfl⟩
abbrev main_call1_v1 : Ref sig .tc := ⟨.hbm, 140, rfl⟩
abbrev main_call1_cst : Ref sig .tc := ⟨.hbm, 141, rfl⟩
abbrev main_call1_v2 : Ref sig .tc := ⟨.hbm, 142, rfl⟩
abbrev main_call1_v3 : Ref sig .tc := ⟨.hbm, 143, rfl⟩
abbrev main_call1_cst_0 : Ref sig .tc := ⟨.hbm, 144, rfl⟩
abbrev main_call1_v4 : Ref sig .tc := ⟨.hbm, 145, rfl⟩
abbrev main_call1_v5 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_call2_v0 : Ref sig .tc := ⟨.hbm, 150, rfl⟩
abbrev main_call2_v1 : Ref sig .tc := ⟨.hbm, 151, rfl⟩
abbrev main_call2_cst : Ref sig .tc := ⟨.hbm, 152, rfl⟩
abbrev main_call2_v2 : Ref sig .tc := ⟨.hbm, 153, rfl⟩
abbrev main_call2_v3 : Ref sig .tc := ⟨.hbm, 154, rfl⟩
abbrev main_call2_cst_0 : Ref sig .tc := ⟨.hbm, 155, rfl⟩
abbrev main_call2_v4 : Ref sig .tc := ⟨.hbm, 156, rfl⟩
abbrev main_call2_v5 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_cst_9 : Ref sig .tc := ⟨.hbm, 163, rfl⟩
abbrev main_v107 : Ref sig .tc := ⟨.hbm, 164, rfl⟩
abbrev main_v108 : Ref sig .tc := ⟨.hbm, 165, rfl⟩
abbrev main_cst_10 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_cst_11 : Ref sig .tc := ⟨.hbm, 172, rfl⟩
abbrev main_v114 : Ref sig .tc := ⟨.hbm, 173, rfl⟩
abbrev main_v115 : Ref sig .tc := ⟨.hbm, 174, rfl⟩
abbrev main_cst_12 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel5.lean ====
abbrev S32x1024 : Shape := ⟨2, ![32, 1024]⟩
abbrev S1024 : Shape := ⟨1, ![1024]⟩
abbrev S1024x6728 : Shape := ⟨2, ![1024, 6728]⟩
abbrev S1024x1536 : Shape := ⟨2, ![1024, 1536]⟩
abbrev S1024x584 : Shape := ⟨2, ![1024, 584]⟩
abbrev S1024x2120 : Shape := ⟨2, ![1024, 2120]⟩
abbrev S2120x1024 : Shape := ⟨2, ![2120, 1024]⟩
abbrev S_ : Shape := ⟨0, ![]⟩
abbrev S2128x1024 : Shape := ⟨2, ![2128, 1024]⟩
abbrev S1x1024 : Shape := ⟨2, ![1, 1024]⟩
abbrev S1024x512 : Shape := ⟨2, ![1024, 512]⟩
abbrev S1024x64 : Shape := ⟨2, ![1024, 64]⟩
abbrev S512x32 : Shape := ⟨2, ![512, 32]⟩
abbrev S64x32 : Shape := ⟨2, ![64, 32]⟩
abbrev S8x32 : Shape := ⟨2, ![8, 32]⟩
abbrev S32x512 : Shape := ⟨2, ![32, 512]⟩
abbrev S32x64 : Shape := ⟨2, ![32, 64]⟩
abbrev S32 : Shape := ⟨1, ![32]⟩
abbrev S32x1 : Shape := ⟨2, ![32, 1]⟩
abbrev S2128x32 : Shape := ⟨2, ![2128, 32]⟩

abbrev nBuf : Space → Nat
  | .hbm => 29
  | .vmem => 17
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x6728, .f32⟩
  | .hbm, ⟨3, _⟩ => ⟨S1024x1536, .f32⟩
  | .hbm, ⟨4, _⟩ => ⟨S1024x584, .f32⟩
  | .hbm, ⟨5, _⟩ => ⟨S1024x2120, .f32⟩
  | .hbm, ⟨6, _⟩ => ⟨S2120x1024, .f32⟩
  | .hbm, ⟨7, _⟩ => ⟨S_, .i32⟩
  | .hbm, ⟨8, _⟩ => ⟨S_, .f32⟩
  | .hbm, ⟨9, _⟩ => ⟨S2128x1024, .f32⟩
  | .hbm, ⟨10, _⟩ => ⟨S1x1024, .f32⟩
  | .hbm, ⟨11, _⟩ => ⟨S2128x1024, .bf16⟩
  | .hbm, ⟨12, _⟩ => ⟨S1024x512, .f32⟩
  | .hbm, ⟨13, _⟩ => ⟨S1024x512, .bf16⟩
  | .hbm, ⟨14, _⟩ => ⟨S1024x512, .f32⟩
  | .hbm, ⟨15, _⟩ => ⟨S1024x512, .bf16⟩
  | .hbm, ⟨16, _⟩ => ⟨S1024x64, .f32⟩
  | .hbm, ⟨17, _⟩ => ⟨S1024x64, .bf16⟩
  | .hbm, ⟨18, _⟩ => ⟨S512x32, .bf16⟩
  | .hbm, ⟨19, _⟩ => ⟨S512x32, .f32⟩
  | .hbm, ⟨20, _⟩ => ⟨S512x32, .f32⟩
  | .hbm, ⟨21, _⟩ => ⟨S512x32, .bf16⟩
  | .hbm, ⟨22, _⟩ => ⟨S64x32, .f32⟩
  | .hbm, ⟨23, _⟩ => ⟨S8x32, .f32⟩
  | .hbm, ⟨24, _⟩ => ⟨S512x32, .bf16⟩
  | .hbm, ⟨25, _⟩ => ⟨S512x32, .bf16⟩
  | .hbm, ⟨26, _⟩ => ⟨S32x512, .bf16⟩
  | .hbm, ⟨27, _⟩ => ⟨S32x64, .bf16⟩
  | .hbm, ⟨28, _⟩ => ⟨S32x512, .f32⟩
  | .local _ .vmem, ⟨0, _⟩ => ⟨S32x1024, .f32⟩
  | .local _ .vmem, ⟨1, _⟩ => ⟨S1x1024, .f32⟩
  | .local _ .vmem, ⟨2, _⟩ => ⟨S2128x1024, .bf16⟩
  | .local _ .vmem, ⟨3, _⟩ => ⟨S1024x512, .bf16⟩
  | .local _ .vmem, ⟨4, _⟩ => ⟨S1024x512, .bf16⟩
  | .local _ .vmem, ⟨5, _⟩ => ⟨S1024x64, .bf16⟩
  | .local _ .vmem, ⟨6, _⟩ => ⟨S512x32, .bf16⟩
  | .local _ .vmem, ⟨7, _⟩ => ⟨S512x32, .f32⟩
  | .local _ .vmem, ⟨8, _⟩ => ⟨S512x32, .f32⟩
  | .local _ .vmem, ⟨9, _⟩ => ⟨S512x32, .bf16⟩
  | .local _ .vmem, ⟨10, _⟩ => ⟨S64x32, .f32⟩
  | .local _ .vmem, ⟨11, _⟩ => ⟨S8x32, .f32⟩
  | .local _ .vmem, ⟨12, _⟩ => ⟨S512x32, .bf16⟩
  | .local _ .vmem, ⟨13, _⟩ => ⟨S512x32, .bf16⟩
  | .local _ .vmem, ⟨14, _⟩ => ⟨S32x512, .bf16⟩
  | .local _ .vmem, ⟨15, _⟩ => ⟨S32x64, .bf16⟩
  | .local _ .vmem, ⟨16, _⟩ => ⟨S32x512, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v13_2 : Ref sig .tc := ⟨.hbm, 20, rfl⟩
abbrev main_v13_3 : Ref sig .tc := ⟨.hbm, 21, rfl⟩
abbrev main_v13_4 : Ref sig .tc := ⟨.hbm, 22, rfl⟩
abbrev main_v13_5 : Ref sig .tc := ⟨.hbm, 23, rfl⟩
abbrev main_v13_6 : Ref sig .tc := ⟨.hbm, 24, rfl⟩
abbrev main_v13_7 : Ref sig .tc := ⟨.hbm, 25, rfl⟩
abbrev main_v13_8 : Ref sig .tc := ⟨.hbm, 26, rfl⟩
abbrev main_v13_9 : Ref sig .tc := ⟨.hbm, 27, rfl⟩
abbrev main_v13_10 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x32 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S64x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S8x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S512x32 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S512x32 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S32x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S32x64 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S32x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]
-- ==== Kernel5Ideal.lean ====
variable {F : FTy → Type} [FloatOps F] [Named F]
def κ : String → Option EReal := fun
  | "q_scale" => some (((8 * (Real.log 2))⁻¹ : ℝ) : EReal)
  | _ => none
-- ==== Reference5Ideal.lean ====
abbrev S32x1024 : Shape := ⟨2, ![32, 1024]⟩
abbrev S1024 : Shape := ⟨1, ![1024]⟩
abbrev S1024x6728 : Shape := ⟨2, ![1024, 6728]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S32x6728 : Shape := ⟨2, ![32, 6728]⟩
abbrev S32x512 : Shape := ⟨2, ![32, 512]⟩
abbrev S32x64 : Shape := ⟨2, ![32, 64]⟩
abbrev S32x8 : Shape := ⟨2, ![32, 8]⟩
abbrev S512x32 : Shape := ⟨2, ![512, 32]⟩
abbrev S64x32 : Shape := ⟨2, ![64, 32]⟩
abbrev S8x32 : Shape := ⟨2, ![8, 32]⟩

abbrev nBuf : Space → Nat
  | .hbm => 47
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x6728, .f32⟩
  | .hbm, ⟨3, _⟩ => ⟨S32x1024, .f32⟩
  | .hbm, ⟨4, _⟩ => ⟨S_, .f32⟩
  | .hbm, ⟨5, _⟩ => ⟨S32, .f32⟩
  | .hbm, ⟨6, _⟩ => ⟨S32x1, .f32⟩
  | .hbm, ⟨7, _⟩ => ⟨S_, .f32⟩
  | .hbm, ⟨8, _⟩ => ⟨S32x1, .f32⟩
  | .hbm, ⟨9, _⟩ => ⟨S32x1, .f32⟩
  | .hbm, ⟨10, _⟩ => ⟨S_, .f32⟩
  | .hbm, ⟨11, _⟩ => ⟨S32x1, .f32⟩
  | .hbm, ⟨12, _⟩ => ⟨S32x1, .f32⟩
  | .hbm, ⟨13, _⟩ => ⟨S32x1, .f32⟩
  | .hbm, ⟨14, _⟩ => ⟨S32x1024, .f32⟩
  | .hbm, ⟨15, _⟩ => ⟨S32x1024, .f32⟩
  | .hbm, ⟨16, _⟩ => ⟨S1x1024, .f32⟩
  | .hbm, ⟨17, _⟩ => ⟨S32x1024, .f32⟩
  | .hbm, ⟨18, _⟩ => ⟨S32x1024, .f32⟩
  | .hbm, ⟨19, _⟩ => ⟨S32x6728, .f32⟩
  | .hbm, ⟨20, _⟩ => ⟨S32x512, .f32⟩
  | .hbm, ⟨21, _⟩ => ⟨S32x512, .f32⟩
  | .hbm, ⟨22, _⟩ => ⟨S32x512, .f32⟩
  | .hbm, ⟨23, _⟩ => ⟨S32x512, .f32⟩
  | .hbm, ⟨24, _⟩ => ⟨S32x512, .f32⟩
  | .hbm, ⟨25, _⟩ => ⟨S32x64, .f32⟩
  | .hbm, ⟨26, _⟩ => ⟨S32x8, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S32x512, .f32⟩
  | .hbm, ⟨32, _⟩ => ⟨S32x512, .f32⟩
  | .hbm, ⟨33, _⟩ => ⟨S512x32, .f32⟩
  | .hbm, ⟨34, _⟩ => ⟨S512x32, .bf16⟩
  | .hbm, ⟨35, _⟩ => ⟨S512x32, .f32⟩
  | .hbm, ⟨36, _⟩ => ⟨S512x32, .f32⟩
  | .hbm, ⟨37, _⟩ => ⟨S512x32, .f32⟩
  | .hbm, ⟨38, _⟩ => ⟨S512x32, .bf16⟩
  | .hbm, ⟨39, _⟩ => ⟨S64x32, .f32⟩
  | .hbm, ⟨40, _⟩ => ⟨S8x32, .f32⟩
  | .hbm, ⟨41, _⟩ => ⟨S512x32, .f32⟩
  | .hbm, ⟨42, _⟩ => ⟨S512x32, .bf16⟩
  | .hbm, ⟨43, _⟩ => ⟨S512x32, .f32⟩
  | .hbm, ⟨44, _⟩ => ⟨S512x32, .bf16⟩
  | .hbm, ⟨45, _⟩ => ⟨S32x512, .bf16⟩
  | .hbm, ⟨46, _⟩ => ⟨S32x64, .bf16⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩

abbrev nD : Nat := 1
abbrev τ : Topo := Topo.v7x

variable {F : FTy → Type} [FloatOps F]
-- ==== Kernel6.lean ====
abbrev S32x1024 : Shape := ⟨2, ![32, 1024]⟩
abbrev S1024 : Shape := ⟨1, ![1024]⟩
abbrev S1x1024 : Shape := ⟨2, ![1, 1024]⟩
abbrev S32 : Shape := ⟨1, ![32]⟩
abbrev S32x1 : Shape := ⟨2, ![32, 1]⟩

abbrev nBuf : Space → Nat
  | .hbm => 4
  | .vmem => 3
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1x1024, .f32⟩
  | .hbm, ⟨3, _⟩ => ⟨S32x1024, .f32⟩
  | .local _ .vmem, ⟨0, _⟩ => ⟨S32x1024, .f32⟩
  | .local _ .vmem, ⟨1, _⟩ => ⟨S1x1024, .f32⟩
  | .local _ .vmem, ⟨2, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference6Ideal.lean ====
abbrev S32x1024 : Shape := ⟨2, ![32, 1024]⟩
abbrev S1024 : Shape := ⟨1, ![1024]⟩
abbrev S_ : Shape := ⟨0, ![]⟩
abbrev S32 : Shape := ⟨1, ![32]⟩
abbrev S32x1 : Shape := ⟨2, ![32, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S32x1024, .f32⟩
  | .hbm, ⟨3, _⟩ => ⟨S_, .f32⟩
  | .hbm, ⟨4, _⟩ => ⟨S32, .f32⟩
  | .hbm, ⟨5, _⟩ => ⟨S32x1, .f32⟩
  | .hbm, ⟨6, _⟩ => ⟨S_, .f32⟩
  | .hbm, ⟨7, _⟩ => ⟨S32x1, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S32x1, .f32⟩
  | .hbm, ⟨13, _⟩ => ⟨S32x1024, .f32⟩
  | .hbm, ⟨14, _⟩ => ⟨S32x1024, .f32⟩
  | .hbm, ⟨15, _⟩ => ⟨S1x1024, .f32⟩
  | .hbm, ⟨16, _⟩ => ⟨S32x1024, .f32⟩
  | .hbm, ⟨17, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Lru.RefRun.lean ====
/-
  The reference's loop as a sequence of states: what `Gen/ReferenceIdeal/Run.lean`'s trip does to the buffers is
  `Step.step` of the state they hold, so the run's results are those of state number 16384 of any sequence that starts at
  `Step.init` of the arguments and goes on by `Step.step`.
-/
module

public import proofs.«01_k».proof.Proof.Gen.ReferenceIdeal.Run
public import proofs.«01_k».proof.Proof.Gen.ReferenceIdeal.Step

@[expose] public section

noncomputable section

namespace Cert.Lru.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- Before trip `j` the loop's buffers hold the decays, the inputs, the counter and the two carried values of `s`. -/
def Held (V : Valuation τ sig (Elt F)) (s : State F) (j : ℕ) : Prop :=
  V (Proc.devRef .tc main_v95_0) = s.main_v95_0 ∧ V (Proc.devRef .tc main_v95_1) = s.main_v95_1
    ∧ V (Proc.devRef .tc main_v95_2) = constantI S_ 32 (BitVec.ofNat 32 j)
    ∧ V (Proc.devRef .tc main_v95_3) = s.main_v95_3 ∧ V (Proc.devRef .tc main_v95_4) = s.main_v95_4

/-- The new carried state of one trip, from what the buffers hold. -/
theorem new_h {V : Valuation τ sig (Elt F)} {s : State F} {j : ℕ} (h : Held V s j) :
    res_main_while0b_v143 V = Step.b7 j s := by
  obtain ⟨h0, h1, h2, h3, -⟩ := h
  unfold res_main_while0b_v143
  rw [h0, h1, h2, h3]
  rfl

/-- One trip goes from a state to its `step`. -/
theorem held_step {V : Valuation τ sig (Elt F)} {s : State F} {j : ℕ} (h : Held V s j) :
    Held (STEP V) (step j s) (j + 1) := by
  have hn := new_h h
  obtain ⟨h0, h1, h2, h3, h4⟩ := h
  refine ⟨(STEP_main_v95_0 V).trans h0, (STEP_main_v95_1 V).trans h1, ?_, ?_, ?_⟩
  · rw [STEP_main_v95_2]
    unfold step_main_v95_2
    rw [h2]
    funext i
    show BitVec.ofNat 32 j + 1#32 = BitVec.ofNat 32 (j + 1)
    rw [BitVec.ofNat_add]
  · rw [STEP_main_v95_3]
    exact hn
  · rw [STEP_main_v95_4]
    unfold step_main_v95_4
    rw [hn, h2, h4]
    rfl

/-- The state before the first trip, of the arguments at launch. -/
abbrev start (m : (ℓ : Loc nD τ sig) → Buf (Elt F) ℓ) (c : Dev nD) : State F :=
  init (m ((c.tc : Thread nD τ).loc main_arg0)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11))

variable (m : (ℓ : Loc nD τ sig) → Buf (Elt F) ℓ) (c : Dev nD)

set_option maxRecDepth 65536 in
set_option maxHeartbeats 600000 in
/-- The operations before the loop leave the first state. -/
theorem held_start : Held (entryContents preI m c) (start m c) 0 := by
  unfold Held
  refine ⟨?_, ?_, ?_, ?_, ?_⟩ <;>
    (simp only [entryContents, afterL_cons, afterL_nil]; after_reads_simp) <;> rfl

/-- The state before trip `k`, by iterating `step`. -/
def states (s : State F) : ℕ → State F
  | 0 => s
  | k + 1 => step k (states s k)

theorem held_states : ∀ k, Held (STEP^[k] (entryContents preI m c)) (states (start m c) k) k
  | 0 => held_start m c
  | k + 1 => by
    rw [Function.iterate_succ_apply']
    exact held_step (held_states k)

/-- The run, with its three results as functions of the last state and the arguments, which it keeps. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v137)
          = Step.R_main_v137 (states (start m c) 16384) (m ((c.tc : Thread nD τ).loc main_arg0))
              (m ((c.tc : Thread nD τ).loc main_arg1)) (m ((c.tc : Thread nD τ).loc main_arg2))
              (m ((c.tc : Thread nD τ).loc main_arg3)) (m ((c.tc : Thread nD τ).loc main_arg4))
              (m ((c.tc : Thread nD τ).loc main_arg12)) (m ((c.tc : Thread nD τ).loc main_arg13))
              (m ((c.tc : Thread nD τ).loc main_arg14))
      ∧ r.2.mem ((c.tc : Thread nD τ).loc main_v138)
          = Step.R_main_v138 (states (start m c) 16384) (m ((c.tc : Thread nD τ).loc main_arg0))
              (m ((c.tc : Thread nD τ).loc main_arg3)) (m ((c.tc : Thread nD τ).loc main_arg4))
      ∧ r.2.mem ((c.tc : Thread nD τ).loc main_v139) = Step.R_main_v139 (states (start m c) 16384)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => by
    obtain ⟨h0, h1, h2, h3, h4⟩ := held_states m c 16384
    obtain ⟨e1, e2, e3, er⟩ := h c
    refine ⟨e1.trans ?_, e2.trans ?_, e3.trans ?_, er⟩
    · unfold out_main_v137 Step.R_main_v137
      rw [h4, iter_main_arg0 m c 16384, iter_main_arg1 m c 16384, iter_main_arg2 m c 16384, iter_main_arg3 m c 16384,
        iter_main_arg4 m c 16384, iter_main_arg12 m c 16384, iter_main_arg13 m c 16384, iter_main_arg14 m c 16384]
    · unfold out_main_v138 Step.R_main_v138
      rw [iter_main_arg0 m c 16384, iter_main_arg3 m c 16384, iter_main_arg4 m c 16384]
    · unfold out_main_v139 Step.R_main_v139
      rw [h3]) (Value.run m ρ)

end Cert.Lru.RefRun

end
-- ==== Proof.Lru.Alg.lean ====
/-
  Scalar facts over the extended reals that the RG-LRU kernel's own formulas need: the sigmoid written with
  a division is the logistic function, the `log1p` and `expm1` written with a quotient are the functions themselves on
  the range the gates produce, and the decay `a = exp (log_a)` is a real number between 0 and 1.
-/
module

public import Idealize.ShloMosaic.Lib.Pointwise

@[expose] public section

noncomputable section

namespace Cert.Lru

open Idealize.ShloMosaic

/-- The sigmoid as both programs spell it: `1 / (1 + exp (-x))`. -/
def sgm (x : EReal) : EReal := Ideal.div 1 (1 + Ideal.exp (-x))

/-- A gate is a real number between 0 and 1. -/
theorem sgm_real (x : EReal) : ∃ r : ℝ, 0 ≤ r ∧ r ≤ 1 ∧ sgm x = (r : EReal) := by
  have h : sgm x = Ideal.logistic x := rfl
  rw [h]
  induction x with
  | bot => exact ⟨0, le_refl _, zero_le_one, by simp⟩
  | top => exact ⟨1, zero_le_one, le_refl _, by simp⟩
  | coe x =>
    have hp : 0 < Real.exp (-x) := Real.exp_pos _
    refine ⟨(1 + Real.exp (-x))⁻¹, by positivity, ?_, Ideal.logistic_coe _⟩
    exact inv_le_one_of_one_le₀ (by linarith)

/-- `exp` of a value that is at most 0 is a real number between 0 and 1. -/
theorem exp_real_of_nonpos {x : EReal} (hx : x ≤ 0) : ∃ r : ℝ, 0 ≤ r ∧ r ≤ 1 ∧ Ideal.exp x = (r : EReal) := by
  induction x with
  | bot => exact ⟨0, le_refl _, zero_le_one, by simp⟩
  | top => simp at hx
  | coe x =>
    have hx' : x ≤ 0 := by exact_mod_cast hx
    exact ⟨Real.exp x, (Real.exp_pos _).le, Real.exp_le_one_iff.mpr hx', rfl⟩

/-- The kernel's `log1p`: `log w · (e / (w - 1))` at `w = 1 + e`, and `e` itself where `w = 1`. -/
def klog1p (e : EReal) : EReal :=
  if 1 + e = 1 then e else Ideal.log (1 + e) * Ideal.div e (1 + e - 1)

theorem klog1p_eq {e : EReal} (h : ∃ r : ℝ, 0 ≤ r ∧ r ≤ 1 ∧ e = (r : EReal)) : klog1p e = Ideal.log1p e := by
  obtain ⟨r, h0, h1, rfl⟩ := h
  have hw : (1 : EReal) + (r : EReal) = ((1 + r : ℝ) : EReal) := by push_cast; rfl
  unfold klog1p Ideal.log1p
  rw [hw]
  by_cases hr : r = 0
  · subst hr
    rw [if_pos (by norm_num), add_zero, EReal.coe_one, ← EReal.coe_one, Ideal.log_coe, if_neg (by norm_num), Real.log_one]
  · have hne : ((1 + r : ℝ) : EReal) ≠ 1 := by
      intro h
      have : (1 + r : ℝ) = 1 := by exact_mod_cast h
      exact hr (by linarith)
    rw [if_neg hne]
    have hd : ((1 + r : ℝ) : EReal) - 1 = (r : EReal) := by
      rw [← EReal.coe_one, ← EReal.coe_sub]; congr 1; ring
    rw [hd, Ideal.div_coe hr, ← EReal.coe_mul, mul_one_div_cancel hr, EReal.coe_one, mul_one]

/-- The kernel's `expm1`: `(u - 1) · (x / log u)` at `u = exp x`, with `x` where `u = 1` and `-1` where `u = 0`. -/
def kexpm1 (x : EReal) : EReal :=
  if Ideal.exp x - 1 = 0 then x
  else if Ideal.exp x = 0 then -1 else (Ideal.exp x - 1) * Ideal.div x (Ideal.log (Ideal.exp x))

theorem kexpm1_eq {x : EReal} (hx : x ≤ 0) : kexpm1 x = Ideal.expm1 x := by
  unfold kexpm1 Ideal.expm1
  induction x with
  | bot => simp
  | top => simp at hx
  | coe x =>
    have he : Ideal.exp (x : EReal) = (Real.exp x : EReal) := rfl
    rw [he]
    have hs : ((Real.exp x : ℝ) : EReal) - 1 = ((Real.exp x - 1 : ℝ) : EReal) := by
      rw [← EReal.coe_one, ← EReal.coe_sub]
    have hl : Ideal.log ((Real.exp x : ℝ) : EReal) = (x : EReal) := by
      rw [Ideal.log_coe, if_neg (not_le.mpr (Real.exp_pos x)), Real.log_exp]
    rw [hs, hl]
    by_cases h0 : x = 0
    · subst h0; simp
    · have h1 : ((Real.exp x - 1 : ℝ) : EReal) ≠ 0 := by
        intro h
        have h' : Real.exp x - 1 = 0 := by exact_mod_cast h
        exact h0 (Real.exp_eq_one_iff x |>.mp (by linarith))
      have h2 : ((Real.exp x : ℝ) : EReal) ≠ 0 := by
        intro h
        have h' : Real.exp x = 0 := by exact_mod_cast h
        exact (Real.exp_pos x).ne' h'
      rw [if_neg h1, if_neg h2, Ideal.div_coe h0, ← EReal.coe_mul x, mul_one_div_cancel h0, EReal.coe_one, mul_one]

/-- The softplus of `-lam` as the reference spells it. -/
def softplus (y : EReal) : EReal := max y 0 + Ideal.log1p (Ideal.exp (-(max y (-y))))

theorem abs_nonneg' (y : EReal) : 0 ≤ max y (-y) := by
  rcases le_total 0 y with h | h
  · exact le_max_of_le_left h
  · exact le_max_of_le_right (by simpa using EReal.neg_le_neg_iff.mpr h)

/-- `exp (-|y|)` is a real number between 0 and 1. -/
theorem exp_abs_real (y : EReal) : ∃ r : ℝ, 0 ≤ r ∧ r ≤ 1 ∧ Ideal.exp (-(max y (-y))) = (r : EReal) :=
  exp_real_of_nonpos (by simpa using EReal.neg_le_neg_iff.mpr (abs_nonneg' y))

theorem softplus_nonneg (y : EReal) : 0 ≤ softplus y := by
  unfold softplus
  obtain ⟨r, h0, h1, h⟩ := exp_abs_real y
  rw [h]
  refine add_nonneg (le_max_right _ _) ?_
  have hw : (1 : EReal) + (r : EReal) = ((1 + r : ℝ) : EReal) := by push_cast; rfl
  rw [Ideal.log1p, hw, Ideal.log_coe, if_neg (by linarith)]
  exact_mod_cast Real.log_nonneg (by linarith)

/-- The logarithm of the decay: `-8 · r · softplus (-lam)`. -/
def logA (r y : EReal) : EReal := (((-8 : ℝ) : EReal) * r) * softplus y

/-- The logarithm of the decay is at most 0. -/
theorem logA_nonpos (x y : EReal) : logA (sgm x) y ≤ 0 := by
  obtain ⟨r, h0, h1, h⟩ := sgm_real x
  unfold logA
  rw [h, ← EReal.coe_mul]
  exact mul_nonpos_of_nonpos_of_nonneg (by exact_mod_cast (by nlinarith : (-8 : ℝ) * r ≤ 0)) (softplus_nonneg y)

/-- Twice the logarithm of the decay is at most 0. -/
theorem two_logA_nonpos (x y : EReal) : ((2 : ℝ) : EReal) * logA (sgm x) y ≤ 0 :=
  mul_nonpos_of_nonneg_of_nonpos (by exact_mod_cast (by norm_num : (0 : ℝ) ≤ 2)) (logA_nonpos x y)

/-- The pattern `0xC1000000` is minus eight. -/
theorem ofBits_neg8 : Ideal.ofBits .f32 0xC1000000#32 = ((-8 : ℝ) : EReal) := by
  simp [Ideal.ofBits, Ideal.ieee, -EReal.coe_mul, -EReal.coe_neg]; norm_num

/-- The pattern `0x40000000` is two. -/
theorem ofBits_two : Ideal.ofBits .f32 0x40000000#32 = ((2 : ℝ) : EReal) := by
  simp [Ideal.ofBits, Ideal.ieee, -EReal.coe_mul, -EReal.coe_neg]; norm_num

/-- The pattern `0xBF800000` is minus one. -/
theorem ofBits_neg1 : Ideal.ofBits .f32 0xBF800000#32 = ((-1 : ℝ) : EReal) := by
  simp [Ideal.ofBits, Ideal.ieee, -EReal.coe_mul, -EReal.coe_neg]; norm_num

end Cert.Lru

end
-- ==== Proof.Lru.Spec.lean ====
/-
  The layer's recurrence and merge in plain words: one row's normalisation, projection, convolution, gates, decay and
  input, the state after `t` rows, and the merged row — over functions of row and column numbers. The reference and the
  kernel are both read against these.
-/
module

public import proofs.«01_k».proof.Proof.Lru.Alg

@[expose] public section

noncomputable section

namespace Cert.Lru

open Idealize.ShloMosaic

/-- Entry `k` of a row normalised by its root mean square and scaled by `g`. -/
def hrow (x g : Fin 1024 → EReal) (k : Fin 1024) : EReal :=
  x k * Ideal.rsqrt (Ideal.div (∑ l, x l * x l) (Ideal.ofBits .f32 0x44800000#32) + Ideal.ofBits .f32 0x358637BD#32) * g k

/-- The 64-block a column lies in. -/
def blk (c : Fin 1024) : Fin 16 := ⟨c.val / 64, by omega⟩

/-- A column's place in its 64-block. -/
def lane (c : Fin 1024) : Fin 64 := ⟨c.val % 64, by omega⟩

/-- The column at a place of a block. -/
def colOf (n : Fin 16) (k : Fin 64) : Fin 1024 := ⟨n.val * 64 + k.val, by omega⟩

/-- The layer's weights. -/
structure Par where
  g : Fin 1024 → EReal
  wl : Fin 1024 → Fin 4096 → EReal
  cw : Fin 4 → Fin 1024 → EReal
  cb : Fin 1024 → EReal
  rw : Fin 16 → Fin 64 → Fin 64 → EReal
  rb : Fin 1024 → EReal
  iw : Fin 16 → Fin 64 → Fin 64 → EReal
  ib : Fin 1024 → EReal
  lam : Fin 1024 → EReal
  oa : Fin 512 → Fin 1024 → EReal
  ob : Fin 1024 → Fin 1024 → EReal
  wo : Fin 1024 → Fin 1024 → EReal

/-- A row's projection, column `c` of the four 1024-column parts. -/
def zrow (P : Par) (x : Fin 1024 → EReal) (c : Fin 4096) : EReal := ∑ k, hrow x P.g k * P.wl k c

/-- Column `c` of part `q` of the projection. -/
def part (q : Fin 4) (c : Fin 1024) : Fin 4096 := ⟨1024 * q.val + c.val, by omega⟩

/-- One entry of the causal convolution from the four rows it covers, oldest first. -/
def conv (P : Par) (v : Fin 4 → EReal) (c : Fin 1024) : EReal :=
  P.cb c + (P.cw 0 c * v 0 + P.cw 1 c * v 1 + P.cw 2 c * v 2 + P.cw 3 c * v 3)

/-- A gate: the block-diagonal product with `w`, plus `b`, through the sigmoid. -/
def gate (w : Fin 16 → Fin 64 → Fin 64 → EReal) (b xc : Fin 1024 → EReal) (c : Fin 1024) : EReal :=
  sgm (∑ k, w (blk c) k (lane c) * xc (colOf (blk c) k) + b c)

/-- The decay of a row from its convolved row. -/
def decay (P : Par) (xc : Fin 1024 → EReal) (c : Fin 1024) : EReal :=
  Ideal.exp (logA (gate P.rw P.rb xc c) (-(P.lam c)))

/-- The recurrence's input from the convolved row. -/
def inp (P : Par) (xc : Fin 1024 → EReal) (c : Fin 1024) : EReal :=
  Ideal.sqrt (-(Ideal.expm1 (((2 : ℝ) : EReal) * logA (gate P.rw P.rb xc c) (-(P.lam c)))))
    * (gate P.iw P.ib xc c * xc c)

/-- The merged row: the residual plus the output projection of the gated sum of the two branches. -/
def mrow (P : Par) (x : Fin 1024 → EReal) (y ga : Fin 512 → EReal) (h : Fin 1024 → EReal) (c : Fin 1024) : EReal :=
  x c + ∑ k, (sgm (zrow P x (part 2 k)) * (∑ l, y l * (ga l * sgm (ga l)) * P.oa l k)
      + sgm (zrow P x (part 3 k))
        * (∑ l, h l * (zrow P x (part 1 l) * sgm (zrow P x (part 1 l))) * P.ob l k)) * P.wo k c

section seq

variable (P : Par) (X : ℕ → Fin 1024 → EReal)

/-- Row `s` of the projected sequence behind three rows of zeros. -/
def xpad (s : ℕ) (c : Fin 1024) : EReal := if 3 ≤ s then zrow P (X (s - 3)) (part 0 c) else 0

/-- The convolved row `t`. -/
def xc (t : ℕ) (c : Fin 1024) : EReal := conv P (fun q => xpad P X (t + q.val) c) c

/-- The state after `t` rows. -/
def state : ℕ → Fin 1024 → EReal
  | 0, _ => 0
  | t + 1, c => decay P (xc P X t) c * state t c + inp P (xc P X t) c

end seq

end Cert.Lru

end
-- ==== Proof.Lru.Ref.lean ====
/-
  The reference's values at an index: each is the plain form of `Spec.lean` over the arguments.
-/
module

public import proofs.«01_k».proof.Proof.Lru.Spec
public import proofs.«01_k».proof.Proof.Gen.ReferenceIdeal.Step

@[expose] public section

set_option maxRecDepth 16384

noncomputable section

namespace Cert.Lru.Ref

open Idealize.ShloMosaic Cert.ReferenceIdeal Cert.ReferenceIdeal.Gen Cert.ReferenceIdeal.Step

variable (x : FVec Ideal S16384x1024 .f32) (g : FVec Ideal S1024 .f32) (w : FVec Ideal S1024x6728 .f32)
  (cw : FVec Ideal S4x1024 .f32) (cb : FVec Ideal S1024 .f32) (rw : FVec Ideal S16x64x64 .f32)
  (rb : FVec Ideal S1024 .f32) (iw : FVec Ideal S16x64x64 .f32) (ib lam : FVec Ideal S1024 .f32)
  (oa : FVec Ideal S512x1024 .f32) (ob wo : FVec Ideal S1024x1024 .f32)

/-- The weights as functions of row and column. -/
def par : Par where
  g k := g (ix1 k)
  wl k c := w (ix2 k ⟨2632 + c.val, by omega⟩)
  cw q c := cw (ix2 q c)
  cb c := cb (ix1 c)
  rw n k l := rw (ix3 n k l)
  rb c := rb (ix1 c)
  iw n k l := iw (ix3 n k l)
  ib c := ib (ix1 c)
  lam c := lam (ix1 c)
  oa k c := oa (ix2 k c)
  ob k c := ob (ix2 k c)
  wo k c := wo (ix2 k c)

/-- Row `t` of a matrix of 16384 rows (zero beyond). -/
def rows {n : ℕ} (v : (⟨2, ![16384, n]⟩ : Shape).Idx → EReal) (t : ℕ) (c : Fin n) : EReal :=
  if h : t < 16384 then v (ix2 ⟨t, h⟩ c) else 0

/-- The loop's start indices: row `n`, column 0. -/
theorem start_row {n : ℕ} (hn : n < 16384) (k : (2 : ℕ) = 2) :
    Host.clampedStart S16384x1024 S1x1024 k (fun k =>
      BitVec.toInt ((![constantI S_ 32 (BitVec.ofNat 32 n), constantI S_ 32 0#32] : Fin 2 → IVec S_ 32) k
        (Shape.Idx.first h_S_))) 0 = n := by
  have hi : (BitVec.ofNat 32 n).toInt = n := by
    rw [BitVec.toInt_eq_toNat_cond, BitVec.toNat_ofNat]; omega
  refine Host.clampedStart_of_le _ _ _ n ?_ ?_
  · exact hi
  · show n + 1 ≤ 16384
    omega

theorem start_col {n : ℕ} (k : (2 : ℕ) = 2) :
    Host.clampedStart S16384x1024 S1x1024 k (fun k =>
      BitVec.toInt ((![constantI S_ 32 (BitVec.ofNat 32 n), constantI S_ 32 0#32] : Fin 2 → IVec S_ 32) k
        (Shape.Idx.first h_S_))) 1 = 0 :=
  Host.clampedStart_of_le _ _ _ 0 rfl (show 0 + 1024 ≤ 1024 by omega)

theorem v14_at (r : Fin 16384) (c : Fin 4096) :
    A_main_v14 (F := Ideal) x g w cw cb rw rb iw ib lam (ix2 r c) = zrow (par g w cw cb rw rb iw ib lam oa ob wo) (rows x r.val) c := by
  unfold zrow hrow par rows
  pointwise [A_main_v14, A_main_v13, A_main_v12, A_main_v11, A_main_v10, A_main_v9, A_main_v8, A_main_v7, A_main_v6,
    A_main_v4, A_main_v2, A_main_v1, A_main_v0, K_main_v3, K_main_v5, K_main_cst, K_main_cst_0, K_main_cst_1]

theorem xpad_at (n m : ℕ) (e : m = n) (hn : n < 16387) (c : Fin 1024) :
    xpad (par g w cw cb rw rb iw ib lam oa ob wo) (rows x) m c
      = if h : n < 3 then 0
        else A_main_v14 (F := Ideal) x g w cw cb rw rb iw ib lam (ix2 ⟨n - 3, by omega⟩ ⟨c.val, by omega⟩) := by
  subst e
  unfold xpad part
  by_cases h : m < 3
  · rw [if_neg (by omega), dif_pos h]
  · rw [if_pos (by omega), dif_neg h, v14_at x g w cw cb rw rb iw ib lam oa ob wo]
    congr 1
    ext
    simp

theorem v52_at (r : Fin 16384) (c : Fin 1024) :
    A_main_v52 (F := Ideal) x g w cw cb rw rb iw ib lam (ix2 r c) = xc (par g w cw cb rw rb iw ib lam oa ob wo) (rows x) r.val c := by
  pointwise [A_main_v52, A_main_v51, A_main_v50, A_main_v49, A_main_v48, A_main_v47, A_main_v46, A_main_v45, A_main_v44,
    A_main_v43, A_main_v42, A_main_v41, A_main_v40, A_main_v39, A_main_v38, A_main_v37, A_main_v36, A_main_v35,
    A_main_v34, A_main_v33, A_main_v32, A_main_v31, A_main_v30, A_main_v29, A_main_v28, A_main_v26, A_main_v25,
    A_main_v24, A_main_v23, A_main_v22, A_main_v21, A_main_v20, A_main_v15, K_main_v27, K_main_cst_3, K_main_v19,
    K_main_cst_2]
  have e0 := xpad_at x g w cw cb rw rb iw ib lam oa ob wo r.val (r.val + (0 : Fin 4).val) rfl (by omega) c
  have e1 := xpad_at x g w cw cb rw rb iw ib lam oa ob wo (1 + r.val) (r.val + (1 : Fin 4).val) (Nat.add_comm _ _)
    (by omega) c
  have e2 := xpad_at x g w cw cb rw rb iw ib lam oa ob wo (2 + r.val) (r.val + (2 : Fin 4).val) (Nat.add_comm _ _)
    (by omega) c
  have e3 := xpad_at x g w cw cb rw rb iw ib lam oa ob wo (r.val + 3) (r.val + (3 : Fin 4).val) rfl (by omega) c
  rw [dif_neg (by omega)] at e3
  unfold xc conv
  dsimp only
  rw [e0, e1, e2, e3]
  rfl

theorem v65_at (r : Fin 16384) (c : Fin 1024) :
    A_main_v65 (F := Ideal) x g w cw cb rw rb iw ib lam (ix2 r c) = gate (par g w cw cb rw rb iw ib lam oa ob wo).rw (par g w cw cb rw rb iw ib lam oa ob wo).rb (xc (par g w cw cb rw rb iw ib lam oa ob wo) (rows x) r.val) c := by
  pointwise [A_main_v65, A_main_v63, A_main_v61, A_main_v60, A_main_v59, A_main_v58, A_main_v57, A_main_v56, A_main_v55,
    A_main_v54, A_main_v53, K_main_v62, K_main_v64, K_main_cst_4, K_main_cst_5]
  simp only [v52_at x g w cw cb rw rb iw ib lam oa ob wo]
  rfl

theorem v77_at (r : Fin 16384) (c : Fin 1024) :
    A_main_v77 (F := Ideal) x g w cw cb rw rb iw ib lam (ix2 r c) = gate (par g w cw cb rw rb iw ib lam oa ob wo).iw (par g w cw cb rw rb iw ib lam oa ob wo).ib (xc (par g w cw cb rw rb iw ib lam oa ob wo) (rows x) r.val) c := by
  pointwise [A_main_v77, A_main_v75, A_main_v73, A_main_v72, A_main_v71, A_main_v70, A_main_v69, A_main_v68, A_main_v67,
    A_main_v66, A_main_v53, K_main_v74, K_main_v76, K_main_cst_6, K_main_cst_7]
  simp only [v52_at x g w cw cb rw rb iw ib lam oa ob wo]
  rfl

theorem v84_at (r : Fin 16384) (c : Fin 1024) :
    A_main_v84 (F := Ideal) x g w cw cb rw rb iw ib lam (ix2 r c)
      = logA (gate (par g w cw cb rw rb iw ib lam oa ob wo).rw (par g w cw cb rw rb iw ib lam oa ob wo).rb (xc (par g w cw cb rw rb iw ib lam oa ob wo) (rows x) r.val) c) (-((par g w cw cb rw rb iw ib lam oa ob wo).lam c)) := by
  pointwise [A_main_v84, A_main_v83, A_main_v82, A_main_v81, A_main_call0_v11, A_main_call0_v10, A_main_call0_v9,
    A_main_call0_v8, A_main_call0_v7, A_main_call0_v6, A_main_call0_v4, A_main_call0_v3, A_main_call0_v1, A_main_v80,
    A_main_v79, K_main_v78, K_main_cst_8, K_main_call0_cst, K_main_call0_v0, K_main_call0_v2, K_main_call0_v5]
  rw [v65_at x g w cw cb rw rb iw ib lam oa ob wo, if_neg (by simp), ofBits_neg8]
  rfl

theorem v85_at (r : Fin 16384) (c : Fin 1024) :
    A_main_v85 (F := Ideal) x g w cw cb rw rb iw ib lam (ix2 r c) = decay (par g w cw cb rw rb iw ib lam oa ob wo) (xc (par g w cw cb rw rb iw ib lam oa ob wo) (rows x) r.val) c := by
  unfold A_main_v85 decay
  rw [← v84_at x g w cw cb rw rb iw ib lam oa ob wo]
  pointwise

theorem v92_at (r : Fin 16384) (c : Fin 1024) :
    A_main_v92 (F := Ideal) x g w cw cb rw rb iw ib lam (ix2 r c) = inp (par g w cw cb rw rb iw ib lam oa ob wo) (xc (par g w cw cb rw rb iw ib lam oa ob wo) (rows x) r.val) c := by
  pointwise [A_main_v92, A_main_v91, A_main_v90, A_main_v89, A_main_v88, A_main_v87, K_main_v86, K_main_cst_9]
  rw [v84_at x g w cw cb rw rb iw ib lam oa ob wo, v77_at x g w cw cb rw rb iw ib lam oa ob wo,
    v52_at x g w cw cb rw rb iw ib lam oa ob wo, ofBits_two]
  rfl

/-- What the loop's state holds before trip `n`. -/
structure Good (s : State Ideal) (n : ℕ) : Prop where
  a : ∀ (r : Fin 16384) (c : Fin 1024), s.main_v95_0 (ix2 r c) = decay (par g w cw cb rw rb iw ib lam oa ob wo) (xc (par g w cw cb rw rb iw ib lam oa ob wo) (rows x) r.val) c
  u : ∀ (r : Fin 16384) (c : Fin 1024), s.main_v95_1 (ix2 r c) = inp (par g w cw cb rw rb iw ib lam oa ob wo) (xc (par g w cw cb rw rb iw ib lam oa ob wo) (rows x) r.val) c
  h : ∀ c : Fin 1024, s.main_v95_3 (ix1 c) = state (par g w cw cb rw rb iw ib lam oa ob wo) (rows x) n c
  hs : ∀ (r : Fin 16384) (c : Fin 1024), r.val < n → s.main_v95_4 (ix2 r c) = state (par g w cw cb rw rb iw ib lam oa ob wo) (rows x) (r.val + 1) c

theorem good_init : Good x g w cw cb rw rb iw ib lam oa ob wo (init x g w cw cb rw rb iw ib lam) 0 where
  a r c := v85_at x g w cw cb rw rb iw ib lam oa ob wo r c
  u r c := v92_at x g w cw cb rw rb iw ib lam oa ob wo r c
  h c := by pointwise [init, K_main_v93, K_main_cst_10, state]
  hs r c h := by omega

theorem new_state {s : State Ideal} {n : ℕ} (hn : n < 16384) (hg : Good x g w cw cb rw rb iw ib lam oa ob wo s n)
    (c : Fin 1024) : b7 n s (ix1 c) = state (par g w cw cb rw rb iw ib lam oa ob wo) (rows x) (n + 1) c := by
  have ha := hg.a ⟨n, hn⟩ c
  have hu := hg.u ⟨n, hn⟩ c
  have hh := hg.h c
  pointwise [b7, b6, b5, b4, b3, b2, b1, b0]
  simp only [start_row hn, start_col, Nat.zero_add, Fin.eta]
  rw [ha, hu, hh]
  rfl

theorem good_step {s : State Ideal} {n : ℕ} (hn : n < 16384) (hg : Good x g w cw cb rw rb iw ib lam oa ob wo s n) :
    Good x g w cw cb rw rb iw ib lam oa ob wo (step n s) (n + 1) where
  a := hg.a
  u := hg.u
  h := new_state x g w cw cb rw rb iw ib lam oa ob wo hn hg
  hs r c h := by
    have hnew := new_state x g w cw cb rw rb iw ib lam oa ob wo hn hg c
    rw [step_main_v95_4]
    pointwise [b10, b9, b8]
    simp only [start_row hn, start_col, Nat.sub_zero, Fin.eta, Nat.zero_le, and_true]
    split
    · rw [hnew, show n = r.val by omega]
    · exact hg.hs r c (by omega)

/-- The last eight rows of the projected sequence. -/
theorem tail_at (s : State Ideal) (r : Fin 8) (c : Fin 1024) :
    R_main_v138 s x g w (ix2 r c) = zrow (par g w cw cb rw rb iw ib lam oa ob wo) (rows x (16376 + r.val)) (part 0 c) := by
  unfold zrow hrow par rows part
  have hr : 16376 + r.val < 16384 := by omega
  simp only [hr, dite_true]
  pointwise [R_main_v138]

variable (y ga : FVec Ideal S16384x512 .f32)

theorem merged_at (s : State Ideal) (hs : ∀ (r : Fin 16384) (c : Fin 1024), s.main_v95_4 (ix2 r c) = state (par g w cw cb rw rb iw ib lam oa ob wo) (rows x) (r.val + 1) c)
    (r : Fin 16384) (c : Fin 1024) :
    R_main_v137 s x y ga g w oa ob wo (ix2 r c)
      = mrow (par g w cw cb rw rb iw ib lam oa ob wo) (rows x r.val) (rows y r.val) (rows ga r.val) (state (par g w cw cb rw rb iw ib lam oa ob wo) (rows x) (r.val + 1)) c := by
  rw [show state (par g w cw cb rw rb iw ib lam oa ob wo) (rows x) (r.val + 1) = fun l => s.main_v95_4 (ix2 r l) from funext fun l => (hs r l).symm]
  unfold mrow zrow hrow par rows part sgm
  pointwise [R_main_v137]

end Cert.Lru.Ref

end
-- ==== Proof.Lru.Scan.lean ====
/-
  A first-order recurrence over a run of rows, composed from windows: the product of the last `n` decays and the sum of
  the last `n` inputs, each carried forward. Two adjacent windows compose by one multiply-add, so windows double; the
  window over everything is the recurrence.
-/
module

public import proofs.«01_k».proof.Proof.Lru.Alg

@[expose] public section

noncomputable section

namespace Cert.Lru

variable (a u : ℕ → EReal)

/-- The product of the `n` decays ending at row `t`. -/
def PA : ℕ → ℕ → EReal
  | 0, _ => 1
  | n + 1, t => PA n t * a (t - n)

/-- What the `n` inputs ending at row `t` contribute there. -/
def PB : ℕ → ℕ → EReal
  | 0, _ => 0
  | n + 1, t => PA a n t * u (t - n) + PB n t

variable (ha : ∀ t, ∃ r : ℝ, 0 ≤ r ∧ a t = (r : EReal))

include ha

theorem PA_real (n t : ℕ) : ∃ r : ℝ, 0 ≤ r ∧ PA a n t = (r : EReal) := by
  induction n with
  | zero => exact ⟨1, zero_le_one, rfl⟩
  | succ n ih =>
    obtain ⟨r, hr, e⟩ := ih
    obtain ⟨s, hs, f⟩ := ha (t - n)
    exact ⟨r * s, mul_nonneg hr hs, by rw [PA, e, f, EReal.coe_mul]⟩

omit ha in
/-- A nonnegative real distributes over any sum. -/
theorem real_mul_add {p : EReal} (h : ∃ r : ℝ, 0 ≤ r ∧ p = (r : EReal)) (x y : EReal) : p * (x + y) = p * x + p * y := by
  obtain ⟨r, hr, rfl⟩ := h
  exact EReal.left_distrib_of_nonneg_of_ne_top (by exact_mod_cast hr) (EReal.coe_ne_top r) x y

omit ha in
theorem PA_add (m n t : ℕ) : PA a (m + n) t = PA a m t * PA a n (t - m) := by
  induction n with
  | zero => rw [Nat.add_zero, PA, mul_one]
  | succ n ih => rw [← Nat.add_assoc, PA, ih, PA, mul_assoc, Nat.sub_sub]

theorem PB_add (m n t : ℕ) : PB a u (m + n) t = PA a m t * PB a u n (t - m) + PB a u m t := by
  induction n with
  | zero => rw [Nat.add_zero, PB, mul_zero, zero_add]
  | succ n ih =>
    rw [← Nat.add_assoc, PB, ih, PA_add, PB, real_mul_add (PA_real a ha m t), mul_assoc, Nat.sub_sub, add_assoc]

omit ha in
/-- One doubling of a decay window. -/
theorem PA_double (d r : ℕ) (h : d ≤ r) :
    PA a (min d (r + 1)) r * PA a (min d (r - d + 1)) (r - d) = PA a (min (2 * d) (r + 1)) r := by
  rw [show min (2 * d) (r + 1) = d + min d (r - d + 1) by omega, PA_add, show min d (r + 1) = d by omega]

/-- One doubling of an input window. -/
theorem PB_double (d r : ℕ) (h : d ≤ r) :
    PA a (min d (r + 1)) r * PB a u (min d (r - d + 1)) (r - d) + PB a u (min d (r + 1)) r
      = PB a u (min (2 * d) (r + 1)) r := by
  rw [show min (2 * d) (r + 1) = d + min d (r - d + 1) by omega, PB_add a u ha, show min d (r + 1) = d by omega]

/-- The whole window applied to the state before row 0 is the recurrence. -/
theorem PB_state (s : ℕ → EReal) (hs : ∀ t, s (t + 1) = a t * s t + u t) (t : ℕ) :
    PA a (t + 1) t * s 0 + PB a u (t + 1) t = s (t + 1) := by
  induction t with
  | zero => rw [hs, PA, PA, PB, PB, PA, one_mul, one_mul, add_zero]
  | succ t ih =>
    have e : t + 1 + 1 = 1 + (t + 1) := by omega
    rw [hs (t + 1), ← ih, e, PA_add, PB_add a u ha, show t + 1 - 1 = t by omega]
    have h1 : PA a 1 (t + 1) = a (t + 1) := by rw [PA, PA, one_mul]; rfl
    have h2 : PB a u 1 (t + 1) = u (t + 1) := by rw [PB, PB, PA, one_mul, add_zero]; rfl
    rw [h1, h2, real_mul_add (ha (t + 1)), mul_assoc, add_assoc]

end Cert.Lru

end
-- ==== Proof.Lru.Block.lean ====
/-
  What one grid point of the kernel leaves in its output blocks and its two carried scratches, opened from the generated
  case terms: the same functions of the input blocks, the eight carried rows and the carried state at the first point
  (both zero) and at every later one.
-/
module

public import proofs.«01_k».proof.Proof.Gen.KernelIdeal.Frame
public import Idealize.ShloMosaic.Lib.Pipeline.Value
public import Idealize.ShloMosaic.Lib.Tactic
public import Idealize.ShloMosaic.Lib.WritesUnit
public import Idealize.ShloMosaic.Lib.VecWindow
public import Idealize.ShloMosaic.Lib.Pointwise

@[expose] public section

set_option maxRecDepth 16384

noncomputable section

namespace Cert.Lru.Block

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- The scratch of projected rows: eight rows of the block before, then this block's. -/
def scr (old : Vec F S264x1024 .f32) (w : Vec F S256x1024 .f32) : Vec F S264x1024 .f32 := fun j =>
  if h : 8 ≤ (j 0).val then
    w (ix2 ⟨(j 0).val - 8, by have : (j 0).val < 264 := (j 0).isLt; omega⟩ (j 1))
  else old j

/-- Scratch contents whose first eight rows are `p`. -/
def top (p : Vec F S8x1024 .f32) : Vec F S264x1024 .f32 := fun j =>
  p (ix2 ⟨(j 0).val % 8, by omega⟩ (j 1))

theorem read_scr {sg : RefSig} {κ : Kind} {sp : Space} (v : View sg κ sp S264x1024 .f32) (f : v.ty.Contents (Elt F))
    (w : Vec F S256x1024 .f32) (L : List (View.Piece (Elt F) S264x1024 .f32)) :
    v.read (Elt F) (v.writes (Elt F) f
        (⟨Rect.unit ![8, 0] ![256, 1024] inb_S264x1024_S256x1024_8_0, w⟩ :: L))
      = scr (v.read (Elt F) (v.writes (Elt F) f L)) w := by
  funext j
  have hj : (j 0).val < 264 := (j 0).isLt
  unfold scr
  by_cases h : 8 ≤ (j 0).val
  · rw [dif_pos h]
    refine View.read_writes_cons_unit_of_mem v f _ w L _ (ix2 ⟨(j 0).val - 8, by omega⟩ (j 1)) rfl fun a => ?_
    match a with
    | ⟨0, _⟩ => show (j 0).val = 8 + ((j 0).val - 8); omega
    | ⟨1, _⟩ => exact (Nat.zero_add _).symm
  · rw [dif_neg h]
    exact View.read_writes_cons_unit_of_not_mem v f _ w L j rfl 0 (Or.inl (Nat.lt_of_not_le h))

theorem read_top {sg : RefSig} {κ : Kind} {sp : Space} (v : View sg κ sp S264x1024 .f32) (f : v.ty.Contents (Elt F))
    (w : Vec F S256x1024 .f32) (p : Vec F S8x1024 .f32) (L : List (View.Piece (Elt F) S264x1024 .f32)) :
    scr (v.read (Elt F) (v.writes (Elt F) f
        (⟨Rect.unit ![0, 0] ![8, 1024] inb_S264x1024_S8x1024_0_0, p⟩ :: L))) w = scr (top p) w := by
  funext j
  have hj : (j 0).val < 264 := (j 0).isLt
  unfold scr
  by_cases h : 8 ≤ (j 0).val
  · rw [dif_pos h, dif_pos h]
  · rw [dif_neg h, dif_neg h]
    refine View.read_writes_cons_unit_of_mem v f _ p L _ (ix2 ⟨(j 0).val % 8, by omega⟩ (j 1)) rfl fun a => ?_
    match a with
    | ⟨0, _⟩ => show (j 0).val = 0 + (j 0).val % 8; omega
    | ⟨1, _⟩ => exact (Nat.zero_add _).symm

theorem read_whole {sg : RefSig} {κ : Kind} {sp : Space} (v : View sg κ sp S8x1024 .f32) (f : v.ty.Contents (Elt F))
    (p : Vec F S8x1024 .f32) (L : List (View.Piece (Elt F) S8x1024 .f32)) :
    v.read (Elt F) (v.writes (Elt F) f
        (⟨Rect.unit ![0, 0] ![8, 1024] inb_S8x1024_S8x1024_0_0, p⟩ :: L)) = p := by
  exact View.read_writes_full v f _ p L

section vals

variable (x3 : Vec F S4x1024 .f32) (x4 : Vec F S1x1024 .f32) (x5 : Vec F S1024x1024 .bf16) (x6 : Vec F S1x1024 .f32)
  (x7 : Vec F S1024x1024 .bf16) (x8 x9 : Vec F S1x1024 .f32) (old : Vec F S264x1024 .f32) (w : Vec F S256x1024 .f32)
  (h : Vec F S8x1024 .f32)

/-- Tap `0`'s product and the bias. -/
def tap0 : FVec F S256x1024 .f32 :=
  k0_pay6 x4 (View.ld x3 (Rect.unit ![0, 0] ![1, 1024] inb_S4x1024_S1x1024_0_0))
    (View.ld (scr old w) (Rect.unit ![5, 0] ![256, 1024] inb_S264x1024_S256x1024_5_0))

/-- The convolved block. -/
def xcV : FVec F S256x1024 .f32 :=
  k0_pay7 (tap0 x3 x4 old w) (View.ld x3 (Rect.unit ![1, 0] ![1, 1024] inb_S4x1024_S1x1024_1_0))
    (View.ld (scr old w) (Rect.unit ![6, 0] ![256, 1024] inb_S264x1024_S256x1024_6_0))
    (View.ld x3 (Rect.unit ![2, 0] ![1, 1024] inb_S4x1024_S1x1024_2_0))
    (View.ld (scr old w) (Rect.unit ![7, 0] ![256, 1024] inb_S264x1024_S256x1024_7_0))
    (View.ld x3 (Rect.unit ![3, 0] ![1, 1024] inb_S4x1024_S1x1024_3_0)) w

/-- The recurrence gate. -/
def rV : FVec F S256x1024 .f32 :=
  k0_pay9 (tap0 x3 x4 old w) (View.ld x3 (Rect.unit ![1, 0] ![1, 1024] inb_S4x1024_S1x1024_1_0))
    (View.ld (scr old w) (Rect.unit ![6, 0] ![256, 1024] inb_S264x1024_S256x1024_6_0))
    (View.ld x3 (Rect.unit ![2, 0] ![1, 1024] inb_S4x1024_S1x1024_2_0))
    (View.ld (scr old w) (Rect.unit ![7, 0] ![256, 1024] inb_S264x1024_S256x1024_7_0))
    (View.ld x3 (Rect.unit ![3, 0] ![1, 1024] inb_S4x1024_S1x1024_3_0)) w x5 x6

/-- The input gate. -/
def iV : FVec F S256x1024 .f32 :=
  k0_pay11 (k0_pay10 (tap0 x3 x4 old w) (View.ld x3 (Rect.unit ![1, 0] ![1, 1024] inb_S4x1024_S1x1024_1_0))
    (View.ld (scr old w) (Rect.unit ![6, 0] ![256, 1024] inb_S264x1024_S256x1024_6_0))
    (View.ld x3 (Rect.unit ![2, 0] ![1, 1024] inb_S4x1024_S1x1024_2_0))
    (View.ld (scr old w) (Rect.unit ![7, 0] ![256, 1024] inb_S264x1024_S256x1024_7_0))
    (View.ld x3 (Rect.unit ![3, 0] ![1, 1024] inb_S4x1024_S1x1024_3_0)) w x7 x8) (Scalar.ofBits .f32 0x00000000#32)

/-- The scan's inputs after its first four steps. -/
def b4 : FVec F S256x1024 .f32 :=
  k0_pay27 (xcV x3 x4 old w) (iV x3 x4 x7 x8 old w) (k0_pay13 (rV x3 x4 x5 x6 old w) x9)
    (k0_pay14 (rV x3 x4 x5 x6 old w) x9) (k0_pay17 (rV x3 x4 x5 x6 old w) x9)
    (k0_pay18 (rV x3 x4 x5 x6 old w) x9) (k0_pay19 (rV x3 x4 x5 x6 old w) x9)

/-- The scan's decays after its first four steps. -/
def a4 : FVec F S256x1024 .f32 := k0_pay28 (k0_pay13 (rV x3 x4 x5 x6 old w) x9)

/-- The block's states. -/
def hsV : FVec F S256x1024 .f32 :=
  k0_pay29 (iota .tc S256x1024 32 [0] iota_S256x1024_d0_w32) (b4 x3 x4 x5 x6 x7 x8 x9 old w) (a4 x3 x4 x5 x6 x9 old w)
    16#32 (View.ld h (Rect.unit ![0, 0] ![1, 1024] inb_S8x1024_S1x1024_0_0))

/-- The last state, eight times over. -/
def lastV : FVec F S8x1024 .f32 :=
  k0_pay31 (k0_pay30 (iota .tc S256x1024 32 [0] iota_S256x1024_d0_w32) (b4 x3 x4 x5 x6 x7 x8 x9 old w)
    (a4 x3 x4 x5 x6 x9 old w) 16#32 (View.ld h (Rect.unit ![0, 0] ![1, 1024] inb_S8x1024_S1x1024_0_0)))

/-- The last eight projected rows. -/
def tailV : Vec F S8x1024 .f32 := fun j =>
  w (ix2 ⟨248 + (j 0).val, by have : (j 0).val < 8 := (j 0).isLt; omega⟩ (j 1))

theorem ld_tail : View.ld (scr old w) (Rect.unit ![256, 0] ![8, 1024] inb_S264x1024_S8x1024_256_0) = tailV w := by
  funext j
  have hj : (j 0).val < 8 := (j 0).isLt
  refine (dif_pos (show 8 ≤ 256 + 1 * (j 0).val by omega)).trans ?_
  unfold tailV
  refine congrArg w (funext fun a => Fin.ext ?_)
  match a with
  | ⟨0, _⟩ => show 256 + 1 * (j 0).val - 8 = 248 + (j 0).val; omega
  | ⟨1, _⟩ => show 0 + 1 * (j 1).val = (j 1).val; omega

/-- The merged block. -/
def xoV (x0 : Vec F S256x1024 .f32) (z : FVec F S256x4096 .f32) (hs : FVec F S256x1024 .f32) (x10 x11 : Vec F S256x512 .f32)
    (x12 : Vec F S512x1024 .bf16) (x13 x14 : Vec F S1024x1024 .bf16) : FVec F S256x1024 .f32 :=
  k0_pay1 x0 hs (k0_pay33 z) (k0_pay34 z) (k0_pay35 z) (k0_pay36 x10 x11 x12) (k0_pay37 z) x13 x14

end vals

variable (c : Dev nD) (i : grid0.Coords)
  (a1 : Memref sig .tc .vmem S256x1024 .f32) (h1 : a1.IsWhole)
  (a2 : Memref sig .tc .vmem S1x1024 .f32) (h2 : a2.IsWhole)
  (a3 : Memref sig .tc .vmem S1024x4096 .bf16) (h3 : a3.IsWhole)
  (a4 : Memref sig .tc .vmem S4x1024 .f32) (h4 : a4.IsWhole)
  (a5 : Memref sig .tc .vmem S1x1024 .f32) (h5 : a5.IsWhole)
  (a6 : Memref sig .tc .vmem S1024x1024 .bf16) (h6 : a6.IsWhole)
  (a7 : Memref sig .tc .vmem S1x1024 .f32) (h7 : a7.IsWhole)
  (a8 : Memref sig .tc .vmem S1024x1024 .bf16) (h8 : a8.IsWhole)
  (a9 : Memref sig .tc .vmem S1x1024 .f32) (h9 : a9.IsWhole)
  (a10 : Memref sig .tc .vmem S1x1024 .f32) (h10 : a10.IsWhole)
  (a11 : Memref sig .tc .vmem S256x512 .f32) (h11 : a11.IsWhole)
  (a12 : Memref sig .tc .vmem S256x512 .f32) (h12 : a12.IsWhole)
  (a13 : Memref sig .tc .vmem S512x1024 .bf16) (h13 : a13.IsWhole)
  (a14 : Memref sig .tc .vmem S1024x1024 .bf16) (h14 : a14.IsWhole)
  (a15 : Memref sig .tc .vmem S1024x1024 .bf16) (h15 : a15.IsWhole)
  (a16 : Memref sig .tc .vmem S256x1024 .f32) (h16 : a16.IsWhole)
  (a17 : Memref sig .tc .vmem S8x1024 .f32) (h17 : a17.IsWhole)
  (a18 : Memref sig .tc .vmem S8x1024 .f32) (h18 : a18.IsWhole)
  (a19 : Memref sig .tc .vmem S264x1024 .f32) (h19 : a19.IsWhole)
  (a20 : Memref sig .tc .vmem S8x1024 .f32) (h20 : a20.IsWhole)
variable (x0 : Vec F S256x1024 .f32) (x1 : Vec F S1x1024 .f32) (x2 : Vec F S1024x4096 .bf16) (x3 : Vec F S4x1024 .f32) (x4 : Vec F S1x1024 .f32) (x5 : Vec F S1024x1024 .bf16) (x6 : Vec F S1x1024 .f32) (x7 : Vec F S1024x1024 .bf16) (x8 : Vec F S1x1024 .f32) (x9 : Vec F S1x1024 .f32) (x10 : Vec F S256x512 .f32) (x11 : Vec F S256x512 .f32) (x12 : Vec F S512x1024 .bf16) (x13 : Vec F S1024x1024 .bf16) (x14 : Vec F S1024x1024 .bf16)
  (xs0 : Vec F S264x1024 .f32) (xs1 : Vec F S8x1024 .f32)

theorem out_A_17 (hc : cond0_0 i) :
    out0_A_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc
      x0 x1 x2 x3 x4 x5 x6 x7 x8 x9 x10 x11 x12 x13 x14 = lastV x3 x4 x5 x6 x7 x8 x9 (top k0_pay2) (k0_pay5 x0 x1 x2) k0_pay3 := by
  unfold out0_A_17
  rw [View.read_writes_eq_canon _ _ _ (cover0_A_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc
    x0 x1 x2 x3 x4 x5 x6 x7 x8 x9 x10 x11 x12 x13 x14)]
  unfold kernelRun0_A
  dsimp only
  sl_unfold_words
  rw [View.canon_cons_unit_zero (S := S8x1024) hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h19.read_unread, h20.read_unread,
    View.ld_unit_zero (S := S8x1024) hz, View.ld_unit_zero (S := S1x1024) hz, View.ld_unit_zero (S := S256x1024) hz, View.ld_unit_zero (S := S1024x1024) hz, View.ld_unit_zero (S := S1024x4096) hz, View.ld_unit_zero (S := S256x512) hz, View.ld_unit_zero (S := S512x1024) hz]
  try simp only [View.readCov_cons_toLoadRect]
  try simp only [View.readCov, View.readAt_eq_ld, read_scr, View.writes_nil, h19.read_unread, read_whole, read_top, ld_tail]
  try rfl

theorem sout_A_1 (hc : cond0_0 i) :
    sout0_A_1 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc
      x0 x1 x2 x3 x4 x5 x6 x7 x8 x9 x10 x11 x12 x13 x14 = lastV x3 x4 x5 x6 x7 x8 x9 (top k0_pay2) (k0_pay5 x0 x1 x2) k0_pay3 := by
  unfold sout0_A_1
  rw [View.read_writes_eq_canon _ _ _ (scover0_A_1 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc
    x0 x1 x2 x3 x4 x5 x6 x7 x8 x9 x10 x11 x12 x13 x14)]
  unfold kernelRun0_A
  dsimp only
  sl_unfold_words
  rw [View.canon_cons_unit_zero (S := S8x1024) hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h19.read_unread, h20.read_unread,
    View.ld_unit_zero (S := S8x1024) hz, View.ld_unit_zero (S := S1x1024) hz, View.ld_unit_zero (S := S256x1024) hz, View.ld_unit_zero (S := S1024x1024) hz, View.ld_unit_zero (S := S1024x4096) hz, View.ld_unit_zero (S := S256x512) hz, View.ld_unit_zero (S := S512x1024) hz]
  try simp only [View.readCov_cons_toLoadRect]
  try simp only [View.readCov, View.readAt_eq_ld, read_scr, View.writes_nil, h19.read_unread, read_whole, read_top, ld_tail]
  try rfl

theorem out_A_16 (hc : cond0_0 i) :
    out0_A_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc
      x0 x1 x2 x3 x4 x5 x6 x7 x8 x9 x10 x11 x12 x13 x14 = tailV (k0_pay5 x0 x1 x2) := by
  unfold out0_A_16
  rw [View.read_writes_eq_canon _ _ _ (cover0_A_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc
    x0 x1 x2 x3 x4 x5 x6 x7 x8 x9 x10 x11 x12 x13 x14)]
  unfold kernelRun0_A
  dsimp only
  sl_unfold_words
  rw [View.canon_cons_unit_zero (S := S8x1024) hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h19.read_unread, h20.read_unread,
    View.ld_unit_zero (S := S8x1024) hz, View.ld_unit_zero (S := S1x1024) hz, View.ld_unit_zero (S := S256x1024) hz, View.ld_unit_zero (S := S1024x1024) hz, View.ld_unit_zero (S := S1024x4096) hz, View.ld_unit_zero (S := S256x512) hz, View.ld_unit_zero (S := S512x1024) hz]
  try simp only [View.readCov_cons_toLoadRect]
  try simp only [View.readCov, View.readAt_eq_ld, read_scr, View.writes_nil, h19.read_unread, read_whole, read_top, ld_tail]
  try rfl

theorem out_A_15 (hc : cond0_0 i) :
    out0_A_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc
      x0 x1 x2 x3 x4 x5 x6 x7 x8 x9 x10 x11 x12 x13 x14 = xoV x0 (k0_pay4 x0 x1 x2) (hsV x3 x4 x5 x6 x7 x8 x9 (top k0_pay2) (k0_pay5 x0 x1 x2) k0_pay3) x10 x11 x12 x13 x14 := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc
    x0 x1 x2 x3 x4 x5 x6 x7 x8 x9 x10 x11 x12 x13 x14)]
  unfold kernelRun0_A
  dsimp only
  sl_unfold_words
  rw [View.canon_cons_unit_zero (S := S256x1024) hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h19.read_unread, h20.read_unread,
    View.ld_unit_zero (S := S8x1024) hz, View.ld_unit_zero (S := S1x1024) hz, View.ld_unit_zero (S := S256x1024) hz, View.ld_unit_zero (S := S1024x1024) hz, View.ld_unit_zero (S := S1024x4096) hz, View.ld_unit_zero (S := S256x512) hz, View.ld_unit_zero (S := S512x1024) hz]
  try simp only [View.readCov_cons_toLoadRect]
  try simp only [View.readCov, View.readAt_eq_ld, read_scr, View.writes_nil, h19.read_unread, read_whole, read_top, ld_tail]
  try rfl

theorem sout_A_0 (hc : cond0_0 i) (w : Vec F S256x1024 .f32) :
    scr (sout0_A_0 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc
      x0 x1 x2 x3 x4 x5 x6 x7 x8 x9 x10 x11 x12 x13 x14) w = scr (top (k0_pay32 (tailV (k0_pay5 x0 x1 x2)))) w := by
  unfold sout0_A_0
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h19.read_unread, h20.read_unread,
    View.ld_unit_zero (S := S8x1024) hz, View.ld_unit_zero (S := S1x1024) hz, View.ld_unit_zero (S := S256x1024) hz, View.ld_unit_zero (S := S1024x1024) hz, View.ld_unit_zero (S := S1024x4096) hz, View.ld_unit_zero (S := S256x512) hz, View.ld_unit_zero (S := S512x1024) hz]
  try simp only [View.readCov_cons_toLoadRect, read_top, read_scr, View.writes_nil]
  try simp only [View.readCov, View.readAt_eq_ld, read_scr, View.writes_nil, h19.read_unread, read_whole, read_top, ld_tail]
  try rfl

theorem out_B_17 (hc : ¬cond0_0 i) :
    out0_B_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc
      x0 x1 x2 x3 x4 x5 x6 x7 x8 x9 x10 x11 x12 x13 x14 xs0 xs1 = lastV x3 x4 x5 x6 x7 x8 x9 xs0 (k0_pay5 x0 x1 x2) xs1 := by
  unfold out0_B_17
  rw [View.read_writes_eq_canon _ _ _ (cover0_B_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc
    x0 x1 x2 x3 x4 x5 x6 x7 x8 x9 x10 x11 x12 x13 x14 xs0 xs1)]
  unfold kernelRun0_B
  dsimp only
  sl_unfold_words
  rw [View.canon_cons_unit_zero (S := S8x1024) hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h19.read_unread, h20.read_unread,
    View.ld_unit_zero (S := S8x1024) hz, View.ld_unit_zero (S := S1x1024) hz, View.ld_unit_zero (S := S256x1024) hz, View.ld_unit_zero (S := S1024x1024) hz, View.ld_unit_zero (S := S1024x4096) hz, View.ld_unit_zero (S := S256x512) hz, View.ld_unit_zero (S := S512x1024) hz]
  try simp only [View.readCov_cons_toLoadRect]
  try simp only [View.readCov, View.readAt_eq_ld, read_scr, View.writes_nil, h19.read_unread, read_whole, read_top, ld_tail]
  try rfl

theorem sout_B_1 (hc : ¬cond0_0 i) :
    sout0_B_1 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc
      x0 x1 x2 x3 x4 x5 x6 x7 x8 x9 x10 x11 x12 x13 x14 xs0 xs1 = lastV x3 x4 x5 x6 x7 x8 x9 xs0 (k0_pay5 x0 x1 x2) xs1 := by
  unfold sout0_B_1
  rw [View.read_writes_eq_canon _ _ _ (scover0_B_1 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc
    x0 x1 x2 x3 x4 x5 x6 x7 x8 x9 x10 x11 x12 x13 x14 xs0 xs1)]
  unfold kernelRun0_B
  dsimp only
  sl_unfold_words
  rw [View.canon_cons_unit_zero (S := S8x1024) hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h19.read_unread, h20.read_unread,
    View.ld_unit_zero (S := S8x1024) hz, View.ld_unit_zero (S := S1x1024) hz, View.ld_unit_zero (S := S256x1024) hz, View.ld_unit_zero (S := S1024x1024) hz, View.ld_unit_zero (S := S1024x4096) hz, View.ld_unit_zero (S := S256x512) hz, View.ld_unit_zero (S := S512x1024) hz]
  try simp only [View.readCov_cons_toLoadRect]
  try simp only [View.readCov, View.readAt_eq_ld, read_scr, View.writes_nil, h19.read_unread, read_whole, read_top, ld_tail]
  try rfl

theorem out_B_16 (hc : ¬cond0_0 i) :
    out0_B_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc
      x0 x1 x2 x3 x4 x5 x6 x7 x8 x9 x10 x11 x12 x13 x14 xs0 xs1 = tailV (k0_pay5 x0 x1 x2) := by
  unfold out0_B_16
  rw [View.read_writes_eq_canon _ _ _ (cover0_B_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc
    x0 x1 x2 x3 x4 x5 x6 x7 x8 x9 x10 x11 x12 x13 x14 xs0 xs1)]
  unfold kernelRun0_B
  dsimp only
  sl_unfold_words
  rw [View.canon_cons_unit_zero (S := S8x1024) hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h19.read_unread, h20.read_unread,
    View.ld_unit_zero (S := S8x1024) hz, View.ld_unit_zero (S := S1x1024) hz, View.ld_unit_zero (S := S256x1024) hz, View.ld_unit_zero (S := S1024x1024) hz, View.ld_unit_zero (S := S1024x4096) hz, View.ld_unit_zero (S := S256x512) hz, View.ld_unit_zero (S := S512x1024) hz]
  try simp only [View.readCov_cons_toLoadRect]
  try simp only [View.readCov, View.readAt_eq_ld, read_scr, View.writes_nil, h19.read_unread, read_whole, read_top, ld_tail]
  try rfl

theorem out_B_15 (hc : ¬cond0_0 i) :
    out0_B_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc
      x0 x1 x2 x3 x4 x5 x6 x7 x8 x9 x10 x11 x12 x13 x14 xs0 xs1 = xoV x0 (k0_pay4 x0 x1 x2) (hsV x3 x4 x5 x6 x7 x8 x9 xs0 (k0_pay5 x0 x1 x2) xs1) x10 x11 x12 x13 x14 := by
  unfold out0_B_15
  rw [View.read_writes_eq_canon _ _ _ (cover0_B_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc
    x0 x1 x2 x3 x4 x5 x6 x7 x8 x9 x10 x11 x12 x13 x14 xs0 xs1)]
  unfold kernelRun0_B
  dsimp only
  sl_unfold_words
  rw [View.canon_cons_unit_zero (S := S256x1024) hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h19.read_unread, h20.read_unread,
    View.ld_unit_zero (S := S8x1024) hz, View.ld_unit_zero (S := S1x1024) hz, View.ld_unit_zero (S := S256x1024) hz, View.ld_unit_zero (S := S1024x1024) hz, View.ld_unit_zero (S := S1024x4096) hz, View.ld_unit_zero (S := S256x512) hz, View.ld_unit_zero (S := S512x1024) hz]
  try simp only [View.readCov_cons_toLoadRect]
  try simp only [View.readCov, View.readAt_eq_ld, read_scr, View.writes_nil, h19.read_unread, read_whole, read_top, ld_tail]
  try rfl

theorem sout_B_0 (hc : ¬cond0_0 i) (w : Vec F S256x1024 .f32) :
    scr (sout0_B_0 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc
      x0 x1 x2 x3 x4 x5 x6 x7 x8 x9 x10 x11 x12 x13 x14 xs0 xs1) w = scr (top (k0_pay32 (tailV (k0_pay5 x0 x1 x2)))) w := by
  unfold sout0_B_0
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h19.read_unread, h20.read_unread,
    View.ld_unit_zero (S := S8x1024) hz, View.ld_unit_zero (S := S1x1024) hz, View.ld_unit_zero (S := S256x1024) hz, View.ld_unit_zero (S := S1024x1024) hz, View.ld_unit_zero (S := S1024x4096) hz, View.ld_unit_zero (S := S256x512) hz, View.ld_unit_zero (S := S512x1024) hz]
  try simp only [View.readCov_cons_toLoadRect, read_top, read_scr, View.writes_nil]
  try simp only [View.readCov, View.readAt_eq_ld, read_scr, View.writes_nil, h19.read_unread, read_whole, read_top, ld_tail]
  try rfl

end Cert.Lru.Block

end
-- ==== Proof.Lru.Ker.lean ====
/-
  One grid point's values at an index: over input blocks that hold the rows from `t0` on and the weights, the block
  functions of `Block.lean` are the plain forms of `Spec.lean`.
-/
module

public import proofs.«01_k».proof.Proof.Lru.Spec
public import proofs.«01_k».proof.Proof.Lru.Scan
public import proofs.«01_k».proof.Proof.Lru.Block
public import Idealize.ShloMosaic.Lib.KernelVsHost
public import Idealize.ShloMosaic.Lib.WordCmp

@[expose] public section

set_option backward.proofsInPublic true
set_option maxRecDepth 16384

noncomputable section

namespace Cert.Lru.Ker

open Idealize.ShloMosaic Idealize.ShloMosaic.TcCoe
open Cert.KernelIdeal Cert.KernelIdeal.Gen Cert.Lru.Block

/-- The weight blocks hold the weights. -/
structure Wts (P : Par) (x1 : Vec Ideal S1x1024 .f32) (x2 : Vec Ideal S1024x4096 .bf16) (x3 : Vec Ideal S4x1024 .f32)
    (x4 : Vec Ideal S1x1024 .f32) (x5 : Vec Ideal S1024x1024 .bf16) (x6 : Vec Ideal S1x1024 .f32)
    (x7 : Vec Ideal S1024x1024 .bf16) (x8 x9 : Vec Ideal S1x1024 .f32) (x12 : Vec Ideal S512x1024 .bf16)
    (x13 x14 : Vec Ideal S1024x1024 .bf16) : Prop where
  g : ∀ c, x1 (ix2 0 c) = P.g c
  wl : ∀ k c, x2 (ix2 k c) = P.wl k c
  cw : ∀ q c, x3 (ix2 q c) = P.cw q c
  cb : ∀ c, x4 (ix2 0 c) = P.cb c
  rw : ∀ k c, x5 (ix2 k c) = if blk k = blk c then P.rw (blk c) (lane k) (lane c) else 0
  rb : ∀ c, x6 (ix2 0 c) = P.rb c
  iw : ∀ k c, x7 (ix2 k c) = if blk k = blk c then P.iw (blk c) (lane k) (lane c) else 0
  ib : ∀ c, x8 (ix2 0 c) = P.ib c
  lam : ∀ c, x9 (ix2 0 c) = P.lam c
  oa : ∀ k c, x12 (ix2 k c) = P.oa k c
  ob : ∀ k c, x13 (ix2 k c) = P.ob k c
  wo : ∀ k c, x14 (ix2 k c) = P.wo k c

/-- A sum over 1024 columns of a block-diagonal row is the sum over its block. -/
theorem sum_block (f : Fin 64 → EReal) (v : Fin 1024 → EReal) (b : Fin 16) :
    ∑ k, v k * (if blk k = b then f (lane k) else 0) = ∑ l, f l * v (colOf b l) := by
  have e : ∀ k : Fin 1024, v k * (if blk k = b then f (lane k) else 0)
      = if blk k = b then f (lane k) * v k else 0 := by
    intro k
    split
    · exact mul_comm _ _
    · exact mul_zero _
  rw [Finset.sum_congr rfl fun k _ => e k, ← Finset.sum_filter]
  symm
  refine Finset.sum_nbij (fun l => colOf b l) ?_ ?_ ?_ ?_
  · intro l _
    rw [Finset.mem_filter]
    refine ⟨Finset.mem_univ _, Fin.ext ?_⟩
    show (b.val * 64 + l.val) / 64 = b.val
    omega
  · intro l _ l' _ h
    have h' : b.val * 64 + l.val = b.val * 64 + l'.val := congrArg Fin.val h
    exact Fin.ext (by omega)
  · intro k hk
    rw [Finset.coe_filter] at hk
    have hb : k.val / 64 = b.val := congrArg Fin.val hk.2
    refine ⟨lane k, Finset.mem_coe.2 (Finset.mem_univ _), Fin.ext ?_⟩
    show b.val * 64 + k.val % 64 = k.val
    omega
  · intro l _
    rw [show lane (colOf b l) = l from Fin.ext (show (b.val * 64 + l.val) % 64 = l.val by omega)]

section proj

variable (P : Par) (X : ℕ → Fin 1024 → EReal) (t0 : ℕ)
  (x0 : Vec Ideal S256x1024 .f32) (x1 : Vec Ideal S1x1024 .f32) (x2 : Vec Ideal S1024x4096 .bf16)
  (hx : ∀ (r : Fin 256) c, x0 (ix2 r c) = X (t0 + r.val) c)
  (hg : ∀ c, x1 (ix2 0 c) = P.g c) (hwl : ∀ k c, x2 (ix2 k c) = P.wl k c)

include hx hg hwl

theorem z_at (r : Fin 256) (c : Fin 4096) : k0_pay4 x0 x1 x2 (ix2 r c) = zrow P (X (t0 + r.val)) c := by
  unfold zrow hrow
  simp only [← hx, ← hg, ← hwl]
  pointwise [k0_pay4]

theorem w_at (r : Fin 256) (c : Fin 1024) : k0_pay5 x0 x1 x2 (ix2 r c) = zrow P (X (t0 + r.val)) (part 0 c) := by
  rw [← z_at P X t0 x0 x1 x2 hx hg hwl]
  pointwise [k0_pay5, part]

end proj

section conv

variable (P : Par) (X : ℕ → Fin 1024 → EReal) (t0 : ℕ) (old : Vec Ideal S264x1024 .f32) (w : Vec Ideal S256x1024 .f32)
  (hw : ∀ (r : Fin 256) c, w (ix2 r c) = zrow P (X (t0 + r.val)) (part 0 c))
  (ho : ∀ (e : Fin 3) c, old (ix2 ⟨5 + e.val, by omega⟩ c) = xpad P X (t0 + e.val) c)
  (x3 : Vec Ideal S4x1024 .f32) (x4 : Vec Ideal S1x1024 .f32)
  (hcw : ∀ q c, x3 (ix2 q c) = P.cw q c) (hcb : ∀ c, x4 (ix2 0 c) = P.cb c)

include hw ho

theorem scr_at (n : ℕ) (h5 : 5 ≤ n) (hn : n < 264) (c : Fin 1024) :
    scr old w (ix2 ⟨n, hn⟩ c) = xpad P X (t0 + (n - 5)) c := by
  by_cases h : 8 ≤ n
  · refine (dif_pos h).trans ?_
    refine (hw ⟨n - 8, by omega⟩ c).trans ?_
    unfold xpad
    rw [if_pos (by omega), show t0 + (n - 5) - 3 = t0 + (n - 8) by omega]
  · refine (dif_neg h).trans ?_
    refine Eq.trans ?_ (ho ⟨n - 5, by omega⟩ c)
    refine congrArg old (congrArg (fun i => ix2 i c) (Fin.ext ?_))
    show n = 5 + (n - 5)
    omega

/-- The scratch loaded from row `5 + q` on holds the rows that tap `q` of the convolution meets. -/
theorem ld_scr (q : ℕ) (hq : q < 4) (inb : ∀ a, (![5 + q, 0] : Fin 2 → ℕ) a + (![256, 1024] : Fin 2 → ℕ) a ≤ S264x1024.size a)
    (r : Fin 256) (c : Fin 1024) :
    View.ld (scr old w) (Rect.unit ![5 + q, 0] ![256, 1024] inb) (ix2 r c) = xpad P X (t0 + r.val + q) c :=
  (congrArg (scr old w) (funext fun a => Fin.ext (by
    match a with
    | ⟨0, _⟩ => show 5 + q + 1 * r.val = 5 + q + r.val; omega
    | ⟨1, _⟩ => show 0 + 1 * c.val = c.val; omega) : _ = ix2 ⟨5 + q + r.val, by omega⟩ c)).trans
    ((scr_at P X t0 old w hw ho _ (by omega) _ c).trans (congrArg (fun t => xpad P X t c) (by omega)))

omit hw ho in
/-- Row `q` of the convolution's weights. -/
theorem ld_tap (x3 : Vec Ideal S4x1024 .f32) (q : Fin 4)
    (inb : ∀ a, (![q.val, 0] : Fin 2 → ℕ) a + (![1, 1024] : Fin 2 → ℕ) a ≤ S4x1024.size a) (c : Fin 1024) :
    View.ld x3 (Rect.unit ![q.val, 0] ![1, 1024] inb) (ix2 0 c) = x3 (ix2 q c) :=
  congrArg x3 (funext fun a => Fin.ext (by
    match a with
    | ⟨0, _⟩ => rfl
    | ⟨1, _⟩ => show 0 + 1 * c.val = c.val; omega))

include hcw hcb

theorem xc_at (r : Fin 256) (c : Fin 1024) : xcV x3 x4 old w (ix2 r c) = xc P X (t0 + r.val) c := by
  have l0 : View.ld (scr old w) (Rect.unit ![5, 0] ![256, 1024] inb_S264x1024_S256x1024_5_0) (ix2 r c)
      = xpad P X (t0 + r.val + (0 : Fin 4).val) c := ld_scr P X t0 old w hw ho 0 (by omega) inb_S264x1024_S256x1024_5_0 r c
  have l1 : View.ld (scr old w) (Rect.unit ![6, 0] ![256, 1024] inb_S264x1024_S256x1024_6_0) (ix2 r c)
      = xpad P X (t0 + r.val + (1 : Fin 4).val) c := ld_scr P X t0 old w hw ho 1 (by omega) inb_S264x1024_S256x1024_6_0 r c
  have l2 : View.ld (scr old w) (Rect.unit ![7, 0] ![256, 1024] inb_S264x1024_S256x1024_7_0) (ix2 r c)
      = xpad P X (t0 + r.val + (2 : Fin 4).val) c := ld_scr P X t0 old w hw ho 2 (by omega) inb_S264x1024_S256x1024_7_0 r c
  have l3 : w (ix2 r c) = xpad P X (t0 + r.val + (3 : Fin 4).val) c := by
    rw [hw]
    unfold xpad
    exact (if_pos (show 3 ≤ t0 + r.val + 3 by omega)).symm
  have k0 : View.ld x3 (Rect.unit ![0, 0] ![1, 1024] inb_S4x1024_S1x1024_0_0) (ix2 0 c) = P.cw 0 c :=
    (ld_tap x3 0 inb_S4x1024_S1x1024_0_0 c).trans (hcw 0 c)
  have k1 : View.ld x3 (Rect.unit ![1, 0] ![1, 1024] inb_S4x1024_S1x1024_1_0) (ix2 0 c) = P.cw 1 c :=
    (ld_tap x3 1 inb_S4x1024_S1x1024_1_0 c).trans (hcw 1 c)
  have k2 : View.ld x3 (Rect.unit ![2, 0] ![1, 1024] inb_S4x1024_S1x1024_2_0) (ix2 0 c) = P.cw 2 c :=
    (ld_tap x3 2 inb_S4x1024_S1x1024_2_0 c).trans (hcw 2 c)
  have k3 : View.ld x3 (Rect.unit ![3, 0] ![1, 1024] inb_S4x1024_S1x1024_3_0) (ix2 0 c) = P.cw 3 c :=
    (ld_tap x3 3 inb_S4x1024_S1x1024_3_0 c).trans (hcw 3 c)
  unfold xcV tap0 xc conv
  dsimp only
  rw [← l0, ← l1, ← l2, ← l3, ← k0, ← k1, ← k2, ← k3, ← hcb]
  generalize View.ld (scr old w) (Rect.unit ![5, 0] ![256, 1024] inb_S264x1024_S256x1024_5_0) = s0
  generalize View.ld (scr old w) (Rect.unit ![6, 0] ![256, 1024] inb_S264x1024_S256x1024_6_0) = s1
  generalize View.ld (scr old w) (Rect.unit ![7, 0] ![256, 1024] inb_S264x1024_S256x1024_7_0) = s2
  generalize View.ld x3 (Rect.unit ![0, 0] ![1, 1024] inb_S4x1024_S1x1024_0_0) = c0
  generalize View.ld x3 (Rect.unit ![1, 0] ![1, 1024] inb_S4x1024_S1x1024_1_0) = c1
  generalize View.ld x3 (Rect.unit ![2, 0] ![1, 1024] inb_S4x1024_S1x1024_2_0) = c2
  generalize View.ld x3 (Rect.unit ![3, 0] ![1, 1024] inb_S4x1024_S1x1024_3_0) = c3
  pointwise [k0_pay7, k0_pay6]
  simp only [add_assoc]

theorem r_at (x5 : Vec Ideal S1024x1024 .bf16) (x6 : Vec Ideal S1x1024 .f32)
    (hm : ∀ k c, x5 (ix2 k c) = if blk k = blk c then P.rw (blk c) (lane k) (lane c) else 0)
    (hb : ∀ c, x6 (ix2 0 c) = P.rb c) (r : Fin 256) (c : Fin 1024) :
    rV x3 x4 x5 x6 old w (ix2 r c) = gate P.rw P.rb (xc P X (t0 + r.val)) c := by
  have hx := fun k => xc_at P X t0 old w hw ho x3 x4 hcw hcb r k
  unfold xcV at hx
  unfold gate sgm
  rw [← sum_block (fun k => P.rw (blk c) k (lane c)) _ (blk c), ← hb]
  simp only [← hm]
  pointwise [rV, k0_pay9, k0_pay8]
  simp only [hx, zero_sub, mul_comm]

theorem i_at (x7 : Vec Ideal S1024x1024 .bf16) (x8 : Vec Ideal S1x1024 .f32)
    (hm : ∀ k c, x7 (ix2 k c) = if blk k = blk c then P.iw (blk c) (lane k) (lane c) else 0)
    (hb : ∀ c, x8 (ix2 0 c) = P.ib c) (r : Fin 256) (c : Fin 1024) :
    iV x3 x4 x7 x8 old w (ix2 r c) = gate P.iw P.ib (xc P X (t0 + r.val)) c := by
  have hx := fun k => xc_at P X t0 old w hw ho x3 x4 hcw hcb r k
  unfold xcV at hx
  unfold gate sgm
  rw [← sum_block (fun k => P.iw (blk c) k (lane c)) _ (blk c), ← hb]
  simp only [← hm]
  pointwise [iV, k0_pay11, k0_pay10, k0_pay8]
  simp only [hx, zero_sub, mul_comm]

end conv

/-- The kernel's decay exponent. -/
theorem logA_at (rv : FVec Ideal S256x1024 .f32) (x9 : Vec Ideal S1x1024 .f32) (r : Fin 256) (c : Fin 1024) :
    k0_pay12 rv x9 (ix2 r c) = logA (rv (ix2 r c)) (-(x9 (ix2 0 c))) := by
  unfold logA softplus
  rw [← klog1p_eq (exp_abs_real _)]
  unfold klog1p
  rw [← ofBits_neg8]
  pointwise [k0_pay12]
  simp only [zero_sub]
  rfl

theorem a_at (rv : FVec Ideal S256x1024 .f32) (x9 : Vec Ideal S1x1024 .f32) (r : Fin 256) (c : Fin 1024) :
    k0_pay13 rv x9 (ix2 r c) = Ideal.exp (logA (rv (ix2 r c)) (-(x9 (ix2 0 c)))) := by
  rw [← logA_at]
  pointwise [k0_pay13]

/-- The recurrence's input before the scan. -/
def uV (xcv iv : FVec Ideal S256x1024 .f32) (rv : FVec Ideal S256x1024 .f32) (x9 : Vec Ideal S1x1024 .f32) :
    FVec Ideal S256x1024 .f32 :=
  mulf (sqrt (subf (broadcast S256x1024 (Scalar.ofBits .f32 0x00000000#32 : Ideal .f32))
      (select (k0_pay17 rv x9) (k0_pay14 rv x9)
        (select (k0_pay18 rv x9) (broadcast S256x1024 (Scalar.ofBits .f32 0xBF800000#32 : Ideal .f32)) (k0_pay19 rv x9)))))
    (mulf iv xcv)

theorem u_at (xcv iv rv : FVec Ideal S256x1024 .f32) (x9 : Vec Ideal S1x1024 .f32) (r : Fin 256) (c : Fin 1024)
    (x : EReal) (hr : rv (ix2 r c) = sgm x) :
    uV xcv iv rv x9 (ix2 r c)
      = Ideal.sqrt (-(Ideal.expm1 (((2 : ℝ) : EReal) * logA (rv (ix2 r c)) (-(x9 (ix2 0 c))))))
        * (iv (ix2 r c) * xcv (ix2 r c)) := by
  rw [hr, ← kexpm1_eq (two_logA_nonpos _ _), ← hr]
  unfold kexpm1
  rw [← ofBits_two, ← logA_at]
  have e1 : (-1 : EReal) = Ideal.ofBits .f32 0xBF800000#32 := by rw [ofBits_neg1]; rfl
  rw [e1]
  pointwise [uV, k0_pay17, k0_pay18, k0_pay19, k0_pay16, k0_pay15, k0_pay14]
  simp only [zero_sub]

/-- Rows from `d` on. -/
def live (d : BitVec 32) : IVec S256x1024 1 :=
  cmpi .sge (iota .tc S256x1024 32 [0] iota_S256x1024_d0_w32) (broadcast S256x1024 d)

/-- One doubling of the decays. -/
def stA (d : BitVec 32) (A : FVec Ideal S256x1024 .f32) : FVec Ideal S256x1024 .f32 :=
  select (live d) (mulf A (dynamicRotate 0 d none A rotates_S256x1024_d0)) A

/-- One doubling of the inputs. -/
def stB (d : BitVec 32) (A B : FVec Ideal S256x1024 .f32) : FVec Ideal S256x1024 .f32 :=
  select (live d) (addf (mulf A (dynamicRotate 0 d none B rotates_S256x1024_d0)) B) B

theorem live_at (d : ℕ) (hd : d < 256) (r : Fin 256) (c : Fin 1024) :
    live (BitVec.ofNat 32 d) (ix2 r c) = BitVec.ofBool (decide (d ≤ r.val)) := by
  show IntOp.cmpi .sge (BitVec.ofNat 32 (0 * 256 + r.val)) (BitVec.ofNat 32 d) = _
  rw [Nat.zero_mul, Nat.zero_add]
  exact WordCmp.cmpi_sge_ofNat (by omega) (by omega)

theorem rot_at (d : ℕ) (hd : d < 256) (A : FVec Ideal S256x1024 .f32) (r : Fin 256) (c : Fin 1024) (h : d ≤ r.val) :
    dynamicRotate 0 (BitVec.ofNat 32 d) none A rotates_S256x1024_d0 (ix2 r c) = A (ix2 ⟨r.val - d, by omega⟩ c) := by
  refine dynamicRotate_apply _ _ _ _ _ _ fun b => ?_
  have hn : (BitVec.ofNat 32 d).toNat = d := by rw [BitVec.toNat_ofNat]; omega
  match b with
  | ⟨0, _⟩ =>
    show r.val - d = (r.val + 256 - (BitVec.ofNat 32 d).toNat % 256) % 256
    rw [hn]; omega
  | ⟨1, _⟩ => rfl

/-- `A` and `B` hold the windows of up to `d` rows of each column's decays and inputs. -/
structure Win (a u : Fin 1024 → ℕ → EReal) (d : ℕ) (A B : FVec Ideal S256x1024 .f32) : Prop where
  A : ∀ (r : Fin 256) c, A (ix2 r c) = PA (a c) (min d (r.val + 1)) r.val
  B : ∀ (r : Fin 256) c, B (ix2 r c) = PB (a c) (u c) (min d (r.val + 1)) r.val

section scan

variable (a u : Fin 1024 → ℕ → EReal) (ha : ∀ c t, ∃ r : ℝ, 0 ≤ r ∧ a c t = (r : EReal))

theorem win_one {A B : FVec Ideal S256x1024 .f32} (hA : ∀ (r : Fin 256) c, A (ix2 r c) = a c r.val)
    (hB : ∀ (r : Fin 256) c, B (ix2 r c) = u c r.val) : Win a u 1 A B where
  A r c := by
    rw [hA, show min 1 (r.val + 1) = 0 + 1 by omega, PA, PA, one_mul]; rfl
  B r c := by
    rw [hB, show min 1 (r.val + 1) = 0 + 1 by omega, PB, PB, PA, one_mul, add_zero]; rfl

include ha

theorem win_double (d : ℕ) (hd : d < 256) {A B : FVec Ideal S256x1024 .f32} (h : Win a u d A B) :
    Win a u (2 * d) (stA (BitVec.ofNat 32 d) A) (stB (BitVec.ofNat 32 d) A B) where
  A r c := by
    show Scalar.select (live (BitVec.ofNat 32 d) (ix2 r c)) (A (ix2 r c) * _) (A (ix2 r c)) = _
    rw [live_at d hd, WordCmp.select_decide]
    by_cases hr : d ≤ r.val
    · rw [if_pos hr, rot_at d hd A r c hr, h.A, h.A]
      exact PA_double (a c) d r.val hr
    · rw [if_neg hr, h.A]
      congr 1; omega
  B r c := by
    show Scalar.select (live (BitVec.ofNat 32 d) (ix2 r c)) (A (ix2 r c) * _ + B (ix2 r c)) (B (ix2 r c)) = _
    rw [live_at d hd, WordCmp.select_decide]
    by_cases hr : d ≤ r.val
    · rw [if_pos hr, rot_at d hd B r c hr, h.A, h.B, h.B]
      exact PB_double (a c) (u c) (ha c) d r.val hr
    · rw [if_neg hr, h.B]
      congr 1; omega

end scan

theorem a4_eq (rv : FVec Ideal S256x1024 .f32) (x9 : Vec Ideal S1x1024 .f32) :
    k0_pay28 (k0_pay13 rv x9) = stA 8#32 (stA 4#32 (stA 2#32 (stA 1#32 (k0_pay13 rv x9)))) := rfl

theorem b4_eq (xcv iv rv : FVec Ideal S256x1024 .f32) (x9 : Vec Ideal S1x1024 .f32) :
    k0_pay27 xcv iv (k0_pay13 rv x9) (k0_pay14 rv x9) (k0_pay17 rv x9) (k0_pay18 rv x9) (k0_pay19 rv x9)
      = stB 8#32 (stA 4#32 (stA 2#32 (stA 1#32 (k0_pay13 rv x9))))
          (stB 4#32 (stA 2#32 (stA 1#32 (k0_pay13 rv x9)))
            (stB 2#32 (stA 1#32 (k0_pay13 rv x9)) (stB 1#32 (k0_pay13 rv x9) (uV xcv iv rv x9)))) := rfl

theorem hs_eq (A B : FVec Ideal S256x1024 .f32) (h : Vec Ideal S1x1024 .f32) :
    k0_pay29 (iota .tc S256x1024 32 [0] iota_S256x1024_d0_w32) B A 16#32 h
      = addf (mulf (stA 128#32 (stA 64#32 (stA 32#32 (stA 16#32 A))))
            (broadcastTo S256x1024 h broadcasts_S1x1024_S256x1024))
          (stB 128#32 (stA 64#32 (stA 32#32 (stA 16#32 A)))
            (stB 64#32 (stA 32#32 (stA 16#32 A)) (stB 32#32 (stA 16#32 A) (stB 16#32 A B)))) := rfl

section block

variable (P : Par) (X : ℕ → Fin 1024 → EReal) (t0 : ℕ)
  {x0 : Vec Ideal S256x1024 .f32} {x1 : Vec Ideal S1x1024 .f32} {x2 : Vec Ideal S1024x4096 .bf16} {x3 : Vec Ideal S4x1024 .f32}
  {x4 : Vec Ideal S1x1024 .f32} {x5 : Vec Ideal S1024x1024 .bf16} {x6 : Vec Ideal S1x1024 .f32}
  {x7 : Vec Ideal S1024x1024 .bf16} {x8 x9 : Vec Ideal S1x1024 .f32} {x12 : Vec Ideal S512x1024 .bf16}
  {x13 x14 : Vec Ideal S1024x1024 .bf16} (W : Wts P x1 x2 x3 x4 x5 x6 x7 x8 x9 x12 x13 x14)
  (hx : ∀ (r : Fin 256) c, x0 (ix2 r c) = X (t0 + r.val) c)
  {old : Vec Ideal S264x1024 .f32} (ho : ∀ (e : Fin 3) c, old (ix2 ⟨5 + e.val, by omega⟩ c) = xpad P X (t0 + e.val) c)
  {h : Vec Ideal S8x1024 .f32} (hh : ∀ c, h (ix2 0 c) = state P X t0 c)

include W hx ho hh

/-- The block's states are the recurrence's. -/
theorem hs_at (r : Fin 256) (c : Fin 1024) :
    hsV x3 x4 x5 x6 x7 x8 x9 old (k0_pay5 x0 x1 x2) h (ix2 r c) = state P X (t0 + r.val + 1) c := by
  have hw := w_at P X t0 x0 x1 x2 hx W.g W.wl
  have hxc := xc_at P X t0 old _ hw ho x3 x4 W.cw W.cb
  have hr := r_at P X t0 old _ hw ho x3 x4 W.cw W.cb x5 x6 W.rw W.rb
  have hi := i_at P X t0 old _ hw ho x3 x4 W.cw W.cb x7 x8 W.iw W.ib
  have hA : ∀ (r : Fin 256) c, k0_pay13 (rV x3 x4 x5 x6 old (k0_pay5 x0 x1 x2)) x9 (ix2 r c)
      = decay P (xc P X (t0 + r.val)) c := fun r c => by rw [a_at, hr, W.lam]; rfl
  have hB : ∀ (r : Fin 256) c, uV (xcV x3 x4 old (k0_pay5 x0 x1 x2)) (iV x3 x4 x7 x8 old (k0_pay5 x0 x1 x2))
      (rV x3 x4 x5 x6 old (k0_pay5 x0 x1 x2)) x9 (ix2 r c) = inp P (xc P X (t0 + r.val)) c := fun r c => by
    rw [u_at _ _ _ _ r c _ (hr r c), hr, hi, hxc, W.lam]; rfl
  have ha : ∀ (c : Fin 1024) (t : ℕ), ∃ q : ℝ, 0 ≤ q ∧ decay P (xc P X (t0 + t)) c = (q : EReal) := fun c t => by
    obtain ⟨q, h0, _, e⟩ := exp_real_of_nonpos (logA_nonpos
      (∑ k, P.rw (blk c) k (lane c) * xc P X (t0 + t) (colOf (blk c) k) + P.rb c) (-(P.lam c)))
    exact ⟨q, h0, e⟩
  have w1 := win_one (fun c t => decay P (xc P X (t0 + t)) c) (fun c t => inp P (xc P X (t0 + t)) c) hA hB
  have w2 := win_double _ _ ha 1 (by omega) w1
  have w4 := win_double _ _ ha 2 (by omega) w2
  have w8 := win_double _ _ ha 4 (by omega) w4
  have w16 := win_double _ _ ha 8 (by omega) w8
  have w32 := win_double _ _ ha 16 (by omega) w16
  have w64 := win_double _ _ ha 32 (by omega) w32
  have w128 := win_double _ _ ha 64 (by omega) w64
  have w256 := win_double _ _ ha 128 (by omega) w128
  have eA := w256.A r c
  have eB := w256.B r c
  have eh : View.ld h (Rect.unit ![0, 0] ![1, 1024] inb_S8x1024_S1x1024_0_0) (ix2 0 c) = state P X t0 c :=
    (congrArg h (funext fun a => Fin.ext (by
      match a with
      | ⟨0, _⟩ => rfl
      | ⟨1, _⟩ => show 0 + 1 * c.val = c.val; omega))).trans (hh c)
  rw [show min (2 * 128) (r.val + 1) = r.val + 1 by omega] at eA eB
  have key := PB_state (fun t => decay P (xc P X (t0 + t)) c) (fun t => inp P (xc P X (t0 + t)) c) (ha c)
    (fun t => state P X (t0 + t) c) (fun t => rfl) r.val
  unfold hsV a4 b4
  rw [a4_eq, b4_eq, hs_eq]
  refine Eq.trans ?_ key
  refine congrArg₂ (· + ·) (congrArg₂ (· * ·) eA ?_) eB
  refine Eq.trans ?_ eh
  pointwise

/-- The state after the block, eight times over. -/
theorem last_at (e : Fin 8) (c : Fin 1024) :
    lastV x3 x4 x5 x6 x7 x8 x9 old (k0_pay5 x0 x1 x2) h (ix2 e c) = state P X (t0 + 256) c := by
  refine Eq.trans ?_ (hs_at P X t0 W hx ho hh 255 c)
  unfold lastV hsV
  pointwise [k0_pay31, k0_pay30]

/-- The merged block. -/
theorem xo_at {x10 x11 : Vec Ideal S256x512 .f32} (Y GA : ℕ → Fin 512 → EReal)
    (hy : ∀ (r : Fin 256) l, x10 (ix2 r l) = Y (t0 + r.val) l) (hga : ∀ (r : Fin 256) l, x11 (ix2 r l) = GA (t0 + r.val) l)
    (r : Fin 256) (c : Fin 1024) :
    xoV x0 (k0_pay4 x0 x1 x2) (hsV x3 x4 x5 x6 x7 x8 x9 old (k0_pay5 x0 x1 x2) h) x10 x11 x12 x13 x14 (ix2 r c)
      = mrow P (X (t0 + r.val)) (Y (t0 + r.val)) (GA (t0 + r.val)) (state P X (t0 + r.val + 1)) c := by
  have hs := hs_at P X t0 W hx ho hh r
  have hz := z_at P X t0 x0 x1 x2 hx W.g W.wl r
  unfold mrow sgm
  simp only [← hs, ← hz, ← hx, ← hy, ← hga, ← W.oa, ← W.ob, ← W.wo]
  generalize hsV x3 x4 x5 x6 x7 x8 x9 old (k0_pay5 x0 x1 x2) h = hsv
  generalize k0_pay4 x0 x1 x2 = z
  pointwise [xoV, k0_pay1, k0_pay33, k0_pay34, k0_pay35, k0_pay36, k0_pay37, part]
  simp only [zero_sub]

omit ho hh

/-- The rows carried over are the rows that the next block's convolution reaches back to. -/
theorem tail_at (e : Fin 8) (c : Fin 1024) :
    tailV (k0_pay5 x0 x1 x2) (ix2 e c) = zrow P (X (t0 + (248 + e.val))) (part 0 c) :=
  w_at P X t0 x0 x1 x2 hx W.g W.wl ⟨248 + e.val, by omega⟩ c

theorem carry_at (e : Fin 3) (c : Fin 1024) :
    top (k0_pay32 (tailV (k0_pay5 x0 x1 x2))) (ix2 ⟨5 + e.val, by omega⟩ c) = xpad P X (t0 + 256 + e.val) c := by
  have h1 : top (k0_pay32 (tailV (k0_pay5 x0 x1 x2))) (ix2 ⟨5 + e.val, by omega⟩ c)
      = tailV (k0_pay5 x0 x1 x2) (ix2 ⟨5 + e.val, by omega⟩ c) := by
    unfold top
    refine Eq.trans (b := k0_pay32 (tailV (k0_pay5 x0 x1 x2)) (ix2 ⟨5 + e.val, by omega⟩ c)) ?_ ?_
    · refine congrArg (k0_pay32 (tailV (k0_pay5 x0 x1 x2))) (congrArg (fun i => ix2 i c) (Fin.ext ?_))
      show (5 + e.val) % 8 = 5 + e.val
      omega
    · pointwise [k0_pay32]
  rw [h1, tail_at P X t0 W hx]
  unfold xpad
  rw [if_pos (by omega), show t0 + 256 + e.val - 3 = t0 + (248 + (5 + e.val)) by omega]

end block

end Cert.Lru.Ker

end
-- ==== Proof.Lru.Host.lean ====
module

public import proofs.«01_k».proof.Proof.Lru.Ref
public import proofs.«01_k».proof.Proof.Lru.Ker
public import proofs.«01_k».proof.Proof.Gen.KernelIdeal.Value
public import Idealize.ShloMosaic.Lib.StableHlo.Run
public import Idealize.ShloMosaic.Lib.StableHlo.ReadAt

@[expose] public section

set_option maxRecDepth 16384

noncomputable section

namespace Cert.Lru.Host

open Idealize.ShloMosaic Idealize.ShloMosaic.TcCoe Idealize.SL.Sem
open Cert.KernelIdeal Cert.KernelIdeal.Gen

variable (m : (ℓ : Loc nD τ sig) → Buf (Elt Ideal) ℓ) (c : Dev nD)

/-- Sixteen 64-row pieces stacked: row `k` of the stack is row `k % 64` of piece `k / 64`. -/
theorem cat_at (p : Fin 16 → FVec Ideal S64x1024 .f32) (E : Fin 16 → Fin 64 → Fin 1024 → EReal)
    (h : Shape.Concatenates [S64x1024, S64x1024, S64x1024, S64x1024, S64x1024, S64x1024, S64x1024, S64x1024, S64x1024, S64x1024, S64x1024, S64x1024, S64x1024, S64x1024, S64x1024, S64x1024] S1024x1024 0)
    (hp : ∀ n r l, p n (ix2 r l) = E n r l) (k l : Fin 1024) :
    concatenate S1024x1024 0 [⟨S64x1024, p 0⟩, ⟨S64x1024, p 1⟩, ⟨S64x1024, p 2⟩, ⟨S64x1024, p 3⟩, ⟨S64x1024, p 4⟩, ⟨S64x1024, p 5⟩, ⟨S64x1024, p 6⟩, ⟨S64x1024, p 7⟩, ⟨S64x1024, p 8⟩, ⟨S64x1024, p 9⟩, ⟨S64x1024, p 10⟩, ⟨S64x1024, p 11⟩, ⟨S64x1024, p 12⟩, ⟨S64x1024, p 13⟩, ⟨S64x1024, p 14⟩, ⟨S64x1024, p 15⟩] h (ix2 k l) = E (blk k) (lane k) l := by
  rw [← hp]
  exact concatenate_ofFn_apply (t := S1024x1024) (s₁ := S64x1024) 0 p h rfl 64 rfl (ix2 k l) (blk k) rfl _ rfl (fun b hb => by
    match b with
    | ⟨0, _⟩ => exact absurd rfl hb
    | ⟨1, _⟩ => rfl)

/-- The stack of sixteen pieces, each known at an index, rounded to a narrower type (the identity in the ideal). -/
theorem cat_of {p0 p1 p2 p3 p4 p5 p6 p7 p8 p9 p10 p11 p12 p13 p14 p15 : FVec Ideal S64x1024 .f32} (E : Fin 16 → Fin 64 → Fin 1024 → EReal)
    {y : FVec Ideal S1024x1024 .f32}
    (hy : y = concatenate S1024x1024 0 [⟨S64x1024, p0⟩, ⟨S64x1024, p1⟩, ⟨S64x1024, p2⟩, ⟨S64x1024, p3⟩, ⟨S64x1024, p4⟩, ⟨S64x1024, p5⟩, ⟨S64x1024, p6⟩, ⟨S64x1024, p7⟩, ⟨S64x1024, p8⟩, ⟨S64x1024, p9⟩, ⟨S64x1024, p10⟩, ⟨S64x1024, p11⟩, ⟨S64x1024, p12⟩, ⟨S64x1024, p13⟩, ⟨S64x1024, p14⟩, ⟨S64x1024, p15⟩] concatenates_S64x1024_S64x1024_S64x1024_S64x1024_S64x1024_S64x1024_S64x1024_S64x1024_S64x1024_S64x1024_S64x1024_S64x1024_S64x1024_S64x1024_S64x1024_S64x1024_S1024x1024_d0)
    (h0 : ∀ r l, p0 (ix2 r l) = E 0 r l)
    (h1 : ∀ r l, p1 (ix2 r l) = E 1 r l)
    (h2 : ∀ r l, p2 (ix2 r l) = E 2 r l)
    (h3 : ∀ r l, p3 (ix2 r l) = E 3 r l)
    (h4 : ∀ r l, p4 (ix2 r l) = E 4 r l)
    (h5 : ∀ r l, p5 (ix2 r l) = E 5 r l)
    (h6 : ∀ r l, p6 (ix2 r l) = E 6 r l)
    (h7 : ∀ r l, p7 (ix2 r l) = E 7 r l)
    (h8 : ∀ r l, p8 (ix2 r l) = E 8 r l)
    (h9 : ∀ r l, p9 (ix2 r l) = E 9 r l)
    (h10 : ∀ r l, p10 (ix2 r l) = E 10 r l)
    (h11 : ∀ r l, p11 (ix2 r l) = E 11 r l)
    (h12 : ∀ r l, p12 (ix2 r l) = E 12 r l)
    (h13 : ∀ r l, p13 (ix2 r l) = E 13 r l)
    (h14 : ∀ r l, p14 (ix2 r l) = E 14 r l)
    (h15 : ∀ r l, p15 (ix2 r l) = E 15 r l) (k l : Fin 1024) :
    truncf .bf16 y bitsLt_bf16_f32 (ix2 k l) = E (blk k) (lane k) l := by
  subst hy
  have hn : ∀ n r l, (![p0, p1, p2, p3, p4, p5, p6, p7, p8, p9, p10, p11, p12, p13, p14, p15] : Fin 16 → FVec Ideal S64x1024 .f32) n (ix2 r l) = E n r l := by
    intro n
    fin_cases n
    exacts [h0, h1, h2, h3, h4, h5, h6, h7, h8, h9, h10, h11, h12, h13, h14, h15]
  exact cat_at _ E concatenates_S64x1024_S64x1024_S64x1024_S64x1024_S64x1024_S64x1024_S64x1024_S64x1024_S64x1024_S64x1024_S64x1024_S64x1024_S64x1024_S64x1024_S64x1024_S64x1024_S1024x1024_d0 hn k l

/-- Row `r` of the `n`-th piece: block `n` of the weights in its own columns, zeros elsewhere. -/
def piece (W : FVec Ideal S16x64x64 .f32) (n : Fin 16) (r : Fin 64) (l : Fin 1024) : EReal :=
  if blk l = n then W (ix3 n r (lane l)) else 0

/-- A block padded by `64 n` columns on the left is the piece. -/
theorem piece_lit (W : FVec Ideal S16x64x64 .f32) (n : Fin 16) (o : ℕ) (ho : o = 64 * n.val) (r : Fin 64) (l : Fin 1024) :
    (if h : o ≤ l.val ∧ l.val - o < 64 then W (ix3 n r ⟨l.val - o, h.2⟩) else 0) = piece W n r l := by
  have hb : (blk l).val = l.val / 64 := rfl
  have hl : (lane l).val = l.val % 64 := rfl
  unfold piece
  split_ifs with h1 h2 h2
  · congr 2
    apply Fin.ext
    rw [hl]
    dsimp only
    omega
  · exact absurd (Fin.ext (by omega)) h2
  · refine absurd ?_ h1
    have := congrArg Fin.val h2
    omega
  · rfl

/-- The first block needs no columns on the left. -/
theorem piece_zero (W : FVec Ideal S16x64x64 .f32) (r : Fin 64) (l : Fin 1024) :
    (if h : l.val < 64 then W (ix3 0 r ⟨l.val, h⟩) else 0) = piece W 0 r l := by
  rw [← piece_lit W 0 0 rfl]
  simp

/-- The block-diagonal matrix of sixteen blocks. -/
def diag (W : FVec Ideal S16x64x64 .f32) (k l : Fin 1024) : EReal :=
  if blk k = blk l then W (ix3 (blk l) (lane k) (lane l)) else 0

/-- The piece of row `k`, in the form used by the block mathematics. -/
theorem piece_blk (W : FVec Ideal S16x64x64 .f32) (k l : Fin 1024) :
    piece W (blk k) (lane k) l = diag W k l := by
  unfold piece diag
  by_cases e : blk l = blk k
  · rw [if_pos e, if_pos e.symm, e]
  · rw [if_neg e, if_neg (fun h => e h.symm)]

/-- The norm gains as a row. -/
theorem v0 (k : Fin 1024) : V m c main_v0 (ix2 0 k) = m ((c : Thread nD τ).loc main_arg3) (ix1 k) := by
  simp only [V, hostOps0, hostOps0_1, hostOps0_2, hostOps0_3, hostOps0_4, List.flatten_cons, List.flatten_nil,
    List.append_nil, List.cons_append, List.nil_append]
  after_reads_at

/-- The convolution bias as a row. -/
theorem v3 (k : Fin 1024) : V m c main_v3 (ix2 0 k) = m ((c : Thread nD τ).loc main_arg6) (ix1 k) := by
  simp only [V, hostOps0, hostOps0_1, hostOps0_2, hostOps0_3, hostOps0_4, List.flatten_cons, List.flatten_nil,
    List.append_nil, List.cons_append, List.nil_append]
  after_reads_at

/-- The recurrence gate's bias as a row. -/
theorem v38 (k : Fin 1024) : V m c main_v38 (ix2 0 k) = m ((c : Thread nD τ).loc main_arg8) (ix1 k) := by
  simp only [V, hostOps0, hostOps0_1, hostOps0_2, hostOps0_3, hostOps0_4, List.flatten_cons, List.flatten_nil,
    List.append_nil, List.cons_append, List.nil_append]
  after_reads_at

/-- The input gate's bias as a row. -/
theorem v73 (k : Fin 1024) : V m c main_v73 (ix2 0 k) = m ((c : Thread nD τ).loc main_arg10) (ix1 k) := by
  simp only [V, hostOps0, hostOps0_1, hostOps0_2, hostOps0_3, hostOps0_4, List.flatten_cons, List.flatten_nil,
    List.append_nil, List.cons_append, List.nil_append]
  after_reads_at

/-- The decay parameters as a row. -/
theorem v74 (k : Fin 1024) : V m c main_v74 (ix2 0 k) = m ((c : Thread nD τ).loc main_arg11) (ix1 k) := by
  simp only [V, hostOps0, hostOps0_1, hostOps0_2, hostOps0_3, hostOps0_4, List.flatten_cons, List.flatten_nil,
    List.append_nil, List.cons_append, List.nil_append]
  after_reads_at

/-- The output weights of the attention branch. -/
theorem v75 (k : Fin 512) (l : Fin 1024) :
    V m c main_v75 (ix2 k l) = m ((c : Thread nD τ).loc main_arg12) (ix2 k l) := by
  simp only [V, hostOps0, hostOps0_1, hostOps0_2, hostOps0_3, hostOps0_4, List.flatten_cons, List.flatten_nil,
    List.append_nil, List.cons_append, List.nil_append]
  after_reads_at

/-- The output weights of the recurrent branch. -/
theorem v76 (k : Fin 1024) (l : Fin 1024) :
    V m c main_v76 (ix2 k l) = m ((c : Thread nD τ).loc main_arg13) (ix2 k l) := by
  simp only [V, hostOps0, hostOps0_1, hostOps0_2, hostOps0_3, hostOps0_4, List.flatten_cons, List.flatten_nil,
    List.append_nil, List.cons_append, List.nil_append]
  after_reads_at

/-- The last output weights. -/
theorem v77 (k : Fin 1024) (l : Fin 1024) :
    V m c main_v77 (ix2 k l) = m ((c : Thread nD τ).loc main_arg14) (ix2 k l) := by
  simp only [V, hostOps0, hostOps0_1, hostOps0_2, hostOps0_3, hostOps0_4, List.flatten_cons, List.flatten_nil,
    List.append_nil, List.cons_append, List.nil_append]
  after_reads_at

/-- The recurrent columns of the input weights. -/
theorem v2 (k : Fin 1024) (l : Fin 4096) :
    V m c main_v2 (ix2 k l) = m ((c : Thread nD τ).loc main_arg4) (ix2 k ⟨2632 + l.val, by omega⟩) := by
  simp only [V, hostOps0, hostOps0_1, hostOps0_2, hostOps0_3, hostOps0_4, List.flatten_cons, List.flatten_nil,
    List.append_nil, List.cons_append, List.nil_append]
  after_reads_at

/-- The recurrence gate's weights as a block-diagonal matrix. -/
theorem v37 (k l : Fin 1024) : V m c main_v37 (ix2 k l)
    = diag (m ((c : Thread nD τ).loc main_arg7)) k l := by
  refine Eq.trans ?_ (piece_blk (m ((c : Thread nD τ).loc main_arg7)) k l)
  simp only [V, hostOps0, hostOps0_1, hostOps0_2, hostOps0_3, hostOps0_4, List.flatten_cons, List.flatten_nil,
    List.append_nil, List.cons_append, List.nil_append]
  after_reads_simp
  refine cat_of (piece (m ((c : Thread nD τ).loc main_arg7))) rfl ?_ ?_ ?_ ?_ ?_ ?_ ?_ ?_ ?_ ?_ ?_ ?_ ?_ ?_ ?_ ?_ k l
  all_goals
    intro r l
    simp only [Matrix.cons_val, StableHlo.TRef.ofBuf]
    erw [cast_eq]
    after_reads_at
    first
      | exact piece_zero _ r l
      | exact piece_lit (m ((c : Thread nD τ).loc main_arg7)) _ _ (by rfl) r l

/-- The input gate's weights as a block-diagonal matrix. -/
theorem v72 (k l : Fin 1024) : V m c main_v72 (ix2 k l)
    = diag (m ((c : Thread nD τ).loc main_arg9)) k l := by
  refine Eq.trans ?_ (piece_blk (m ((c : Thread nD τ).loc main_arg9)) k l)
  simp only [V, hostOps0, hostOps0_1, hostOps0_2, hostOps0_3, hostOps0_4, List.flatten_cons, List.flatten_nil,
    List.append_nil, List.cons_append, List.nil_append]
  after_reads_simp
  refine cat_of (piece (m ((c : Thread nD τ).loc main_arg9))) rfl ?_ ?_ ?_ ?_ ?_ ?_ ?_ ?_ ?_ ?_ ?_ ?_ ?_ ?_ ?_ ?_ k l
  all_goals
    intro r l
    simp only [Matrix.cons_val, StableHlo.TRef.ofBuf]
    erw [cast_eq]
    after_reads_at
    first
      | exact piece_zero _ r l
      | exact piece_lit (m ((c : Thread nD τ).loc main_arg9)) _ _ (by rfl) r l

end Cert.Lru.Host
-- ==== Proof.Lru.Arr.lean ====
module

public import proofs.«01_k».proof.Proof.Lru.Host
public import proofs.«01_k».proof.Proof.Gen.KernelIdeal.Value

@[expose] public section

set_option maxRecDepth 16384

noncomputable section

/-! # The kernel's blocks over its arrays -/

namespace Cert.Lru.Arr

open Idealize.ShloMosaic Idealize.ShloMosaic.TcCoe Idealize.SL.Sem
open Cert.KernelIdeal Cert.KernelIdeal.Gen Cert.Lru Cert.Lru.Block

variable (m : (ℓ : Loc nD τ sig) → Buf (Elt Ideal) ℓ) (c : Dev nD)

/-- Where the windows stand: three of them move down with the point, the others stay. -/
theorem idx_at : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0) :=
  (by decide +kernel : ∀ t : Fin grid0.N, _)

theorem w0 (t : Fin cfg0.N) (k : Fin 256) (l : Fin 1024) :
    iblk m c 0 t (ix2 k l) = V m c main_arg0 (ix2 ⟨256 * t.val + k.val, by have := lt_of_lt_of_eq t.isLt N_0; omega⟩ l) := by
  refine congrArg (V m c main_arg0) (funext fun a => Fin.ext ?_)
  obtain ⟨i0, i1⟩ := (idx_at t).1
  match a with
  | ⟨0, _⟩ => show win0_0.index t (0 : Fin 2) * 256 + 1 * k.val = 256 * t.val + k.val; rw [i0]; omega
  | ⟨1, _⟩ => show win0_0.index t (1 : Fin 2) * 1024 + 1 * l.val = l.val; rw [i1]; omega

theorem w1 (t : Fin cfg0.N) (k : Fin 1) (l : Fin 1024) :
    iblk m c 1 t (ix2 k l) = V m c main_v0 (ix2 k l) := by
  refine congrArg (V m c main_v0) (funext fun a => Fin.ext ?_)
  obtain ⟨i0, i1⟩ := (idx_at t).2.1
  match a with
  | ⟨0, _⟩ => show win0_1.index t (0 : Fin 2) * 1 + 1 * k.val = k.val; rw [i0]; omega
  | ⟨1, _⟩ => show win0_1.index t (1 : Fin 2) * 1024 + 1 * l.val = l.val; rw [i1]; omega

theorem w2 (t : Fin cfg0.N) (k : Fin 1024) (l : Fin 4096) :
    iblk m c 2 t (ix2 k l) = V m c main_v2 (ix2 k l) := by
  refine congrArg (V m c main_v2) (funext fun a => Fin.ext ?_)
  obtain ⟨i0, i1⟩ := (idx_at t).2.2.1
  match a with
  | ⟨0, _⟩ => show win0_2.index t (0 : Fin 2) * 1024 + 1 * k.val = k.val; rw [i0]; omega
  | ⟨1, _⟩ => show win0_2.index t (1 : Fin 2) * 4096 + 1 * l.val = l.val; rw [i1]; omega

theorem w3 (t : Fin cfg0.N) (k : Fin 4) (l : Fin 1024) :
    iblk m c 3 t (ix2 k l) = V m c main_arg5 (ix2 k l) := by
  refine congrArg (V m c main_arg5) (funext fun a => Fin.ext ?_)
  obtain ⟨i0, i1⟩ := (idx_at t).2.2.2.1
  match a with
  | ⟨0, _⟩ => show win0_3.index t (0 : Fin 2) * 4 + 1 * k.val = k.val; rw [i0]; omega
  | ⟨1, _⟩ => show win0_3.index t (1 : Fin 2) * 1024 + 1 * l.val = l.val; rw [i1]; omega

theorem w4 (t : Fin cfg0.N) (k : Fin 1) (l : Fin 1024) :
    iblk m c 4 t (ix2 k l) = V m c main_v3 (ix2 k l) := by
  refine congrArg (V m c main_v3) (funext fun a => Fin.ext ?_)
  obtain ⟨i0, i1⟩ := (idx_at t).2.2.2.2.1
  match a with
  | ⟨0, _⟩ => show win0_4.index t (0 : Fin 2) * 1 + 1 * k.val = k.val; rw [i0]; omega
  | ⟨1, _⟩ => show win0_4.index t (1 : Fin 2) * 1024 + 1 * l.val = l.val; rw [i1]; omega

theorem w5 (t : Fin cfg0.N) (k : Fin 1024) (l : Fin 1024) :
    iblk m c 5 t (ix2 k l) = V m c main_v37 (ix2 k l) := by
  refine congrArg (V m c main_v37) (funext fun a => Fin.ext ?_)
  obtain ⟨i0, i1⟩ := (idx_at t).2.2.2.2.2.1
  match a with
  | ⟨0, _⟩ => show win0_5.index t (0 : Fin 2) * 1024 + 1 * k.val = k.val; rw [i0]; omega
  | ⟨1, _⟩ => show win0_5.index t (1 : Fin 2) * 1024 + 1 * l.val = l.val; rw [i1]; omega

theorem w6 (t : Fin cfg0.N) (k : Fin 1) (l : Fin 1024) :
    iblk m c 6 t (ix2 k l) = V m c main_v38 (ix2 k l) := by
  refine congrArg (V m c main_v38) (funext fun a => Fin.ext ?_)
  obtain ⟨i0, i1⟩ := (idx_at t).2.2.2.2.2.2.1
  match a with
  | ⟨0, _⟩ => show win0_6.index t (0 : Fin 2) * 1 + 1 * k.val = k.val; rw [i0]; omega
  | ⟨1, _⟩ => show win0_6.index t (1 : Fin 2) * 1024 + 1 * l.val = l.val; rw [i1]; omega

theorem w7 (t : Fin cfg0.N) (k : Fin 1024) (l : Fin 1024) :
    iblk m c 7 t (ix2 k l) = V m c main_v72 (ix2 k l) := by
  refine congrArg (V m c main_v72) (funext fun a => Fin.ext ?_)
  obtain ⟨i0, i1⟩ := (idx_at t).2.2.2.2.2.2.2.1
  match a with
  | ⟨0, _⟩ => show win0_7.index t (0 : Fin 2) * 1024 + 1 * k.val = k.val; rw [i0]; omega
  | ⟨1, _⟩ => show win0_7.index t (1 : Fin 2) * 1024 + 1 * l.val = l.val; rw [i1]; omega

theorem w8 (t : Fin cfg0.N) (k : Fin 1) (l : Fin 1024) :
    iblk m c 8 t (ix2 k l) = V m c main_v73 (ix2 k l) := by
  refine congrArg (V m c main_v73) (funext fun a => Fin.ext ?_)
  obtain ⟨i0, i1⟩ := (idx_at t).2.2.2.2.2.2.2.2.1
  match a with
  | ⟨0, _⟩ => show win0_8.index t (0 : Fin 2) * 1 + 1 * k.val = k.val; rw [i0]; omega
  | ⟨1, _⟩ => show win0_8.index t (1 : Fin 2) * 1024 + 1 * l.val = l.val; rw [i1]; omega

theorem w9 (t : Fin cfg0.N) (k : Fin 1) (l : Fin 1024) :
    iblk m c 9 t (ix2 k l) = V m c main_v74 (ix2 k l) := by
  refine congrArg (V m c main_v74) (funext fun a => Fin.ext ?_)
  obtain ⟨i0, i1⟩ := (idx_at t).2.2.2.2.2.2.2.2.2.1
  match a with
  | ⟨0, _⟩ => show win0_9.index t (0 : Fin 2) * 1 + 1 * k.val = k.val; rw [i0]; omega
  | ⟨1, _⟩ => show win0_9.index t (1 : Fin 2) * 1024 + 1 * l.val = l.val; rw [i1]; omega

theorem w10 (t : Fin cfg0.N) (k : Fin 256) (l : Fin 512) :
    iblk m c 10 t (ix2 k l) = V m c main_arg1 (ix2 ⟨256 * t.val + k.val, by have := lt_of_lt_of_eq t.isLt N_0; omega⟩ l) := by
  refine congrArg (V m c main_arg1) (funext fun a => Fin.ext ?_)
  obtain ⟨i0, i1⟩ := (idx_at t).2.2.2.2.2.2.2.2.2.2.1
  match a with
  | ⟨0, _⟩ => show win0_10.index t (0 : Fin 2) * 256 + 1 * k.val = 256 * t.val + k.val; rw [i0]; omega
  | ⟨1, _⟩ => show win0_10.index t (1 : Fin 2) * 512 + 1 * l.val = l.val; rw [i1]; omega

theorem w11 (t : Fin cfg0.N) (k : Fin 256) (l : Fin 512) :
    iblk m c 11 t (ix2 k l) = V m c main_arg2 (ix2 ⟨256 * t.val + k.val, by have := lt_of_lt_of_eq t.isLt N_0; omega⟩ l) := by
  refine congrArg (V m c main_arg2) (funext fun a => Fin.ext ?_)
  obtain ⟨i0, i1⟩ := (idx_at t).2.2.2.2.2.2.2.2.2.2.2.1
  match a with
  | ⟨0, _⟩ => show win0_11.index t (0 : Fin 2) * 256 + 1 * k.val = 256 * t.val + k.val; rw [i0]; omega
  | ⟨1, _⟩ => show win0_11.index t (1 : Fin 2) * 512 + 1 * l.val = l.val; rw [i1]; omega

theorem w12 (t : Fin cfg0.N) (k : Fin 512) (l : Fin 1024) :
    iblk m c 12 t (ix2 k l) = V m c main_v75 (ix2 k l) := by
  refine congrArg (V m c main_v75) (funext fun a => Fin.ext ?_)
  obtain ⟨i0, i1⟩ := (idx_at t).2.2.2.2.2.2.2.2.2.2.2.2.1
  match a with
  | ⟨0, _⟩ => show win0_12.index t (0 : Fin 2) * 512 + 1 * k.val = k.val; rw [i0]; omega
  | ⟨1, _⟩ => show win0_12.index t (1 : Fin 2) * 1024 + 1 * l.val = l.val; rw [i1]; omega

theorem w13 (t : Fin cfg0.N) (k : Fin 1024) (l : Fin 1024) :
    iblk m c 13 t (ix2 k l) = V m c main_v76 (ix2 k l) := by
  refine congrArg (V m c main_v76) (funext fun a => Fin.ext ?_)
  obtain ⟨i0, i1⟩ := (idx_at t).2.2.2.2.2.2.2.2.2.2.2.2.2.1
  match a with
  | ⟨0, _⟩ => show win0_13.index t (0 : Fin 2) * 1024 + 1 * k.val = k.val; rw [i0]; omega
  | ⟨1, _⟩ => show win0_13.index t (1 : Fin 2) * 1024 + 1 * l.val = l.val; rw [i1]; omega

theorem w14 (t : Fin cfg0.N) (k : Fin 1024) (l : Fin 1024) :
    iblk m c 14 t (ix2 k l) = V m c main_v77 (ix2 k l) := by
  refine congrArg (V m c main_v77) (funext fun a => Fin.ext ?_)
  obtain ⟨i0, i1⟩ := (idx_at t).2.2.2.2.2.2.2.2.2.2.2.2.2.2
  match a with
  | ⟨0, _⟩ => show win0_14.index t (0 : Fin 2) * 1024 + 1 * k.val = k.val; rw [i0]; omega
  | ⟨1, _⟩ => show win0_14.index t (1 : Fin 2) * 1024 + 1 * l.val = l.val; rw [i1]; omega

end Cert.Lru.Arr
-- ==== Proof.Lru.Fold.lean ====
module

public import proofs.«01_k».proof.Proof.Lru.Arr
public import proofs.«01_k».proof.Proof.Lru.Ref
public import proofs.«01_k».proof.Proof.Lru.Ker

@[expose] public section

set_option maxRecDepth 16384

noncomputable section

/-! # What the kernel leaves, point after point -/

namespace Cert.Lru.Fold

open Idealize.ShloMosaic Idealize.ShloMosaic.TcCoe Idealize.SL.Sem
open Cert.KernelIdeal Cert.KernelIdeal.Gen Cert.Lru Cert.Lru.Block Cert.Lru.Arr

variable (m : (ℓ : Loc nD τ sig) → Buf (Elt Ideal) ℓ) (c : Dev nD)

/-- The layer's weights, read off the kernel's arguments. -/
def P : Par := Ref.par (m ((c : Thread nD τ).loc main_arg3)) (m ((c : Thread nD τ).loc main_arg4))
  (m ((c : Thread nD τ).loc main_arg5)) (m ((c : Thread nD τ).loc main_arg6)) (m ((c : Thread nD τ).loc main_arg7))
  (m ((c : Thread nD τ).loc main_arg8)) (m ((c : Thread nD τ).loc main_arg9)) (m ((c : Thread nD τ).loc main_arg10))
  (m ((c : Thread nD τ).loc main_arg11)) (m ((c : Thread nD τ).loc main_arg12)) (m ((c : Thread nD τ).loc main_arg13))
  (m ((c : Thread nD τ).loc main_arg14))

/-- The input rows. -/
def X : ℕ → Fin 1024 → EReal := Ref.rows (m ((c : Thread nD τ).loc main_arg0))

/-- The attention branch's rows. -/
def Y : ℕ → Fin 512 → EReal := Ref.rows (m ((c : Thread nD τ).loc main_arg1))

/-- The attention branch's gate rows. -/
def GA : ℕ → Fin 512 → EReal := Ref.rows (m ((c : Thread nD τ).loc main_arg2))

/-- At every point the staged weights are the layer's. -/
theorem wts (t : Fin cfg0.N) : Ker.Wts (P m c) (iblk m c 1 t) (iblk m c 2 t) (iblk m c 3 t) (iblk m c 4 t) (iblk m c 5 t)
    (iblk m c 6 t) (iblk m c 7 t) (iblk m c 8 t) (iblk m c 9 t) (iblk m c 12 t) (iblk m c 13 t) (iblk m c 14 t) where
  g k := (w1 m c t 0 k).trans (Host.v0 m c k)
  wl k l := (w2 m c t k l).trans (Host.v2 m c k l)
  cw q k := (w3 m c t q k).trans (congrFun (V_main_arg5 m c) _)
  cb k := (w4 m c t 0 k).trans (Host.v3 m c k)
  rw k l := (w5 m c t k l).trans (Host.v37 m c k l)
  rb k := (w6 m c t 0 k).trans (Host.v38 m c k)
  iw k l := (w7 m c t k l).trans (Host.v72 m c k l)
  ib k := (w8 m c t 0 k).trans (Host.v73 m c k)
  lam k := (w9 m c t 0 k).trans (Host.v74 m c k)
  oa k l := (w12 m c t k l).trans (Host.v75 m c k l)
  ob k l := (w13 m c t k l).trans (Host.v76 m c k l)
  wo k l := (w14 m c t k l).trans (Host.v77 m c k l)

theorem row_lt {n : ℕ} (v : (⟨2, ![16384, n]⟩ : Shape).Idx → EReal) {t : ℕ} (h : t < 16384) (l : Fin n) :
    Ref.rows v t l = v (ix2 ⟨t, h⟩ l) := dif_pos h

theorem x_at (t : Fin cfg0.N) (r : Fin 256) (l : Fin 1024) : iblk m c 0 t (ix2 r l) = X m c (256 * t.val + r.val) l :=
  (w0 m c t r l).trans ((congrFun (V_main_arg0 m c) _).trans
    (row_lt _ (by have := lt_of_lt_of_eq t.isLt N_0; omega) l).symm)

theorem y_at (t : Fin cfg0.N) (r : Fin 256) (l : Fin 512) : iblk m c 10 t (ix2 r l) = Y m c (256 * t.val + r.val) l :=
  (w10 m c t r l).trans ((congrFun (V_main_arg1 m c) _).trans
    (row_lt _ (by have := lt_of_lt_of_eq t.isLt N_0; omega) l).symm)

theorem ga_at (t : Fin cfg0.N) (r : Fin 256) (l : Fin 512) : iblk m c 11 t (ix2 r l) = GA m c (256 * t.val + r.val) l :=
  (w11 m c t r l).trans ((congrFun (V_main_arg2 m c) _).trans
    (row_lt _ (by have := lt_of_lt_of_eq t.isLt N_0; omega) l).symm)

/-- What the outputs and the carried scratch hold after the point that starts at row `t0`. -/
structure Inv (t0 : ℕ) (o : Vec Ideal S256x1024 .f32 × Vec Ideal S8x1024 .f32 × Vec Ideal S8x1024 .f32
    × Vec Ideal S264x1024 .f32 × Vec Ideal S8x1024 .f32) : Prop where
  xo : ∀ (r : Fin 256) l, o.1 (ix2 r l) = mrow (P m c) (X m c (t0 + r.val)) (Y m c (t0 + r.val)) (GA m c (t0 + r.val))
    (state (P m c) (X m c) (t0 + r.val + 1)) l
  tail : ∀ (e : Fin 8) l, o.2.1 (ix2 e l) = zrow (P m c) (X m c (t0 + (248 + e.val))) (part 0 l)
  last : ∀ (e : Fin 8) l, o.2.2.1 (ix2 e l) = state (P m c) (X m c) (t0 + 256) l
  car : ∀ (e : Fin 3) l, o.2.2.2.1 (ix2 ⟨5 + e.val, by omega⟩ l) = xpad (P m c) (X m c) (t0 + 256 + e.val) l
  h : ∀ (e : Fin 8) l, o.2.2.2.2 (ix2 e l) = state (P m c) (X m c) (t0 + 256) l

/-- A block's first eight rows decide what the extended block holds there. -/
theorem scr_low {old : Vec Ideal S264x1024 .f32} {w : Vec Ideal S256x1024 .f32} (e : Fin 3) (l : Fin 1024) :
    scr old w (ix2 ⟨5 + e.val, by omega⟩ l) = old (ix2 ⟨5 + e.val, by omega⟩ l) :=
  dif_neg (show ¬ 8 ≤ 5 + e.val by omega)

theorem inv_A (t : Fin cfg0.N) (h0 : t.val % 64 = 0) : Inv m c (256 * t.val) (outsAt0 m c t.val t.isLt) := by
  have ht : t.val = 0 := by have := lt_of_lt_of_eq t.isLt N_0; omega
  have hx := x_at m c t
  have ho : ∀ (e : Fin 3) l, top (F := Ideal) (k0_pay2 (F := Ideal)) (ix2 ⟨5 + e.val, by omega⟩ l) = xpad (P m c) (X m c) (256 * t.val + e.val) l := by
    intro e l
    unfold xpad
    rw [if_neg (by omega)]
    unfold top
    pointwise [k0_pay2]
  have hh : ∀ l, k0_pay3 (F := Ideal) (ix2 0 l) = state (P m c) (X m c) (256 * t.val) l := by
    intro l
    rw [ht]
    pointwise [k0_pay3, state]
  rw [outsAt0_A m c t h0]
  constructor
  · intro r l
    dsimp only
    rw [out_A_15]
    exact Ker.xo_at (P m c) (X m c) (256 * t.val) (wts m c t) hx ho hh (Y m c) (GA m c) (y_at m c t) (ga_at m c t) r l
  · intro e l
    dsimp only
    rw [out_A_16]
    exact Ker.tail_at (P m c) (X m c) (256 * t.val) (wts m c t) hx e l
  · intro e l
    dsimp only
    rw [out_A_17]
    exact Ker.last_at (P m c) (X m c) (256 * t.val) (wts m c t) hx ho hh e l
  · intro e l
    dsimp only
    refine (scr_low (w := fun _ => 0) e l).symm.trans ?_
    rw [sout_A_0, scr_low]
    exact Ker.carry_at (P m c) (X m c) (256 * t.val) (wts m c t) hx e l
  · intro e l
    dsimp only
    rw [sout_A_1]
    exact Ker.last_at (P m c) (X m c) (256 * t.val) (wts m c t) hx ho hh e l

theorem inv_B (t : Fin cfg0.N) (h0 : ¬ t.val % 64 = 0)
    (ih : Inv m c (256 * (t.val - 1)) (outsAt0 m c (t.val - 1) (Nat.lt_of_le_of_lt (Nat.sub_le _ _) t.isLt))) :
    Inv m c (256 * t.val) (outsAt0 m c t.val t.isLt) := by
  have ht : 256 * (t.val - 1) + 256 = 256 * t.val := by omega
  have hx := x_at m c t
  have ho := ih.car
  have hh := ih.h 0
  rw [ht] at ho hh
  rw [outsAt0_B m c t h0]
  constructor
  · intro r l
    dsimp only
    rw [out_B_15]
    exact Ker.xo_at (P m c) (X m c) (256 * t.val) (wts m c t) hx ho hh (Y m c) (GA m c) (y_at m c t) (ga_at m c t) r l
  · intro e l
    dsimp only
    rw [out_B_16]
    exact Ker.tail_at (P m c) (X m c) (256 * t.val) (wts m c t) hx e l
  · intro e l
    dsimp only
    rw [out_B_17]
    exact Ker.last_at (P m c) (X m c) (256 * t.val) (wts m c t) hx ho hh e l
  · intro e l
    dsimp only
    refine (scr_low (w := fun _ => 0) e l).symm.trans ?_
    rw [sout_B_0, scr_low]
    exact Ker.carry_at (P m c) (X m c) (256 * t.val) (wts m c t) hx e l
  · intro e l
    dsimp only
    rw [sout_B_1]
    exact Ker.last_at (P m c) (X m c) (256 * t.val) (wts m c t) hx ho hh e l

theorem inv : ∀ (n : ℕ) (hn : n < cfg0.N), Inv m c (256 * n) (outsAt0 m c n hn)
  | 0, hn => inv_A m c ⟨0, hn⟩ rfl
  | n + 1, hn => inv_B m c ⟨n + 1, hn⟩
    (show ¬(n + 1) % 64 = 0 by have := lt_of_lt_of_eq hn N_0; omega) (inv n (Nat.lt_of_succ_lt hn))

/-- The merged array after the run. -/
theorem merged (r : Fin 16384) (l : Fin 1024) : Value.G15 m c (ix2 r l)
    = mrow (P m c) (X m c r.val) (Y m c r.val) (GA m c r.val) (state (P m c) (X m c) (r.val + 1)) l := by
  have hN : r.val / 256 < cfg0.N := lt_of_lt_of_eq (by omega) N_0.symm
  have e := (inv m c (r.val / 256) hN).xo ⟨r.val % 256, Nat.mod_lt _ (by decide)⟩ l
  rw [Value.outsAt0_sweep m c _ hN, show 256 * (r.val / 256) + r.val % 256 = r.val by omega] at e
  have hp : Value.pt15Of (ix2 r l) = r.val / 256 := by
    show 1 * (r.val / 256 - 0) + 1 * (l.val / 1024 - 0) = _
    omega
  have hl : Value.loc15Of (ix2 r l) = ix2 ⟨r.val % 256, Nat.mod_lt _ (by decide)⟩ l := by
    funext a
    apply Fin.ext
    match a with
    | ⟨0, _⟩ => rfl
    | ⟨1, _⟩ => show l.val % 1024 = l.val; omega
  unfold Value.G15
  rw [dif_pos (by rw [hp]; exact hN), hl, Value.fold0_congr m c _ _ _ _ hp]
  exact e

/-- The projected tail after the run. -/
theorem tail (e : Fin 8) (l : Fin 1024) : Value.G16 m c (ix2 e l) = zrow (P m c) (X m c (16376 + e.val)) (part 0 l) := by
  have key : ∀ (n : ℕ) (hn : n < cfg0.N), n = 63 →
      (outsAt0 m c n hn).2.1 (ix2 e l) = zrow (P m c) (X m c (16376 + e.val)) (part 0 l) := by
    intro n hn h
    rw [show 16376 + e.val = 256 * n + (248 + e.val) by omega]
    exact (inv m c n hn).tail e l
  rw [Value.G16_last, ← Value.outsAt0_sweep m c 63 (lt_of_lt_of_eq (by decide) N_0.symm)]
  exact key 63 _ rfl

/-- The last state after the run. -/
theorem last (e : Fin 8) (l : Fin 1024) : Value.G17 m c (ix2 e l) = state (P m c) (X m c) 16384 l := by
  have key : ∀ (n : ℕ) (hn : n < cfg0.N) (k : ℕ), n = 63 → k = 16384 →
      (outsAt0 m c n hn).2.2.1 (ix2 e l) = state (P m c) (X m c) k l := by
    intro n hn k h hk
    rw [show k = 256 * n + 256 by omega]
    exact (inv m c n hn).last e l
  rw [Value.G17_last, ← Value.outsAt0_sweep m c 63 (lt_of_lt_of_eq (by decide) N_0.symm)]
  exact key 63 _ 16384 rfl rfl

end Cert.Lru.Fold

end
-- ==== Proof.Lru.Fin.lean ====
/-
  The reference's three results, in the plain form of `Spec.lean`, equal the kernel's.
-/
module

public import proofs.«01_k».proof.Proof.Lru.RefRun
public import proofs.«01_k».proof.Proof.Lru.Fold

@[expose] public section

set_option maxRecDepth 16384

noncomputable section

namespace Cert.Lru.Fin

open Idealize.ShloMosaic Idealize.ShloMosaic.TcCoe Idealize.SL.Sem
open Cert.ReferenceIdeal (S16384x1024 S16384x512 S1024 S1024x6728 S4x1024 S16x64x64 S512x1024 S1024x1024 S8x1024)
open Cert.ReferenceIdeal.Gen Cert.ReferenceIdeal.Step Cert.Lru Cert.Lru.Ref

section
variable (x : FVec Ideal S16384x1024 .f32) (g : FVec Ideal S1024 .f32) (w : FVec Ideal S1024x6728 .f32)
  (cw : FVec Ideal S4x1024 .f32) (cb : FVec Ideal S1024 .f32) (rw : FVec Ideal S16x64x64 .f32)
  (rb : FVec Ideal S1024 .f32) (iw : FVec Ideal S16x64x64 .f32) (ib lam : FVec Ideal S1024 .f32)
  (oa : FVec Ideal S512x1024 .f32) (ob wo : FVec Ideal S1024x1024 .f32)

/-- Every state of the reference's loop holds the carried state and the rows already written. -/
theorem good_states (n : ℕ) : n ≤ 16384 → Good x g w cw cb rw rb iw ib lam oa ob wo
    (RefRun.states (init x g w cw cb rw rb iw ib lam) n) n := by
  induction n with
  | zero => exact fun _ => good_init x g w cw cb rw rb iw ib lam oa ob wo
  | succ n ih => exact fun h => good_step x g w cw cb rw rb iw ib lam oa ob wo (by omega) (ih (by omega))

/-- The third result's rows are all the carried state. -/
theorem last_at {s : State Ideal} {n : ℕ} (hg : Good x g w cw cb rw rb iw ib lam oa ob wo s n) (r : Fin 8)
    (c : Fin 1024) :
    R_main_v139 s (ix2 r c) = state (par g w cw cb rw rb iw ib lam oa ob wo) (rows x) n c := by
  rw [← hg.h c]
  pointwise [R_main_v139]

variable (m : (ℓ : Loc Cert.KernelIdeal.nD Cert.KernelIdeal.τ Cert.KernelIdeal.sig) → Buf (Elt Ideal) ℓ)
  (c : Dev Cert.KernelIdeal.nD)
  (hP : Fold.P m c = par g w cw cb rw rb iw ib lam oa ob wo) (hX : Fold.X m c = rows x)

include hP hX

/-- The kernel's merged rows are the reference's. -/
theorem merged_eq (y ga : FVec Ideal S16384x512 .f32) (hY : Fold.Y m c = rows y) (hG : Fold.GA m c = rows ga)
    (s : State Ideal) (k : ℕ) (hk : k = 16384) (hg : Good x g w cw cb rw rb iw ib lam oa ob wo s k) :
    R_main_v137 s x y ga g w oa ob wo = Cert.KernelIdeal.Value.G15 m c := by
  refine funext fun i => ?_
  rw [← ix2_eta i]
  have h := Fold.merged m c (i 0) (i 1)
  rw [hP, hX, hY, hG] at h
  rw [h]
  exact Ref.merged_at x g w cw cb rw rb iw ib lam oa ob wo y ga s (fun r l => hg.hs r l (hk ▸ r.isLt)) (i 0) (i 1)

/-- The kernel's last convolution inputs are the reference's. -/
theorem tail_eq (s : State Ideal) : R_main_v138 s x g w = Cert.KernelIdeal.Value.G16 m c := by
  refine funext fun i => ?_
  rw [← ix2_eta i]
  have h := Fold.tail m c (i 0) (i 1)
  rw [hP, hX] at h
  rw [h]
  exact Ref.tail_at x g w cw cb rw rb iw ib lam oa ob wo s (i 0) (i 1)

/-- The kernel's last state is the reference's. -/
theorem last_eq (s : State Ideal) (k : ℕ) (hk : k = 16384) (hg : Good x g w cw cb rw rb iw ib lam oa ob wo s k) :
    R_main_v139 s = Cert.KernelIdeal.Value.G17 m c := by
  refine funext fun i => ?_
  rw [← ix2_eta i]
  have h := Fold.last m c (i 0) (i 1)
  rw [hP, hX, ← hk] at h
  rw [h]
  exact last_at x g w cw cb rw rb iw ib lam oa ob wo hg (i 0) (i 1)

end

end Cert.Lru.Fin

end
-- ==== Proof.Norm.Proj.lean ====
/-
  The attention branch's projection in plain words, and the reference read against it: every result is a band of columns
  of the normalised rows times the weights, as it stands or transposed.
-/
module

public import proofs.«01_k».proof.Proof.Lru.Spec
public import proofs.«01_k».proof.Proof.Gen.Reference2Ideal.Run
public import Idealize.ShloMosaic.Lib.Tactic
public import Idealize.ShloMosaic.Lib.Pointwise

@[expose] public section

set_option maxRecDepth 16384

noncomputable section

namespace Cert.Norm.Proj

open Idealize.ShloMosaic Idealize.ShloMosaic.TcCoe Idealize.SL.Sem Idealize.ShloMosaic.StableHlo
open Cert.Lru

section spec

variable {m : ℕ} (x : FVec Ideal (⟨2, ![m, 1024]⟩ : Shape) .f32) (g : FVec Ideal (⟨1, ![1024]⟩ : Shape) .f32)
  (w : FVec Ideal (⟨2, ![1024, 6728]⟩ : Shape) .f32)

/-- Row `r`, column `e` of the projection. -/
def ent (r : Fin m) (e : Fin 6728) : EReal :=
  ∑ k, hrow (fun l => x (ix2 r l)) (fun l => g (ix1 l)) k * w (ix2 k e)

/-- The columns from `o` on. -/
def band (φ : FTy) (n o : ℕ) (h : o + n ≤ 6728) : FVec Ideal (⟨2, ![m, n]⟩ : Shape) φ :=
  fun j => ent x g w (j 0) ⟨o + (j 1).val, by have : (j 1).val < n := (j 1).isLt; omega⟩

/-- The columns from `o` on, transposed. -/
def bandT (φ : FTy) (n o : ℕ) (h : o + n ≤ 6728) : FVec Ideal (⟨2, ![n, m]⟩ : Shape) φ :=
  fun j => ent x g w (j 1) ⟨o + (j 0).val, by have : (j 0).val < n := (j 0).isLt; omega⟩

/-- The query columns over `8 log 2`, transposed. -/
def queries : FVec Ideal (⟨2, ![512, m]⟩ : Shape) .bf16 :=
  fun j => ent x g w (j 1) ⟨(j 0).val, by have : (j 0).val < 512 := (j 0).isLt; omega⟩ * (((8 * Real.log 2)⁻¹ : ℝ) : EReal)

theorem band_at (φ : FTy) (n o : ℕ) (h : o + n ≤ 6728) (r : Fin m) (e : Fin n) :
    band x g w φ n o h (ix2 r e) = ent x g w r ⟨o + e.val, by omega⟩ := rfl

theorem bandT_at (φ : FTy) (n o : ℕ) (h : o + n ≤ 6728) (r : Fin m) (e : Fin n) :
    bandT x g w φ n o h (ix2 e r) = ent x g w r ⟨o + e.val, by omega⟩ := rfl

theorem queries_at (r : Fin m) (e : Fin 512) :
    queries x g w (ix2 e r) = ent x g w r ⟨e.val, by omega⟩ * (((8 * Real.log 2)⁻¹ : ℝ) : EReal) := rfl

/-- Matrices equal at every row and column are equal. -/
theorem ext2 {n k : ℕ} {A B : (⟨2, ![n, k]⟩ : Shape).Idx → EReal} (h : ∀ r e, A (ix2 r e) = B (ix2 r e)) : A = B := by
  funext j
  rw [← ix2_eta j]
  exact h _ _

end spec

section blocks

variable {N b m : ℕ} (hm : N * b = m)

include hm in
theorem row_lt (t : Fin N) (r : Fin b) : b * t.val + r.val < m := by
  have h : b * (t.val + 1) ≤ b * N := Nat.mul_le_mul_left b t.isLt
  have := r.isLt
  rw [Nat.mul_add, Nat.mul_one, Nat.mul_comm b N, hm] at h
  omega

/-- Row `r` of block `t`. -/
def row (t : Fin N) (r : Fin b) : Fin m := ⟨b * t.val + r.val, row_lt hm t r⟩

theorem exists_row (i : Fin m) : ∃ t r, row hm t r = i := by
  have hi : i.val < b * N := by rw [Nat.mul_comm, hm]; exact i.isLt
  have hb : 0 < b := Nat.pos_of_ne_zero fun h => by rw [h, Nat.zero_mul] at hi; omega
  exact ⟨⟨i.val / b, Nat.div_lt_of_lt_mul hi⟩, ⟨i.val % b, Nat.mod_lt _ hb⟩, Fin.ext (Nat.div_add_mod i.val b)⟩

/-- An array whose blocks of columns are those of `B` is `B`. -/
theorem of_cols {n : ℕ} {A B : (⟨2, ![n, m]⟩ : Shape).Idx → EReal}
    (P : Fin N → (⟨2, ![n, b]⟩ : Shape).Idx → EReal)
    (f : Fin N → (⟨2, ![n, b]⟩ : Shape).Idx → (⟨2, ![n, m]⟩ : Shape).Idx)
    (i : Fin N → Fin 2 → ℕ) (hi : ∀ t, i t 0 = 0 ∧ i t 1 = t.val)
    (f0 : ∀ t e r, (f t (ix2 e r) 0).val = i t 0 * n + 1 * e.val)
    (f1 : ∀ t e r, (f t (ix2 e r) 1).val = i t 1 * b + 1 * r.val)
    (hA : ∀ t j, A (f t j) = P t j) (hB : ∀ t e r, P t (ix2 e r) = B (ix2 e (row hm t r))) : A = B := by
  refine ext2 fun e s => ?_
  obtain ⟨t, r, rfl⟩ := exists_row hm s
  rw [← hB, ← hA]
  refine congrArg A (funext fun a => Fin.ext ?_)
  match a with
  | ⟨0, _⟩ => refine Eq.trans ?_ (f0 t e r).symm; rw [(hi t).1]; show e.val = _; omega
  | ⟨1, _⟩ =>
    refine Eq.trans ?_ (f1 t e r).symm
    rw [(hi t).2, Nat.mul_comm, Nat.one_mul]; rfl

/-- An array whose blocks of rows are those of `B` is `B`. -/
theorem of_rows {n : ℕ} {A B : (⟨2, ![m, n]⟩ : Shape).Idx → EReal}
    (P : Fin N → (⟨2, ![b, n]⟩ : Shape).Idx → EReal)
    (f : Fin N → (⟨2, ![b, n]⟩ : Shape).Idx → (⟨2, ![m, n]⟩ : Shape).Idx)
    (i : Fin N → Fin 2 → ℕ) (hi : ∀ t, i t 0 = t.val ∧ i t 1 = 0)
    (f0 : ∀ t r e, (f t (ix2 r e) 0).val = i t 0 * b + 1 * r.val)
    (f1 : ∀ t r e, (f t (ix2 r e) 1).val = i t 1 * n + 1 * e.val)
    (hA : ∀ t j, A (f t j) = P t j) (hB : ∀ t r e, P t (ix2 r e) = B (ix2 (row hm t r) e)) : A = B := by
  refine ext2 fun s e => ?_
  obtain ⟨t, r, rfl⟩ := exists_row hm s
  rw [← hB, ← hA]
  refine congrArg A (funext fun a => Fin.ext ?_)
  match a with
  | ⟨0, _⟩ =>
    refine Eq.trans ?_ (f0 t r e).symm
    rw [(hi t).1, Nat.mul_comm, Nat.one_mul]; rfl
  | ⟨1, _⟩ => refine Eq.trans ?_ (f1 t r e).symm; rw [(hi t).2]; show e.val = _; omega

end blocks

/-- Dividing by `8 · log 2`, as the reference spells the two numbers. -/
theorem div_scale (a : EReal) :
    Ideal.div a (Ideal.ofBits .f32 0x41000000#32 * Ideal.log (Ideal.ofBits .f32 0x40000000#32))
      = a * (((8 * Real.log 2)⁻¹ : ℝ) : EReal) := by
  have h8 : Ideal.ofBits .f32 0x41000000#32 = ((8 : ℝ) : EReal) := by
    simp [Ideal.ofBits, Ideal.ieee, -EReal.coe_mul, -EReal.coe_neg]; norm_num
  have hl : Real.log 2 ≠ 0 := (Real.log_pos (by norm_num)).ne'
  rw [h8, ofBits_two, Ideal.log_coe, if_neg (by norm_num), ← EReal.coe_mul, Ideal.div_coe (mul_ne_zero (by norm_num) hl), one_div]

section reference

open Cert.Reference2Ideal Cert.Reference2Ideal.Gen

variable (x : FVec Ideal S16384x1024 .f32) (g : FVec Ideal S1024 .f32) (w : FVec Ideal S1024x6728 .f32)

/-- The reference's projection. -/
def proj : FVec Ideal S16384x6728 .f32 :=
  Host.dotGeneral dot_S16384x1024_S1024x6728_S16384x6728_1_0_0_1_n_n none (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))) w

theorem proj_at (r : Fin 16384) (e : Fin 6728) : proj x g w (ix2 r e) = ent x g w r e := by
  unfold ent hrow
  pointwise [proj]

theorem queries_eq :
    truncf .bf16 (transpose S512x16384 [1, 0] (Host.divf (extractStridedSlice S16384x512 ![0, 0] (proj x g w)
      slices_S16384x6728_S16384x512_0_0) (broadcastInDim S16384x512 ![] bcast_S_S16384x512
        (mulf (constant S_ .f32 0x41000000#32) (Host.log (constant S_ .f32 0x40000000#32)))))
      transposes_S16384x512_S512x16384_1_0) bitsLt_bf16_f32 = queries x g w := by
  refine ext2 fun e r => ?_
  rw [queries_at, ← proj_at, ← div_scale]
  pointwise []

variable (m : (ℓ : Loc nD τ sig) → Buf (Elt Ideal) ℓ) (ρ : Dev nD → PrngReg)

/-- The reference ends with the bands of its projection. -/
theorem ref_run :
    θ_run defs (onTc (τ := τ) (main (F := Ideal))) ⟨m, fun _ => 0, ρ⟩ fun r => ∀ c : Dev nD, ∀ x g w,
      x = m ((c.tc : Thread nD τ).loc main_arg0) → g = m ((c.tc : Thread nD τ).loc main_arg1) →
      w = m ((c.tc : Thread nD τ).loc main_arg2) →
      (r.2.mem ((c.tc : Thread nD τ).loc main_v26) = queries x g w
      ∧ r.2.mem ((c.tc : Thread nD τ).loc main_v27) = bandT x g w .f32 512 512 (by decide)
      ∧ r.2.mem ((c.tc : Thread nD τ).loc main_v28) = bandT x g w .f32 512 1024 (by decide)
      ∧ r.2.mem ((c.tc : Thread nD τ).loc main_v30) = bandT x g w .bf16 512 2048 (by decide)
      ∧ r.2.mem ((c.tc : Thread nD τ).loc main_v31) = bandT x g w .f32 64 2560 (by decide)
      ∧ r.2.mem ((c.tc : Thread nD τ).loc main_v32) = bandT x g w .f32 8 2624 (by decide)
      ∧ r.2.mem ((c.tc : Thread nD τ).loc main_v34) = bandT x g w .bf16 512 512 (by decide)
      ∧ r.2.mem ((c.tc : Thread nD τ).loc main_v36) = bandT x g w .bf16 512 1024 (by decide)
      ∧ r.2.mem ((c.tc : Thread nD τ).loc main_v37) = band x g w .bf16 512 512 (by decide)
      ∧ r.2.mem ((c.tc : Thread nD τ).loc main_v38) = band x g w .bf16 64 2560 (by decide)
      ∧ r.2.mem ((c.tc : Thread nD τ).loc main_v17) = band x g w .f32 512 1536 (by decide)
      ∧ r.2.mem ((c.tc : Thread nD τ).loc main_arg0) = x
      ∧ r.2.mem ((c.tc : Thread nD τ).loc main_arg1) = g
      ∧ r.2.mem ((c.tc : Thread nD τ).loc main_arg2) = w) :=
  (θ_run defs _ _).mono (fun r h c x g w hx hg hw => by
    obtain ⟨e0, e1, e2, e3, e4, e5, e6, e7, e8, e9, e10, er⟩ := h c
    simp only [← hx, ← hg, ← hw] at e0 e1 e2 e3 e4 e5 e6 e7 e8 e9 e10 er
    refine ⟨e0.trans (queries_eq x g w), e1.trans ?_, e2.trans ?_, e3.trans ?_, e4.trans ?_, e5.trans ?_, e6.trans ?_, e7.trans ?_,
      e8.trans ?_, e9.trans ?_, e10.trans ?_, er⟩
    all_goals
      clear e0 e1 e2 e3 e4 e5 e6 e7 e8 e9 e10 er hx hg hw
      rw [← proj]
      refine ext2 fun r e => ?_
      first
        | rw [band_at, ← proj_at]
        | rw [bandT_at, ← proj_at]
      pointwise []) (Value.run m ρ)

end reference

end Cert.Norm.Proj

end
-- ==== Proof.Norm.ProjKer.lean ====
/-
  The projection kernel read against its plain form: its host weights, a point's blocks, and its eleven arrays.
-/
module

public import proofs.«01_k».proof.Proof.Norm.Proj
public import proofs.«01_k».proof.Proof.Gen.Kernel2Ideal.Value
public import Idealize.ShloMosaic.Lib.StableHlo.Run
public import Idealize.ShloMosaic.Lib.StableHlo.ReadAt

@[expose] public section

set_option maxRecDepth 16384

noncomputable section

namespace Cert.Norm.ProjKer

open Idealize.ShloMosaic Idealize.ShloMosaic.TcCoe Idealize.SL.Sem
open Cert.Kernel2Ideal Cert.Kernel2Ideal.Gen
open Cert.Lru Cert.Norm.Proj

section payloads

variable (p : Vec Ideal S256x1024 .f32) (q : Vec Ideal S1x1024 .f32) (a : Vec Ideal S2128x1024 .bf16)

/-- The block's normalised rows. -/
theorem norm_at (r : Fin 256) (l : Fin 1024) :
    k0_pay7 (F := Ideal) p q (ix2 r l) = hrow (fun l => p (ix2 r l)) (fun l => q (ix2 0 l)) l := by
  unfold hrow
  pointwise [k0_pay7]

/-- The weights' rows times the block's rows. -/
theorem prod_at (e : Fin 2128) (r : Fin 256) :
    k0_pay8 (F := Ideal) p q a (ix2 e r) = ∑ k, hrow (fun l => p (ix2 r l)) (fun l => q (ix2 0 l)) k * a (ix2 e k) := by
  have h : k0_pay8 (F := Ideal) p q a (ix2 e r) = ∑ k, a (ix2 e k) * k0_pay7 (F := Ideal) p q (ix2 r k) := by
    pointwise [k0_pay8]
  rw [h]
  exact Finset.sum_congr rfl fun k _ => by rw [norm_at, mul_comm]

theorem scale_value :
    Named.named (F := Ideal) κ "q_scale" (φ := .f32) 0x3E38AA3B#32 = (((8 * Real.log 2)⁻¹ : ℝ) : EReal) :=
  IdealRules.named_const.ideal_named_scalar _ _ _ _ rfl

theorem pay9_at (e : Fin 512) (r : Fin 256) :
    k0_pay9 (F := Ideal) p q a (ix2 e r)
      = k0_pay8 (F := Ideal) p q a (ix2 ⟨e.val, by omega⟩ r) * (((8 * Real.log 2)⁻¹ : ℝ) : EReal) := by
  rw [← scale_value]
  pointwise [k0_pay9]

theorem pay10_at (e : Fin 512) (r : Fin 256) :
    k0_pay10 (F := Ideal) p q a (ix2 e r) = k0_pay8 (F := Ideal) p q a (ix2 ⟨512 + e.val, by omega⟩ r) := by
  pointwise [k0_pay10]

theorem pay11_at (e : Fin 512) (r : Fin 256) :
    k0_pay11 (F := Ideal) p q a (ix2 e r) = k0_pay8 (F := Ideal) p q a (ix2 ⟨1024 + e.val, by omega⟩ r) := by
  pointwise [k0_pay11]

theorem pay12_at (e : Fin 512) (r : Fin 256) :
    k0_pay12 (F := Ideal) p q a (ix2 e r) = k0_pay8 (F := Ideal) p q a (ix2 ⟨512 + e.val, by omega⟩ r) := by
  pointwise [k0_pay12]

theorem pay13_at (e : Fin 512) (r : Fin 256) :
    k0_pay13 (F := Ideal) p q a (ix2 e r) = k0_pay8 (F := Ideal) p q a (ix2 ⟨1024 + e.val, by omega⟩ r) := by
  pointwise [k0_pay13]

theorem pay1_at (z : FVec Ideal S2128x256 .f32) (e : Fin 512) (r : Fin 256) :
    k0_pay1 (F := Ideal) z (ix2 e r) = z (ix2 ⟨1536 + e.val, by omega⟩ r) := by
  pointwise [k0_pay1]

theorem pay2_at (z : FVec Ideal S2128x256 .f32) (e : Fin 64) (r : Fin 256) :
    k0_pay2 (F := Ideal) z (ix2 e r) = z (ix2 ⟨2048 + e.val, by omega⟩ r) := by
  pointwise [k0_pay2]

theorem pay3_at (z : FVec Ideal S2128x256 .f32) (e : Fin 8) (r : Fin 256) :
    k0_pay3 (F := Ideal) z (ix2 e r) = z (ix2 ⟨2112 + e.val, by omega⟩ r) := by
  pointwise [k0_pay3]

theorem pay4_at (h : FVec Ideal S256x1024 .bf16) (b : Vec Ideal S1024x512 .bf16) (r : Fin 256) (e : Fin 512) :
    k0_pay4 (F := Ideal) h b (ix2 r e) = ∑ k, h (ix2 r k) * b (ix2 k e) := by
  pointwise [k0_pay4]

theorem pay5_at (h : FVec Ideal S256x1024 .bf16) (b : Vec Ideal S1024x64 .bf16) (r : Fin 256) (e : Fin 64) :
    k0_pay5 (F := Ideal) h b (ix2 r e) = ∑ k, h (ix2 r k) * b (ix2 k e) := by
  pointwise [k0_pay5]

theorem pay6_at (h : FVec Ideal S256x1024 .bf16) (b : Vec Ideal S1024x512 .bf16) (r : Fin 256) (e : Fin 512) :
    k0_pay6 (F := Ideal) h b (ix2 r e) = ∑ k, h (ix2 r k) * b (ix2 k e) := by
  pointwise [k0_pay6]

end payloads

section host

variable (m : (ℓ : Loc nD τ sig) → Buf (Elt Ideal) ℓ) (c : Dev nD)

/-- The arguments. -/
abbrev X : FVec Ideal S16384x1024 .f32 := m ((c.tc : Thread nD τ).loc main_arg0)
abbrev G : FVec Ideal S1024 .f32 := m ((c.tc : Thread nD τ).loc main_arg1)
abbrev W : FVec Ideal S1024x6728 .f32 := m ((c.tc : Thread nD τ).loc main_arg2)

theorem host_gain (l : Fin 1024) : V m c main_v5 (ix2 0 l) = G m c (ix1 l) := by
  simp only [V, hostOps0, hostOps0_1, hostOps0_2, List.flatten_cons, List.flatten_nil, List.append_nil,
    List.cons_append, List.nil_append]
  after_reads_at

theorem host_k (k : Fin 1024) (l : Fin 512) : V m c main_v8 (ix2 k l) = W m c (ix2 k ⟨512 + l.val, by omega⟩) := by
  simp only [V, hostOps0, hostOps0_1, hostOps0_2, List.flatten_cons, List.flatten_nil, List.append_nil,
    List.cons_append, List.nil_append]
  after_reads_at

theorem host_gate (k : Fin 1024) (l : Fin 512) : V m c main_v10 (ix2 k l) = W m c (ix2 k ⟨1536 + l.val, by omega⟩) := by
  simp only [V, hostOps0, hostOps0_1, hostOps0_2, List.flatten_cons, List.flatten_nil, List.append_nil,
    List.cons_append, List.nil_append]
  after_reads_at

theorem host_ki (k : Fin 1024) (l : Fin 64) : V m c main_v12 (ix2 k l) = W m c (ix2 k ⟨2560 + l.val, by omega⟩) := by
  simp only [V, hostOps0, hostOps0_1, hostOps0_2, List.flatten_cons, List.flatten_nil, List.append_nil,
    List.cons_append, List.nil_append]
  after_reads_at

/-- The transposed weights: rows below 1536 are the columns as they stand, the rest are 512 columns further on. -/
theorem host_att (e : Fin 2128) (k : Fin 1024) (e' : Fin 6728)
    (h : (e.val < 1536 ∧ e'.val = e.val) ∨ (1536 ≤ e.val ∧ e.val < 2120 ∧ e'.val = e.val + 512)) :
    V m c main_v6 (ix2 e k) = W m c (ix2 k e') := by
  simp only [V, hostOps0, hostOps0_1, hostOps0_2, List.flatten_cons, List.flatten_nil, List.append_nil,
    List.cons_append, List.nil_append]
  after_reads_at
  rcases h with ⟨h1, h2⟩ | ⟨h1, h2, h3⟩
  · rw [dif_pos (by omega), dif_pos (by omega)]
    after_reads_at
    exact congrArg (W m c) (congrArg (ix2 k) (Fin.ext h2.symm))
  · rw [dif_pos (by omega), dif_neg (by omega)]
    after_reads_at
    exact congrArg (W m c) (congrArg (ix2 k) (Fin.ext (by simp only; omega)))

end host

end Cert.Norm.ProjKer

end
-- ==== Proof.Norm.ProjArr.lean ====
/-
  The projection kernel's eleven arrays: each is its band of the projection, block by block of 256 rows.
-/
module

public import proofs.«01_k».proof.Proof.Norm.ProjKer

@[expose] public section

set_option maxRecDepth 16384

noncomputable section

namespace Cert.Norm.ProjArr

open Idealize.ShloMosaic Idealize.ShloMosaic.TcCoe Idealize.SL.Sem
open Cert.Kernel2Ideal Cert.Kernel2Ideal.Gen
open Cert.Lru Cert.Norm.Proj Cert.Norm.ProjKer

theorem size : cfg0.N * 256 = 16384 := by rw [show cfg0.N = 64 from N_0]

/-- Where the windows stand at a point: the rows' block, the weights whole, the results' blocks. -/
theorem idx_in : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

theorem at6 : ∀ t : Fin cfg0.N, win0_6.index t (0 : Fin 2) = 0 ∧ win0_6.index t (1 : Fin 2) = t.val :=
  (by decide +kernel : ∀ t : Fin grid0.N, _)
theorem at7 : ∀ t : Fin cfg0.N, win0_7.index t (0 : Fin 2) = 0 ∧ win0_7.index t (1 : Fin 2) = t.val :=
  (by decide +kernel : ∀ t : Fin grid0.N, _)
theorem at8 : ∀ t : Fin cfg0.N, win0_8.index t (0 : Fin 2) = 0 ∧ win0_8.index t (1 : Fin 2) = t.val :=
  (by decide +kernel : ∀ t : Fin grid0.N, _)
theorem at9 : ∀ t : Fin cfg0.N, win0_9.index t (0 : Fin 2) = 0 ∧ win0_9.index t (1 : Fin 2) = t.val :=
  (by decide +kernel : ∀ t : Fin grid0.N, _)
theorem at10 : ∀ t : Fin cfg0.N, win0_10.index t (0 : Fin 2) = 0 ∧ win0_10.index t (1 : Fin 2) = t.val :=
  (by decide +kernel : ∀ t : Fin grid0.N, _)
theorem at11 : ∀ t : Fin cfg0.N, win0_11.index t (0 : Fin 2) = 0 ∧ win0_11.index t (1 : Fin 2) = t.val :=
  (by decide +kernel : ∀ t : Fin grid0.N, _)
theorem at12 : ∀ t : Fin cfg0.N, win0_12.index t (0 : Fin 2) = 0 ∧ win0_12.index t (1 : Fin 2) = t.val :=
  (by decide +kernel : ∀ t : Fin grid0.N, _)
theorem at13 : ∀ t : Fin cfg0.N, win0_13.index t (0 : Fin 2) = 0 ∧ win0_13.index t (1 : Fin 2) = t.val :=
  (by decide +kernel : ∀ t : Fin grid0.N, _)
theorem at14 : ∀ t : Fin cfg0.N, win0_14.index t (0 : Fin 2) = t.val ∧ win0_14.index t (1 : Fin 2) = 0 :=
  (by decide +kernel : ∀ t : Fin grid0.N, _)
theorem at15 : ∀ t : Fin cfg0.N, win0_15.index t (0 : Fin 2) = t.val ∧ win0_15.index t (1 : Fin 2) = 0 :=
  (by decide +kernel : ∀ t : Fin grid0.N, _)
theorem at16 : ∀ t : Fin cfg0.N, win0_16.index t (0 : Fin 2) = t.val ∧ win0_16.index t (1 : Fin 2) = 0 :=
  (by decide +kernel : ∀ t : Fin grid0.N, _)

/-- Every point writes its blocks back. -/
theorem flushes : ∀ t : Fin cfg0.N, ∀ w : Fin cfg0.W, 6 ≤ w.val → (cfg0.win w).flush t = true :=
  (by decide +kernel : ∀ t : Fin grid0.N, ∀ w : Fin cfg0.W, _)

section outs

theorem hz : (![0, 0] : Fin 2 → Nat) = fun _ => 0 := funext fun a => by fin_cases a <;> rfl

variable (x0 : Vec Ideal S256x1024 .f32) (x1 : Vec Ideal S1x1024 .f32) (x2 : Vec Ideal S2128x1024 .bf16)
  (x3 : Vec Ideal S1024x512 .bf16) (x4 : Vec Ideal S1024x512 .bf16) (x5 : Vec Ideal S1024x64 .bf16)

/-- What a point leaves in its blocks, over its input blocks. -/
theorem outs :
    out0_6 x0 x1 x2 x3 x4 x5 = k0_pay9 x0 x1 x2 ∧ out0_7 x0 x1 x2 x3 x4 x5 = k0_pay10 x0 x1 x2
    ∧ out0_8 x0 x1 x2 x3 x4 x5 = k0_pay11 x0 x1 x2 ∧ out0_9 x0 x1 x2 x3 x4 x5 = k0_pay1 (k0_pay8 x0 x1 x2)
    ∧ out0_10 x0 x1 x2 x3 x4 x5 = k0_pay2 (k0_pay8 x0 x1 x2) ∧ out0_11 x0 x1 x2 x3 x4 x5 = k0_pay3 (k0_pay8 x0 x1 x2)
    ∧ out0_12 x0 x1 x2 x3 x4 x5 = k0_pay12 x0 x1 x2 ∧ out0_13 x0 x1 x2 x3 x4 x5 = k0_pay13 x0 x1 x2
    ∧ out0_14 x0 x1 x2 x3 x4 x5 = k0_pay4 (k0_pay7 x0 x1) x3 ∧ out0_15 x0 x1 x2 x3 x4 x5 = k0_pay5 (k0_pay7 x0 x1) x5
    ∧ out0_16 x0 x1 x2 x3 x4 x5 = k0_pay6 (k0_pay7 x0 x1) x4 := by
  refine ⟨?_, ?_, ?_, ?_, ?_, ?_, ?_, ?_, ?_, ?_, ?_⟩ <;>
  · simp only [out0_6, out0_7, out0_8, out0_9, out0_10, out0_11, out0_12, out0_13, out0_14, out0_15, out0_16,
      k0_pay14, k0_pay15]
    rw [View.canon_unit_zero hz]
    repeat rw [View.ld_unit_zero hz]

end outs

variable (m : (ℓ : Loc nD τ sig) → Buf (Elt Ideal) ℓ) (c : Dev nD)

section blocks

variable (t : Fin cfg0.N)

theorem in0 (k : Fin 256) (l : Fin 1024) : iblk m c 0 t (ix2 k l) = X m c (ix2 (row size t k) l) := by
  refine Eq.trans (congrArg (V m c main_arg0) (funext fun a => Fin.ext ?_)) (congrFun (V_main_arg0 m c) _)
  obtain ⟨i0, i1⟩ := (idx_in t).1
  match a with
  | ⟨0, _⟩ => show win0_0.index t (0 : Fin 2) * 256 + 1 * k.val = 256 * t.val + k.val; rw [i0]; omega
  | ⟨1, _⟩ => show win0_0.index t (1 : Fin 2) * 1024 + 1 * l.val = l.val; rw [i1]; omega

theorem in1 (l : Fin 1024) : iblk m c 1 t (ix2 0 l) = G m c (ix1 l) := by
  refine Eq.trans (congrArg (V m c main_v5) (funext fun a => Fin.ext ?_)) (host_gain m c l)
  obtain ⟨i0, i1⟩ := (idx_in t).2.1
  match a with
  | ⟨0, _⟩ => show win0_1.index t (0 : Fin 2) * 1 + 1 * 0 = 0; rw [i0]
  | ⟨1, _⟩ => show win0_1.index t (1 : Fin 2) * 1024 + 1 * l.val = l.val; rw [i1]; omega

theorem in2 (e : Fin 2128) (k : Fin 1024) : iblk m c 2 t (ix2 e k) = V m c main_v6 (ix2 e k) := by
  refine congrArg (V m c main_v6) (funext fun a => Fin.ext ?_)
  obtain ⟨i0, i1⟩ := (idx_in t).2.2.1
  match a with
  | ⟨0, _⟩ => show win0_2.index t (0 : Fin 2) * 2128 + 1 * e.val = e.val; rw [i0]; omega
  | ⟨1, _⟩ => show win0_2.index t (1 : Fin 2) * 1024 + 1 * k.val = k.val; rw [i1]; omega

theorem in3 (k : Fin 1024) (e : Fin 512) : iblk m c 3 t (ix2 k e) = W m c (ix2 k ⟨512 + e.val, by omega⟩) := by
  refine Eq.trans (congrArg (V m c main_v8) (funext fun a => Fin.ext ?_)) (host_k m c k e)
  obtain ⟨i0, i1⟩ := (idx_in t).2.2.2.1
  match a with
  | ⟨0, _⟩ => show win0_3.index t (0 : Fin 2) * 1024 + 1 * k.val = k.val; rw [i0]; omega
  | ⟨1, _⟩ => show win0_3.index t (1 : Fin 2) * 512 + 1 * e.val = e.val; rw [i1]; omega

theorem in4 (k : Fin 1024) (e : Fin 512) : iblk m c 4 t (ix2 k e) = W m c (ix2 k ⟨1536 + e.val, by omega⟩) := by
  refine Eq.trans (congrArg (V m c main_v10) (funext fun a => Fin.ext ?_)) (host_gate m c k e)
  obtain ⟨i0, i1⟩ := (idx_in t).2.2.2.2.1
  match a with
  | ⟨0, _⟩ => show win0_4.index t (0 : Fin 2) * 1024 + 1 * k.val = k.val; rw [i0]; omega
  | ⟨1, _⟩ => show win0_4.index t (1 : Fin 2) * 512 + 1 * e.val = e.val; rw [i1]; omega

theorem in5 (k : Fin 1024) (e : Fin 64) : iblk m c 5 t (ix2 k e) = W m c (ix2 k ⟨2560 + e.val, by omega⟩) := by
  refine Eq.trans (congrArg (V m c main_v12) (funext fun a => Fin.ext ?_)) (host_ki m c k e)
  obtain ⟨i0, i1⟩ := (idx_in t).2.2.2.2.2
  match a with
  | ⟨0, _⟩ => show win0_5.index t (0 : Fin 2) * 1024 + 1 * k.val = k.val; rw [i0]; omega
  | ⟨1, _⟩ => show win0_5.index t (1 : Fin 2) * 64 + 1 * e.val = e.val; rw [i1]; omega

/-- The block's normalised rows are the rows normalised. -/
theorem norm_row (r : Fin 256) (k : Fin 1024) :
    k0_pay7 (F := Ideal) (iblk m c 0 t) (iblk m c 1 t) (ix2 r k)
      = hrow (fun l => X m c (ix2 (row size t r) l)) (fun l => G m c (ix1 l)) k :=
  (norm_at (iblk m c 0 t) (iblk m c 1 t) r k).trans
    (congrArg₂ (fun x g => hrow x g k) (funext fun l => in0 m c t r l) (funext fun l => in1 m c t l))

/-- The block's product is the projection's. -/
theorem col (e : Fin 2128) (r : Fin 256) (e' : Fin 6728)
    (h : (e.val < 1536 ∧ e'.val = e.val) ∨ (1536 ≤ e.val ∧ e.val < 2120 ∧ e'.val = e.val + 512)) :
    k0_pay8 (F := Ideal) (iblk m c 0 t) (iblk m c 1 t) (iblk m c 2 t) (ix2 e r)
      = ent (X m c) (G m c) (W m c) (row size t r) e' :=
  (prod_at (iblk m c 0 t) (iblk m c 1 t) (iblk m c 2 t) e r).trans (Finset.sum_congr rfl fun k _ =>
    congrArg₂ (· * ·) (congrArg₂ (fun x g => hrow x g k) (funext fun l => in0 m c t r l) (funext fun l => in1 m c t l))
      ((in2 m c t e k).trans (host_att m c e k e' h)))

end blocks

/-- The eleven arrays. -/
theorem arr6 : (dats m 0 c).arrAt 6 cfg0.N = queries (X m c) (G m c) (W m c) :=
  of_cols size (fun t => out0_6 (iblk m c 0 t) (iblk m c 1 t) (iblk m c 2 t) (iblk m c 3 t) (iblk m c 4 t) (iblk m c 5 t))
    (fun t j => ((cfg0.win 6).blk t).view.emb j) (fun t => win0_6.index t) at6 (fun _ _ _ => rfl) (fun _ _ _ => rfl)
    (fun t j => congrFun ((Value.blocks6 m c t (flushes t 6 (by decide))).trans (Value.flushed6 m c t)) j)
    fun t e r => by
      rw [(outs _ _ _ _ _ _).1]
      exact (pay9_at _ _ _ e r).trans (congrArg (· * (((8 * Real.log 2)⁻¹ : ℝ) : EReal))
        (col m c t _ r _ (Or.inl ⟨by simp only; omega, rfl⟩)))

theorem arr7 : (dats m 0 c).arrAt 7 cfg0.N = bandT (X m c) (G m c) (W m c) .f32 512 512 (by decide) :=
  of_cols size (fun t => out0_7 (iblk m c 0 t) (iblk m c 1 t) (iblk m c 2 t) (iblk m c 3 t) (iblk m c 4 t) (iblk m c 5 t))
    (fun t j => ((cfg0.win 7).blk t).view.emb j) (fun t => win0_7.index t) at7 (fun _ _ _ => rfl) (fun _ _ _ => rfl)
    (fun t j => congrFun ((Value.blocks7 m c t (flushes t 7 (by decide))).trans (Value.flushed7 m c t)) j)
    fun t e r => by
      rw [(outs _ _ _ _ _ _).2.1]
      exact (pay10_at _ _ _ e r).trans (col m c t _ r _ (Or.inl ⟨by simp only; omega, rfl⟩))

theorem arr8 : (dats m 0 c).arrAt 8 cfg0.N = bandT (X m c) (G m c) (W m c) .f32 512 1024 (by decide) :=
  of_cols size (fun t => out0_8 (iblk m c 0 t) (iblk m c 1 t) (iblk m c 2 t) (iblk m c 3 t) (iblk m c 4 t) (iblk m c 5 t))
    (fun t j => ((cfg0.win 8).blk t).view.emb j) (fun t => win0_8.index t) at8 (fun _ _ _ => rfl) (fun _ _ _ => rfl)
    (fun t j => congrFun ((Value.blocks8 m c t (flushes t 8 (by decide))).trans (Value.flushed8 m c t)) j)
    fun t e r => by
      rw [(outs _ _ _ _ _ _).2.2.1]
      exact (pay11_at _ _ _ e r).trans (col m c t _ r _ (Or.inl ⟨by simp only; omega, rfl⟩))

theorem arr9 : (dats m 0 c).arrAt 9 cfg0.N = bandT (X m c) (G m c) (W m c) .bf16 512 2048 (by decide) :=
  of_cols size (fun t => out0_9 (iblk m c 0 t) (iblk m c 1 t) (iblk m c 2 t) (iblk m c 3 t) (iblk m c 4 t) (iblk m c 5 t))
    (fun t j => ((cfg0.win 9).blk t).view.emb j) (fun t => win0_9.index t) at9 (fun _ _ _ => rfl) (fun _ _ _ => rfl)
    (fun t j => congrFun ((Value.blocks9 m c t (flushes t 9 (by decide))).trans (Value.flushed9 m c t)) j)
    fun t e r => by
      rw [(outs _ _ _ _ _ _).2.2.2.1]
      exact (pay1_at _ e r).trans (col m c t _ r _ (Or.inr ⟨by simp only; omega, by simp only; omega, by show 2048 + e.val = 1536 + e.val + 512; omega⟩))

theorem arr10 : (dats m 0 c).arrAt 10 cfg0.N = bandT (X m c) (G m c) (W m c) .f32 64 2560 (by decide) :=
  of_cols size (fun t => out0_10 (iblk m c 0 t) (iblk m c 1 t) (iblk m c 2 t) (iblk m c 3 t) (iblk m c 4 t) (iblk m c 5 t))
    (fun t j => ((cfg0.win 10).blk t).view.emb j) (fun t => win0_10.index t) at10 (fun _ _ _ => rfl) (fun _ _ _ => rfl)
    (fun t j => congrFun ((Value.blocks10 m c t (flushes t 10 (by decide))).trans (Value.flushed10 m c t)) j)
    fun t e r => by
      rw [(outs _ _ _ _ _ _).2.2.2.2.1]
      exact (pay2_at _ e r).trans (col m c t _ r _ (Or.inr ⟨by simp only; omega, by simp only; omega, by show 2560 + e.val = 2048 + e.val + 512; omega⟩))

theorem arr11 : (dats m 0 c).arrAt 11 cfg0.N = bandT (X m c) (G m c) (W m c) .f32 8 2624 (by decide) :=
  of_cols size (fun t => out0_11 (iblk m c 0 t) (iblk m c 1 t) (iblk m c 2 t) (iblk m c 3 t) (iblk m c 4 t) (iblk m c 5 t))
    (fun t j => ((cfg0.win 11).blk t).view.emb j) (fun t => win0_11.index t) at11 (fun _ _ _ => rfl) (fun _ _ _ => rfl)
    (fun t j => congrFun ((Value.blocks11 m c t (flushes t 11 (by decide))).trans (Value.flushed11 m c t)) j)
    fun t e r => by
      rw [(outs _ _ _ _ _ _).2.2.2.2.2.1]
      exact (pay3_at _ e r).trans (col m c t _ r _ (Or.inr ⟨by simp only; omega, by simp only; omega, by show 2624 + e.val = 2112 + e.val + 512; omega⟩))

theorem arr12 : (dats m 0 c).arrAt 12 cfg0.N = bandT (X m c) (G m c) (W m c) .bf16 512 512 (by decide) :=
  of_cols size (fun t => out0_12 (iblk m c 0 t) (iblk m c 1 t) (iblk m c 2 t) (iblk m c 3 t) (iblk m c 4 t) (iblk m c 5 t))
    (fun t j => ((cfg0.win 12).blk t).view.emb j) (fun t => win0_12.index t) at12 (fun _ _ _ => rfl) (fun _ _ _ => rfl)
    (fun t j => congrFun ((Value.blocks12 m c t (flushes t 12 (by decide))).trans (Value.flushed12 m c t)) j)
    fun t e r => by
      rw [(outs _ _ _ _ _ _).2.2.2.2.2.2.1]
      exact (pay12_at _ _ _ e r).trans (col m c t _ r _ (Or.inl ⟨by simp only; omega, rfl⟩))

theorem arr13 : (dats m 0 c).arrAt 13 cfg0.N = bandT (X m c) (G m c) (W m c) .bf16 512 1024 (by decide) :=
  of_cols size (fun t => out0_13 (iblk m c 0 t) (iblk m c 1 t) (iblk m c 2 t) (iblk m c 3 t) (iblk m c 4 t) (iblk m c 5 t))
    (fun t j => ((cfg0.win 13).blk t).view.emb j) (fun t => win0_13.index t) at13 (fun _ _ _ => rfl) (fun _ _ _ => rfl)
    (fun t j => congrFun ((Value.blocks13 m c t (flushes t 13 (by decide))).trans (Value.flushed13 m c t)) j)
    fun t e r => by
      rw [(outs _ _ _ _ _ _).2.2.2.2.2.2.2.1]
      exact (pay13_at _ _ _ e r).trans (col m c t _ r _ (Or.inl ⟨by simp only; omega, rfl⟩))

theorem arr14 : (dats m 0 c).arrAt 14 cfg0.N = band (X m c) (G m c) (W m c) .bf16 512 512 (by decide) :=
  of_rows size (fun t => out0_14 (iblk m c 0 t) (iblk m c 1 t) (iblk m c 2 t) (iblk m c 3 t) (iblk m c 4 t) (iblk m c 5 t))
    (fun t j => ((cfg0.win 14).blk t).view.emb j) (fun t => win0_14.index t) at14 (fun _ _ _ => rfl) (fun _ _ _ => rfl)
    (fun t j => congrFun ((Value.blocks14 m c t (flushes t 14 (by decide))).trans (Value.flushed14 m c t)) j)
    fun t r e => by
      rw [(outs _ _ _ _ _ _).2.2.2.2.2.2.2.2.1]
      exact (pay4_at _ _ r e).trans (Finset.sum_congr rfl fun k _ => congrArg₂ (· * ·) (norm_row m c t r k) (in3 m c t k e))

theorem arr15 : (dats m 0 c).arrAt 15 cfg0.N = band (X m c) (G m c) (W m c) .bf16 64 2560 (by decide) :=
  of_rows size (fun t => out0_15 (iblk m c 0 t) (iblk m c 1 t) (iblk m c 2 t) (iblk m c 3 t) (iblk m c 4 t) (iblk m c 5 t))
    (fun t j => ((cfg0.win 15).blk t).view.emb j) (fun t => win0_15.index t) at15 (fun _ _ _ => rfl) (fun _ _ _ => rfl)
    (fun t j => congrFun ((Value.blocks15 m c t (flushes t 15 (by decide))).trans (Value.flushed15 m c t)) j)
    fun t r e => by
      rw [(outs _ _ _ _ _ _).2.2.2.2.2.2.2.2.2.1]
      exact (pay5_at _ _ r e).trans (Finset.sum_congr rfl fun k _ => congrArg₂ (· * ·) (norm_row m c t r k) (in5 m c t k e))

theorem arr16 : (dats m 0 c).arrAt 16 cfg0.N = band (X m c) (G m c) (W m c) .f32 512 1536 (by decide) :=
  of_rows size (fun t => out0_16 (iblk m c 0 t) (iblk m c 1 t) (iblk m c 2 t) (iblk m c 3 t) (iblk m c 4 t) (iblk m c 5 t))
    (fun t j => ((cfg0.win 16).blk t).view.emb j) (fun t => win0_16.index t) at16 (fun _ _ _ => rfl) (fun _ _ _ => rfl)
    (fun t j => congrFun ((Value.blocks16 m c t (flushes t 16 (by decide))).trans (Value.flushed16 m c t)) j)
    fun t r e => by
      rw [(outs _ _ _ _ _ _).2.2.2.2.2.2.2.2.2.2]
      exact (pay6_at _ _ r e).trans (Finset.sum_congr rfl fun k _ => congrArg₂ (· * ·) (norm_row m c t r k) (in4 m c t k e))

end Cert.Norm.ProjArr

end
-- ==== Proof.Lru.SampleHost.lean ====
/-
  The arrays that the sample batch's call finds, in terms of the program's arguments.
-/
module

public import proofs.«01_k».proof.Proof.Lru.Host
public import proofs.«01_k».proof.Proof.Gen.Kernel3Ideal.Frame
public import Idealize.ShloMosaic.Lib.StableHlo.Run
public import Idealize.ShloMosaic.Lib.StableHlo.ReadAt

@[expose] public section

set_option maxRecDepth 16384

noncomputable section

namespace Cert.Lru.SampleHost

open Idealize.ShloMosaic Idealize.ShloMosaic.TcCoe Idealize.SL.Sem
open Cert.Kernel3Ideal Cert.Kernel3Ideal.Gen Cert.Lru

variable (m : (ℓ : Loc nD τ sig) → Buf (Elt Ideal) ℓ) (c : Dev nD)

/-- The norm gains as a row. -/
theorem v0 (k : Fin 1024) : V m c main_v0 (ix2 0 k) = m ((c : Thread nD τ).loc main_arg5) (ix1 k) := by
  simp only [V, hostOps0, hostOps0_1, hostOps0_2, hostOps0_3, hostOps0_4, List.flatten_cons, List.flatten_nil,
    List.append_nil, List.cons_append, List.nil_append]
  after_reads_at

/-- The convolution bias as a row. -/
theorem v3 (k : Fin 1024) : V m c main_v3 (ix2 0 k) = m ((c : Thread nD τ).loc main_arg8) (ix1 k) := by
  simp only [V, hostOps0, hostOps0_1, hostOps0_2, hostOps0_3, hostOps0_4, List.flatten_cons, List.flatten_nil,
    List.append_nil, List.cons_append, List.nil_append]
  after_reads_at

/-- The recurrence gate's bias as a row. -/
theorem v38 (k : Fin 1024) : V m c main_v38 (ix2 0 k) = m ((c : Thread nD τ).loc main_arg10) (ix1 k) := by
  simp only [V, hostOps0, hostOps0_1, hostOps0_2, hostOps0_3, hostOps0_4, List.flatten_cons, List.flatten_nil,
    List.append_nil, List.cons_append, List.nil_append]
  after_reads_at

/-- The input gate's bias as a row. -/
theorem v73 (k : Fin 1024) : V m c main_v73 (ix2 0 k) = m ((c : Thread nD τ).loc main_arg12) (ix1 k) := by
  simp only [V, hostOps0, hostOps0_1, hostOps0_2, hostOps0_3, hostOps0_4, List.flatten_cons, List.flatten_nil,
    List.append_nil, List.cons_append, List.nil_append]
  after_reads_at

/-- The decay parameters as a row. -/
theorem v74 (k : Fin 1024) : V m c main_v74 (ix2 0 k) = m ((c : Thread nD τ).loc main_arg13) (ix1 k) := by
  simp only [V, hostOps0, hostOps0_1, hostOps0_2, hostOps0_3, hostOps0_4, List.flatten_cons, List.flatten_nil,
    List.append_nil, List.cons_append, List.nil_append]
  after_reads_at

/-- The output weights of the attention branch. -/
theorem v75 (k : Fin 512) (l : Fin 1024) :
    V m c main_v75 (ix2 k l) = m ((c : Thread nD τ).loc main_arg14) (ix2 k l) := by
  simp only [V, hostOps0, hostOps0_1, hostOps0_2, hostOps0_3, hostOps0_4, List.flatten_cons, List.flatten_nil,
    List.append_nil, List.cons_append, List.nil_append]
  after_reads_at

/-- The output weights of the recurrent branch. -/
theorem v76 (k : Fin 1024) (l : Fin 1024) :
    V m c main_v76 (ix2 k l) = m ((c : Thread nD τ).loc main_arg15) (ix2 k l) := by
  simp only [V, hostOps0, hostOps0_1, hostOps0_2, hostOps0_3, hostOps0_4, List.flatten_cons, List.flatten_nil,
    List.append_nil, List.cons_append, List.nil_append]
  after_reads_at

/-- The last output weights. -/
theorem v77 (k : Fin 1024) (l : Fin 1024) :
    V m c main_v77 (ix2 k l) = m ((c : Thread nD τ).loc main_arg16) (ix2 k l) := by
  simp only [V, hostOps0, hostOps0_1, hostOps0_2, hostOps0_3, hostOps0_4, List.flatten_cons, List.flatten_nil,
    List.append_nil, List.cons_append, List.nil_append]
  after_reads_at

/-- The recurrent columns of the input weights. -/
theorem v2 (k : Fin 1024) (l : Fin 4096) :
    V m c main_v2 (ix2 k l) = m ((c : Thread nD τ).loc main_arg6) (ix2 k ⟨2632 + l.val, by omega⟩) := by
  simp only [V, hostOps0, hostOps0_1, hostOps0_2, hostOps0_3, hostOps0_4, List.flatten_cons, List.flatten_nil,
    List.append_nil, List.cons_append, List.nil_append]
  after_reads_at

/-- The recurrence gate's weights as a block-diagonal matrix. -/
theorem v37 (k l : Fin 1024) : V m c main_v37 (ix2 k l)
    = Host.diag (m ((c : Thread nD τ).loc main_arg9)) k l := by
  refine Eq.trans ?_ (Host.piece_blk (m ((c : Thread nD τ).loc main_arg9)) k l)
  simp only [V, hostOps0, hostOps0_1, hostOps0_2, hostOps0_3, hostOps0_4, List.flatten_cons, List.flatten_nil,
    List.append_nil, List.cons_append, List.nil_append]
  after_reads_simp
  refine Host.cat_of (Host.piece (m ((c : Thread nD τ).loc main_arg9))) rfl ?_ ?_ ?_ ?_ ?_ ?_ ?_ ?_ ?_ ?_ ?_ ?_ ?_ ?_ ?_ ?_ k l
  all_goals
    intro r l
    simp only [Matrix.cons_val, StableHlo.TRef.ofBuf]
    erw [cast_eq]
    after_reads_at
    first
      | exact Host.piece_zero _ r l
      | exact Host.piece_lit (m ((c : Thread nD τ).loc main_arg9)) _ _ (by rfl) r l

/-- The input gate's weights as a block-diagonal matrix. -/
theorem v72 (k l : Fin 1024) : V m c main_v72 (ix2 k l)
    = Host.diag (m ((c : Thread nD τ).loc main_arg11)) k l := by
  refine Eq.trans ?_ (Host.piece_blk (m ((c : Thread nD τ).loc main_arg11)) k l)
  simp only [V, hostOps0, hostOps0_1, hostOps0_2, hostOps0_3, hostOps0_4, List.flatten_cons, List.flatten_nil,
    List.append_nil, List.cons_append, List.nil_append]
  after_reads_simp
  refine Host.cat_of (Host.piece (m ((c : Thread nD τ).loc main_arg11))) rfl ?_ ?_ ?_ ?_ ?_ ?_ ?_ ?_ ?_ ?_ ?_ ?_ ?_ ?_ ?_ ?_ k l
  all_goals
    intro r l
    simp only [Matrix.cons_val, StableHlo.TRef.ofBuf]
    erw [cast_eq]
    after_reads_at
    first
      | exact Host.piece_zero _ r l
      | exact Host.piece_lit (m ((c : Thread nD τ).loc main_arg11)) _ _ (by rfl) r l

/-- The row three before the new one. -/
theorem v79 (r : Fin 32) (k : Fin 1024) :
    V m c main_v79 (ix2 r k) = m ((c : Thread nD τ).loc main_arg1) (ix3 r 0 k) := by
  simp only [V, hostOps0, hostOps0_1, hostOps0_2, hostOps0_3, hostOps0_4, List.flatten_cons, List.flatten_nil,
    List.append_nil, List.cons_append, List.nil_append]
  after_reads_at

/-- The row two before the new one. -/
theorem v81 (r : Fin 32) (k : Fin 1024) :
    V m c main_v81 (ix2 r k) = m ((c : Thread nD τ).loc main_arg1) (ix3 r 1 k) := by
  simp only [V, hostOps0, hostOps0_1, hostOps0_2, hostOps0_3, hostOps0_4, List.flatten_cons, List.flatten_nil,
    List.append_nil, List.cons_append, List.nil_append]
  after_reads_at

/-- The row one before the new one. -/
theorem v83 (r : Fin 32) (k : Fin 1024) :
    V m c main_v83 (ix2 r k) = m ((c : Thread nD τ).loc main_arg1) (ix3 r 2 k) := by
  simp only [V, hostOps0, hostOps0_1, hostOps0_2, hostOps0_3, hostOps0_4, List.flatten_cons, List.flatten_nil,
    List.append_nil, List.cons_append, List.nil_append]
  after_reads_at

end Cert.Lru.SampleHost

end
-- ==== Proof.Lru.SampleSpec.lean ====
/-
  One new position of a sequence, from the three rows before it and the state: the convolved row, the new state and the
  merged row, over functions of column numbers.
-/
module

public import proofs.«01_k».proof.Proof.Lru.Spec

@[expose] public section

set_option maxRecDepth 16384

noncomputable section

namespace Cert.Lru

open Idealize.ShloMosaic

variable (P : Par) (p q s x : Fin 1024 → EReal)

/-- The convolved row: the three rows before it, oldest first, and the new one. -/
def sconv (c : Fin 1024) : EReal :=
  P.cb c + (P.cw 0 c * p c + P.cw 1 c * q c + P.cw 2 c * s c + P.cw 3 c * zrow P x (part 0 c))

/-- The new state from the old one. -/
def snew (h : Fin 1024 → EReal) (c : Fin 1024) : EReal :=
  inp P (sconv P p q s x) c + decay P (sconv P p q s x) c * h c

/-- Two matrices with the same entries are equal. -/
theorem ext2 {n k : ℕ} {A B : (⟨2, ![n, k]⟩ : Shape).Idx → EReal} (h : ∀ i j, A (ix2 i j) = B (ix2 i j)) : A = B := by
  funext j
  rw [← ix2_eta j]
  exact h _ _

/-! ## The arrays of a batch of 32 sequences -/

/-- A matrix of 32 rows. -/
abbrev Mat (n : ℕ) : Type := (⟨2, ![32, n]⟩ : Shape).Idx → EReal

/-- The new rows of the convolution's input. -/
def rows (P : Par) (x : Mat 1024) : Mat 1024 := fun j => zrow P (fun k => x (ix2 (j 0) k)) (part 0 (j 1))

/-- The new states. -/
def states (P : Par) (x : Mat 1024) (cs : (⟨3, ![32, 3, 1024]⟩ : Shape).Idx → EReal) (h : Mat 1024) : Mat 1024 := fun j =>
  snew P (fun k => cs (ix3 (j 0) 0 k)) (fun k => cs (ix3 (j 0) 1 k)) (fun k => cs (ix3 (j 0) 2 k))
    (fun k => x (ix2 (j 0) k)) (fun k => h (ix2 (j 0) k)) (j 1)

/-- The merged rows. -/
def merged (P : Par) (x : Mat 1024) (cs : (⟨3, ![32, 3, 1024]⟩ : Shape).Idx → EReal) (h : Mat 1024) (y ga : Mat 512) :
    Mat 1024 := fun j =>
  mrow P (fun k => x (ix2 (j 0) k)) (fun k => y (ix2 (j 0) k)) (fun k => ga (ix2 (j 0) k))
    (fun l => states P x cs h (ix2 (j 0) l)) (j 1)

end Cert.Lru

end
-- ==== Proof.Lru.SampleKer.lean ====
/-
  The sample batch's call: its block functions at an index are the plain forms of `SampleSpec.lean`, one row per sequence.
-/
module

public import proofs.«01_k».proof.Proof.Lru.SampleSpec
public import proofs.«01_k».proof.Proof.Lru.Ker
public import proofs.«01_k».proof.Proof.Gen.Kernel3Ideal.Skeleton
public import Idealize.ShloMosaic.Lib.KernelVsHost
public import Idealize.ShloMosaic.Lib.WordCmp

@[expose] public section

set_option maxRecDepth 16384

noncomputable section

namespace Cert.Lru.SampleKer

open Idealize.ShloMosaic Idealize.ShloMosaic.TcCoe
open Cert.Kernel3Ideal Cert.Kernel3Ideal.Gen Cert.Lru

section proj

variable (P : Par) (x0 : Vec Ideal S32x1024 .f32) (x1 : Vec Ideal S1x1024 .f32) (x2 : Vec Ideal S1024x4096 .bf16)
  (hg : ∀ c, x1 (ix2 0 c) = P.g c) (hwl : ∀ k c, x2 (ix2 k c) = P.wl k c)

include hg hwl

theorem z_at (r : Fin 32) (c : Fin 4096) : k0_pay2 x0 x1 x2 (ix2 r c) = zrow P (fun k => x0 (ix2 r k)) c := by
  unfold zrow hrow
  simp only [← hg, ← hwl]
  pointwise [k0_pay2]

theorem w_at (r : Fin 32) (c : Fin 1024) :
    k0_pay3 x0 x1 x2 (ix2 r c) = zrow P (fun k => x0 (ix2 r k)) (part 0 c) := by
  rw [← z_at P x0 x1 x2 hg hwl]
  pointwise [k0_pay3, part]

end proj

section conv

variable (P : Par) (X : Fin 32 → Fin 1024 → EReal) (w : FVec Ideal S32x1024 .f32)
  (hw : ∀ (r : Fin 32) c, w (ix2 r c) = zrow P (X r) (part 0 c))
  (p0 p1 p2 p3 x4 : Vec Ideal S1x1024 .f32) (x10 x11 x12 : Vec Ideal S32x1024 .f32)
  (h0 : ∀ c, p0 (ix2 0 c) = P.cw 0 c) (h1 : ∀ c, p1 (ix2 0 c) = P.cw 1 c) (h2 : ∀ c, p2 (ix2 0 c) = P.cw 2 c)
  (h3 : ∀ c, p3 (ix2 0 c) = P.cw 3 c) (hcb : ∀ c, x4 (ix2 0 c) = P.cb c)

include hw h0 h1 h2 h3 hcb

theorem xc_at (r : Fin 32) (c : Fin 1024) :
    k0_pay5 w (k0_pay4 x4 p0 x10 p1 x11) p2 x12 p3 (ix2 r c)
      = sconv P (fun k => x10 (ix2 r k)) (fun k => x11 (ix2 r k)) (fun k => x12 (ix2 r k)) (X r) c := by
  unfold sconv
  rw [← hw, ← h0, ← h1, ← h2, ← h3, ← hcb]
  pointwise [k0_pay5, k0_pay4]
  simp only [add_assoc]

theorem gate_at (G : Fin 16 → Fin 64 → Fin 64 → EReal) (b : Fin 1024 → EReal) (x5 : Vec Ideal S1024x1024 .bf16)
    (x6 : Vec Ideal S1x1024 .f32) (hm : ∀ k c, x5 (ix2 k c) = if blk k = blk c then G (blk c) (lane k) (lane c) else 0)
    (hb : ∀ c, x6 (ix2 0 c) = b c) (r : Fin 32) (c : Fin 1024) :
    k0_pay7 w (k0_pay4 x4 p0 x10 p1 x11) p2 x12 p3 x5 x6 (ix2 r c)
      = gate G b (sconv P (fun k => x10 (ix2 r k)) (fun k => x11 (ix2 r k)) (fun k => x12 (ix2 r k)) (X r)) c := by
  have hx := fun k => xc_at P X w hw p0 p1 p2 p3 x4 x10 x11 x12 h0 h1 h2 h3 hcb r k
  unfold gate sgm
  rw [← Ker.sum_block (fun k => G (blk c) k (lane c)) _ (blk c), ← hb]
  simp only [← hm]
  generalize k0_pay4 x4 p0 x10 p1 x11 = v at hx ⊢
  pointwise [k0_pay7, k0_pay6]
  simp only [hx, zero_sub, mul_comm]

end conv

/-- Both gates are one function of their weights. -/
theorem pay8_eq : @k0_pay8 Ideal _ = @k0_pay7 Ideal _ := rfl

theorem logA_at (rv : FVec Ideal S32x1024 .f32) (x9 : Vec Ideal S1x1024 .f32) (r : Fin 32) (c : Fin 1024) :
    k0_pay9 rv x9 (ix2 r c) = logA (rv (ix2 r c)) (-(x9 (ix2 0 c))) := by
  unfold logA softplus
  rw [← klog1p_eq (exp_abs_real _)]
  unfold klog1p
  rw [← ofBits_neg8]
  pointwise [k0_pay9]
  simp only [zero_sub]
  rfl

theorem a_at (rv : FVec Ideal S32x1024 .f32) (x9 : Vec Ideal S1x1024 .f32) (r : Fin 32) (c : Fin 1024) :
    k0_pay10 rv x9 (ix2 r c) = Ideal.exp (logA (rv (ix2 r c)) (-(x9 (ix2 0 c)))) := by
  rw [← logA_at]
  pointwise [k0_pay10]

theorem u_at (xcv rv iv : FVec Ideal S32x1024 .f32) (x9 : Vec Ideal S1x1024 .f32) (r : Fin 32) (c : Fin 1024)
    (x : EReal) (hr : rv (ix2 r c) = sgm x) :
    k0_pay11 xcv rv iv x9 (ix2 r c)
      = Ideal.sqrt (-(Ideal.expm1 (((2 : ℝ) : EReal) * logA (rv (ix2 r c)) (-(x9 (ix2 0 c))))))
        * (iv (ix2 r c) * xcv (ix2 r c)) := by
  rw [hr, ← kexpm1_eq (two_logA_nonpos _ _), ← hr]
  unfold kexpm1
  rw [← ofBits_two, ← logA_at]
  have e1 : (-1 : EReal) = Ideal.ofBits .f32 0xBF800000#32 := by rw [ofBits_neg1]; rfl
  rw [e1]
  pointwise [k0_pay11]
  simp only [zero_sub]

theorem h_at (a u h : FVec Ideal S32x1024 .f32) (r : Fin 32) (c : Fin 1024) :
    k0_pay12 a u h (ix2 r c) = u (ix2 r c) + a (ix2 r c) * h (ix2 r c) := by
  pointwise [k0_pay12]

theorem merge_at (P : Par) (X : Fin 1024 → EReal) (x0 hv : FVec Ideal S32x1024 .f32) (z : FVec Ideal S32x4096 .f32)
    (av uv x13 : FVec Ideal S32x1024 .f32) (x14 x15 : Vec Ideal S32x512 .f32) (x16 : Vec Ideal S512x1024 .bf16)
    (x17 x18 : Vec Ideal S1024x1024 .bf16) (r : Fin 32)
    (hx : ∀ c, x0 (ix2 r c) = X c) (hz : ∀ c, z (ix2 r c) = zrow P X c)
    (hv : Fin 1024 → EReal) (hh : ∀ c, k0_pay12 av uv x13 (ix2 r c) = hv c)
    (hoa : ∀ k c, x16 (ix2 k c) = P.oa k c) (hob : ∀ k c, x17 (ix2 k c) = P.ob k c) (hwo : ∀ k c, x18 (ix2 k c) = P.wo k c)
    (c : Fin 1024) :
    k0_pay1 x0 (k0_pay13 z) (k0_pay14 z) (k0_pay15 x14 x15 x16) (k0_pay16 z av uv x13 x17) (k0_pay17 (F := Ideal)) x18 (ix2 r c)
      = mrow P X (fun k => x14 (ix2 r k)) (fun k => x15 (ix2 r k)) hv c := by
  unfold mrow sgm
  simp only [← hh, ← hz, ← hx, ← hoa, ← hob, ← hwo]
  pointwise [k0_pay1, k0_pay13, k0_pay14, k0_pay15, k0_pay16, k0_pay17, part]
  simp only [zero_sub]

/-! ## The three blocks over blocks that hold the weights -/

variable (P : Par) (x0 : Vec Ideal S32x1024 .f32) (x1 : Vec Ideal S1x1024 .f32) (x2 : Vec Ideal S1024x4096 .bf16)
  (x3 : Vec Ideal S4x1024 .f32) (x4 : Vec Ideal S1x1024 .f32) (x5 : Vec Ideal S1024x1024 .bf16)
  (x6 : Vec Ideal S1x1024 .f32) (x7 : Vec Ideal S1024x1024 .bf16) (x8 x9 : Vec Ideal S1x1024 .f32)
  (x10 x11 x12 x13 : Vec Ideal S32x1024 .f32) (x14 x15 : Vec Ideal S32x512 .f32) (x16 : Vec Ideal S512x1024 .bf16)
  (x17 x18 : Vec Ideal S1024x1024 .bf16)

/-- Row `q` of the convolution's weights. -/
def tap (q : Fin 4) : Vec Ideal S1x1024 .f32 := fun j => x3 (ix2 q (j 1))

/-- The convolved rows. -/
def cv : FVec Ideal S32x1024 .f32 :=
  k0_pay5 (k0_pay3 x0 x1 x2) (k0_pay4 x4 (tap x3 0) x10 (tap x3 1) x11) (tap x3 2) x12 (tap x3 3)

/-- A gate's rows. -/
def gt (x5 : Vec Ideal S1024x1024 .bf16) (x6 : Vec Ideal S1x1024 .f32) : FVec Ideal S32x1024 .f32 :=
  k0_pay7 (k0_pay3 x0 x1 x2) (k0_pay4 x4 (tap x3 0) x10 (tap x3 1) x11) (tap x3 2) x12 (tap x3 3) x5 x6

/-- The decays. -/
def av : FVec Ideal S32x1024 .f32 := k0_pay10 (gt x0 x1 x2 x3 x4 x10 x11 x12 x5 x6) x9

/-- The inputs of the recurrence. -/
def uv : FVec Ideal S32x1024 .f32 :=
  k0_pay11 (cv x0 x1 x2 x3 x4 x10 x11 x12) (gt x0 x1 x2 x3 x4 x10 x11 x12 x5 x6) (gt x0 x1 x2 x3 x4 x10 x11 x12 x7 x8) x9

/-- The new states. -/
def hn : FVec Ideal S32x1024 .f32 :=
  k0_pay12 (av x0 x1 x2 x3 x4 x5 x6 x9 x10 x11 x12) (uv x0 x1 x2 x3 x4 x5 x6 x7 x8 x9 x10 x11 x12) x13

/-- The merged rows. -/
def mg : FVec Ideal S32x1024 .f32 :=
  k0_pay1 x0 (k0_pay13 (k0_pay2 x0 x1 x2)) (k0_pay14 (k0_pay2 x0 x1 x2)) (k0_pay15 x14 x15 x16)
    (k0_pay16 (k0_pay2 x0 x1 x2) (av x0 x1 x2 x3 x4 x5 x6 x9 x10 x11 x12)
      (uv x0 x1 x2 x3 x4 x5 x6 x7 x8 x9 x10 x11 x12) x13 x17) (k0_pay17 (F := Ideal)) x18

variable {P x1 x2 x3 x4 x5 x6 x7 x8 x9 x16 x17 x18} (W : Ker.Wts P x1 x2 x3 x4 x5 x6 x7 x8 x9 x16 x17 x18)

include W

theorem hn_at (r : Fin 32) (c : Fin 1024) :
    hn x0 x1 x2 x3 x4 x5 x6 x7 x8 x9 x10 x11 x12 x13 (ix2 r c)
      = snew P (fun k => x10 (ix2 r k)) (fun k => x11 (ix2 r k)) (fun k => x12 (ix2 r k)) (fun k => x0 (ix2 r k))
          (fun k => x13 (ix2 r k)) c := by
  have hw := w_at P x0 x1 x2 W.g W.wl
  have ht : ∀ (q : Fin 4) c, tap x3 q (ix2 0 c) = P.cw q c := fun q c => W.cw q c
  have hx := xc_at P (fun r k => x0 (ix2 r k)) _ hw (tap x3 0) (tap x3 1) (tap x3 2) (tap x3 3) x4 x10 x11 x12 (ht 0) (ht 1) (ht 2) (ht 3) W.cb r c
  have hr := gate_at P (fun r k => x0 (ix2 r k)) _ hw (tap x3 0) (tap x3 1) (tap x3 2) (tap x3 3) x4 x10 x11 x12 (ht 0) (ht 1) (ht 2) (ht 3) W.cb P.rw P.rb x5 x6
    W.rw W.rb r c
  have hi := gate_at P (fun r k => x0 (ix2 r k)) _ hw (tap x3 0) (tap x3 1) (tap x3 2) (tap x3 3) x4 x10 x11 x12 (ht 0) (ht 1) (ht 2) (ht 3) W.cb P.iw P.ib x7 x8
    W.iw W.ib r c
  have ha := a_at (gt x0 x1 x2 x3 x4 x10 x11 x12 x5 x6) x9 r c
  have hu := u_at (cv x0 x1 x2 x3 x4 x10 x11 x12) (gt x0 x1 x2 x3 x4 x10 x11 x12 x5 x6)
    (gt x0 x1 x2 x3 x4 x10 x11 x12 x7 x8) x9 r c _ hr
  unfold snew inp decay
  rw [← W.lam c, ← hr, ← hi, ← hx]
  exact (h_at _ _ x13 r c).trans (congrArg₂ (· + · * x13 (ix2 r c)) hu ha)

theorem mg_at (r : Fin 32) (c : Fin 1024) :
    mg x0 x1 x2 x3 x4 x5 x6 x7 x8 x9 x10 x11 x12 x13 x14 x15 x16 x17 x18 (ix2 r c)
      = mrow P (fun k => x0 (ix2 r k)) (fun k => x14 (ix2 r k)) (fun k => x15 (ix2 r k))
          (snew P (fun k => x10 (ix2 r k)) (fun k => x11 (ix2 r k)) (fun k => x12 (ix2 r k)) (fun k => x0 (ix2 r k))
            (fun k => x13 (ix2 r k))) c :=
  merge_at P _ x0 x0 _ _ _ x13 x14 x15 x16 x17 x18 r (fun _ => rfl) (fun l => z_at P x0 x1 x2 W.g W.wl r l) _
    (fun l => hn_at x0 x10 x11 x12 x13 W r l) W.oa W.ob W.wo c

end Cert.Lru.SampleKer

end
-- ==== Proof.Lru.SampleArr.lean ====
/-
  The arrays of the sample batch's call: one block each; the three that it writes are the plain forms of `SampleSpec.lean`
  over the program's arguments.
-/
module

public import proofs.«01_k».proof.Proof.Lru.SampleHost
public import proofs.«01_k».proof.Proof.Lru.SampleKer
public import proofs.«01_k».proof.Proof.Lru.Ref
public import proofs.«01_k».proof.Proof.Gen.Kernel3Ideal.Frame

@[expose] public section

set_option maxRecDepth 16384

noncomputable section

namespace Cert.Lru.SampleArr

open Idealize.ShloMosaic Idealize.ShloMosaic.TcCoe Idealize.SL.Sem
open Cert.Kernel3Ideal Cert.Kernel3Ideal.Gen Cert.Lru

section out

variable (x0 : Vec Ideal S32x1024 .f32) (x1 : Vec Ideal S1x1024 .f32) (x2 : Vec Ideal S1024x4096 .bf16)
  (x3 : Vec Ideal S4x1024 .f32) (x4 : Vec Ideal S1x1024 .f32) (x5 : Vec Ideal S1024x1024 .bf16)
  (x6 : Vec Ideal S1x1024 .f32) (x7 : Vec Ideal S1024x1024 .bf16) (x8 x9 : Vec Ideal S1x1024 .f32)
  (x10 x11 x12 x13 : Vec Ideal S32x1024 .f32) (x14 x15 : Vec Ideal S32x512 .f32) (x16 : Vec Ideal S512x1024 .bf16)
  (x17 x18 : Vec Ideal S1024x1024 .bf16)

theorem hz : (![0, 0] : Fin 2 → Nat) = fun _ => 0 := funext fun a => by fin_cases a <;> rfl

theorem tap_eq (q : Fin 4) (inb : ∀ a, (![q.val, 0] : Fin 2 → ℕ) a + S1x1024.size a ≤ S4x1024.size a) :
    View.ld x3 (Rect.unit (s := S4x1024) ![q.val, 0] S1x1024.size inb) = SampleKer.tap x3 q := by
  refine ext2 (n := 1) (k := 1024) fun k l => ?_
  obtain rfl : k = 0 := Subsingleton.elim _ _
  exact Ker.ld_tap x3 q inb l

theorem out20 : out0_20 x0 x1 x2 x3 x4 x5 x6 x7 x8 x9 x10 x11 x12 x13 x14 x15 x16 x17 x18 = k0_pay3 x0 x1 x2 := by
  unfold out0_20 k0_pay19
  rw [View.canon_unit_zero hz]
  repeat rw [View.ld_unit_zero hz]

theorem pay20 : k0_pay20 x0 x1 x2 x3 x4 x5 x6 x7 x8 x9 x10 x11 x12 x13 x14 x15 x16 x17 x18 = k0_pay4 x4 (SampleKer.tap x3 0) x10 (SampleKer.tap x3 1) x11 := by
  unfold k0_pay20
  repeat rw [View.ld_unit_zero hz]
  exact congrArg₂ (fun a b => k0_pay4 x4 a x10 b x11) (tap_eq x3 0 _) (tap_eq x3 1 _)

theorem pay19 : k0_pay19 x0 x1 x2 x3 x4 x5 x6 x7 x8 x9 x10 x11 x12 x13 x14 x15 x16 x17 x18 = k0_pay3 x0 x1 x2 := by
  unfold k0_pay19
  repeat rw [View.ld_unit_zero hz]

theorem pay21 : k0_pay21 x0 x1 x2 x3 x4 x5 x6 x7 x8 x9 x10 x11 x12 x13 x14 x15 x16 x17 x18 = SampleKer.gt x0 x1 x2 x3 x4 x10 x11 x12 x5 x6 := by
  unfold k0_pay21 SampleKer.gt
  rw [pay19, pay20]
  repeat rw [View.ld_unit_zero hz]
  exact congrArg₂ (fun a b => k0_pay7 _ _ a x12 b x5 x6) (tap_eq x3 2 _) (tap_eq x3 3 _)

theorem pay22 : k0_pay22 x0 x1 x2 x3 x4 x5 x6 x7 x8 x9 x10 x11 x12 x13 x14 x15 x16 x17 x18 = SampleKer.av x0 x1 x2 x3 x4 x5 x6 x9 x10 x11 x12 := by
  unfold k0_pay22 SampleKer.av
  rw [pay21]
  repeat rw [View.ld_unit_zero hz]

theorem pay23 : k0_pay23 x0 x1 x2 x3 x4 x5 x6 x7 x8 x9 x10 x11 x12 x13 x14 x15 x16 x17 x18 = SampleKer.uv x0 x1 x2 x3 x4 x5 x6 x7 x8 x9 x10 x11 x12 := by
  unfold k0_pay23 SampleKer.uv SampleKer.cv
  rw [pay21, pay19, pay20, SampleKer.pay8_eq]
  repeat rw [View.ld_unit_zero hz]
  exact congrArg₂ (fun a b => k0_pay11 (k0_pay5 _ _ a x12 b) _ (k0_pay7 _ _ a x12 b x7 x8) x9) (tap_eq x3 2 _) (tap_eq x3 3 _)

theorem out21 : out0_21 x0 x1 x2 x3 x4 x5 x6 x7 x8 x9 x10 x11 x12 x13 x14 x15 x16 x17 x18 = SampleKer.hn x0 x1 x2 x3 x4 x5 x6 x7 x8 x9 x10 x11 x12 x13 := by
  unfold out0_21 SampleKer.hn
  rw [View.canon_unit_zero hz, pay22, pay23]
  repeat rw [View.ld_unit_zero hz]

theorem out19 : out0_19 x0 x1 x2 x3 x4 x5 x6 x7 x8 x9 x10 x11 x12 x13 x14 x15 x16 x17 x18 = SampleKer.mg x0 x1 x2 x3 x4 x5 x6 x7 x8 x9 x10 x11 x12 x13 x14 x15 x16 x17 x18 := by
  unfold out0_19 SampleKer.mg k0_pay18
  rw [View.canon_unit_zero hz, pay22, pay23]
  repeat rw [View.ld_unit_zero hz]

end out

variable (m : (ℓ : Loc nD τ sig) → Buf (Elt Ideal) ℓ) (c : Dev nD)

/-- There is one point, and every window stands at the array's start. -/
theorem idx_at : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0)
    ∧ (win0_16.index t (0 : Fin 2) = 0 ∧ win0_16.index t (1 : Fin 2) = 0)
    ∧ (win0_17.index t (0 : Fin 2) = 0 ∧ win0_17.index t (1 : Fin 2) = 0)
    ∧ (win0_18.index t (0 : Fin 2) = 0 ∧ win0_18.index t (1 : Fin 2) = 0)
    ∧ (win0_19.index t (0 : Fin 2) = 0 ∧ win0_19.index t (1 : Fin 2) = 0)
    ∧ (win0_20.index t (0 : Fin 2) = 0 ∧ win0_20.index t (1 : Fin 2) = 0)
    ∧ (win0_21.index t (0 : Fin 2) = 0 ∧ win0_21.index t (1 : Fin 2) = 0)
    ∧ (cfg0.win 19).flush t = true ∧ (cfg0.win 20).flush t = true ∧ (cfg0.win 21).flush t = true :=
  (by decide +kernel : ∀ t : Fin grid0.N, _)

theorem w0 (t : Fin cfg0.N) (k : Fin 32) (l : Fin 1024) : iblk m c 0 t (ix2 k l) = V m c main_arg0 (ix2 k l) := by
  refine congrArg (V m c main_arg0) (funext fun a => Fin.ext ?_)
  obtain ⟨i0, i1⟩ := (idx_at t).1
  match a with
  | ⟨0, _⟩ => show win0_0.index t (0 : Fin 2) * 32 + 1 * k.val = k.val; rw [i0]; omega
  | ⟨1, _⟩ => show win0_0.index t (1 : Fin 2) * 1024 + 1 * l.val = l.val; rw [i1]; omega

theorem w1 (t : Fin cfg0.N) (k : Fin 1) (l : Fin 1024) : iblk m c 1 t (ix2 k l) = V m c main_v0 (ix2 k l) := by
  refine congrArg (V m c main_v0) (funext fun a => Fin.ext ?_)
  obtain ⟨i0, i1⟩ := (idx_at t).2.1
  match a with
  | ⟨0, _⟩ => show win0_1.index t (0 : Fin 2) * 1 + 1 * k.val = k.val; rw [i0]; omega
  | ⟨1, _⟩ => show win0_1.index t (1 : Fin 2) * 1024 + 1 * l.val = l.val; rw [i1]; omega

theorem w2 (t : Fin cfg0.N) (k : Fin 1024) (l : Fin 4096) : iblk m c 2 t (ix2 k l) = V m c main_v2 (ix2 k l) := by
  refine congrArg (V m c main_v2) (funext fun a => Fin.ext ?_)
  obtain ⟨i0, i1⟩ := (idx_at t).2.2.1
  match a with
  | ⟨0, _⟩ => show win0_2.index t (0 : Fin 2) * 1024 + 1 * k.val = k.val; rw [i0]; omega
  | ⟨1, _⟩ => show win0_2.index t (1 : Fin 2) * 4096 + 1 * l.val = l.val; rw [i1]; omega

theorem w3 (t : Fin cfg0.N) (k : Fin 4) (l : Fin 1024) : iblk m c 3 t (ix2 k l) = V m c main_arg7 (ix2 k l) := by
  refine congrArg (V m c main_arg7) (funext fun a => Fin.ext ?_)
  obtain ⟨i0, i1⟩ := (idx_at t).2.2.2.1
  match a with
  | ⟨0, _⟩ => show win0_3.index t (0 : Fin 2) * 4 + 1 * k.val = k.val; rw [i0]; omega
  | ⟨1, _⟩ => show win0_3.index t (1 : Fin 2) * 1024 + 1 * l.val = l.val; rw [i1]; omega

theorem w4 (t : Fin cfg0.N) (k : Fin 1) (l : Fin 1024) : iblk m c 4 t (ix2 k l) = V m c main_v3 (ix2 k l) := by
  refine congrArg (V m c main_v3) (funext fun a => Fin.ext ?_)
  obtain ⟨i0, i1⟩ := (idx_at t).2.2.2.2.1
  match a with
  | ⟨0, _⟩ => show win0_4.index t (0 : Fin 2) * 1 + 1 * k.val = k.val; rw [i0]; omega
  | ⟨1, _⟩ => show win0_4.index t (1 : Fin 2) * 1024 + 1 * l.val = l.val; rw [i1]; omega

theorem w5 (t : Fin cfg0.N) (k : Fin 1024) (l : Fin 1024) : iblk m c 5 t (ix2 k l) = V m c main_v37 (ix2 k l) := by
  refine congrArg (V m c main_v37) (funext fun a => Fin.ext ?_)
  obtain ⟨i0, i1⟩ := (idx_at t).2.2.2.2.2.1
  match a with
  | ⟨0, _⟩ => show win0_5.index t (0 : Fin 2) * 1024 + 1 * k.val = k.val; rw [i0]; omega
  | ⟨1, _⟩ => show win0_5.index t (1 : Fin 2) * 1024 + 1 * l.val = l.val; rw [i1]; omega

theorem w6 (t : Fin cfg0.N) (k : Fin 1) (l : Fin 1024) : iblk m c 6 t (ix2 k l) = V m c main_v38 (ix2 k l) := by
  refine congrArg (V m c main_v38) (funext fun a => Fin.ext ?_)
  obtain ⟨i0, i1⟩ := (idx_at t).2.2.2.2.2.2.1
  match a with
  | ⟨0, _⟩ => show win0_6.index t (0 : Fin 2) * 1 + 1 * k.val = k.val; rw [i0]; omega
  | ⟨1, _⟩ => show win0_6.index t (1 : Fin 2) * 1024 + 1 * l.val = l.val; rw [i1]; omega

theorem w7 (t : Fin cfg0.N) (k : Fin 1024) (l : Fin 1024) : iblk m c 7 t (ix2 k l) = V m c main_v72 (ix2 k l) := by
  refine congrArg (V m c main_v72) (funext fun a => Fin.ext ?_)
  obtain ⟨i0, i1⟩ := (idx_at t).2.2.2.2.2.2.2.1
  match a with
  | ⟨0, _⟩ => show win0_7.index t (0 : Fin 2) * 1024 + 1 * k.val = k.val; rw [i0]; omega
  | ⟨1, _⟩ => show win0_7.index t (1 : Fin 2) * 1024 + 1 * l.val = l.val; rw [i1]; omega

theorem w8 (t : Fin cfg0.N) (k : Fin 1) (l : Fin 1024) : iblk m c 8 t (ix2 k l) = V m c main_v73 (ix2 k l) := by
  refine congrArg (V m c main_v73) (funext fun a => Fin.ext ?_)
  obtain ⟨i0, i1⟩ := (idx_at t).2.2.2.2.2.2.2.2.1
  match a with
  | ⟨0, _⟩ => show win0_8.index t (0 : Fin 2) * 1 + 1 * k.val = k.val; rw [i0]; omega
  | ⟨1, _⟩ => show win0_8.index t (1 : Fin 2) * 1024 + 1 * l.val = l.val; rw [i1]; omega

theorem w9 (t : Fin cfg0.N) (k : Fin 1) (l : Fin 1024) : iblk m c 9 t (ix2 k l) = V m c main_v74 (ix2 k l) := by
  refine congrArg (V m c main_v74) (funext fun a => Fin.ext ?_)
  obtain ⟨i0, i1⟩ := (idx_at t).2.2.2.2.2.2.2.2.2.1
  match a with
  | ⟨0, _⟩ => show win0_9.index t (0 : Fin 2) * 1 + 1 * k.val = k.val; rw [i0]; omega
  | ⟨1, _⟩ => show win0_9.index t (1 : Fin 2) * 1024 + 1 * l.val = l.val; rw [i1]; omega

theorem w10 (t : Fin cfg0.N) (k : Fin 32) (l : Fin 1024) : iblk m c 10 t (ix2 k l) = V m c main_v79 (ix2 k l) := by
  refine congrArg (V m c main_v79) (funext fun a => Fin.ext ?_)
  obtain ⟨i0, i1⟩ := (idx_at t).2.2.2.2.2.2.2.2.2.2.1
  match a with
  | ⟨0, _⟩ => show win0_10.index t (0 : Fin 2) * 32 + 1 * k.val = k.val; rw [i0]; omega
  | ⟨1, _⟩ => show win0_10.index t (1 : Fin 2) * 1024 + 1 * l.val = l.val; rw [i1]; omega

theorem w11 (t : Fin cfg0.N) (k : Fin 32) (l : Fin 1024) : iblk m c 11 t (ix2 k l) = V m c main_v81 (ix2 k l) := by
  refine congrArg (V m c main_v81) (funext fun a => Fin.ext ?_)
  obtain ⟨i0, i1⟩ := (idx_at t).2.2.2.2.2.2.2.2.2.2.2.1
  match a with
  | ⟨0, _⟩ => show win0_11.index t (0 : Fin 2) * 32 + 1 * k.val = k.val; rw [i0]; omega
  | ⟨1, _⟩ => show win0_11.index t (1 : Fin 2) * 1024 + 1 * l.val = l.val; rw [i1]; omega

theorem w12 (t : Fin cfg0.N) (k : Fin 32) (l : Fin 1024) : iblk m c 12 t (ix2 k l) = V m c main_v83 (ix2 k l) := by
  refine congrArg (V m c main_v83) (funext fun a => Fin.ext ?_)
  obtain ⟨i0, i1⟩ := (idx_at t).2.2.2.2.2.2.2.2.2.2.2.2.1
  match a with
  | ⟨0, _⟩ => show win0_12.index t (0 : Fin 2) * 32 + 1 * k.val = k.val; rw [i0]; omega
  | ⟨1, _⟩ => show win0_12.index t (1 : Fin 2) * 1024 + 1 * l.val = l.val; rw [i1]; omega

theorem w13 (t : Fin cfg0.N) (k : Fin 32) (l : Fin 1024) : iblk m c 13 t (ix2 k l) = V m c main_arg2 (ix2 k l) := by
  refine congrArg (V m c main_arg2) (funext fun a => Fin.ext ?_)
  obtain ⟨i0, i1⟩ := (idx_at t).2.2.2.2.2.2.2.2.2.2.2.2.2.1
  match a with
  | ⟨0, _⟩ => show win0_13.index t (0 : Fin 2) * 32 + 1 * k.val = k.val; rw [i0]; omega
  | ⟨1, _⟩ => show win0_13.index t (1 : Fin 2) * 1024 + 1 * l.val = l.val; rw [i1]; omega

theorem w14 (t : Fin cfg0.N) (k : Fin 32) (l : Fin 512) : iblk m c 14 t (ix2 k l) = V m c main_arg3 (ix2 k l) := by
  refine congrArg (V m c main_arg3) (funext fun a => Fin.ext ?_)
  obtain ⟨i0, i1⟩ := (idx_at t).2.2.2.2.2.2.2.2.2.2.2.2.2.2.1
  match a with
  | ⟨0, _⟩ => show win0_14.index t (0 : Fin 2) * 32 + 1 * k.val = k.val; rw [i0]; omega
  | ⟨1, _⟩ => show win0_14.index t (1 : Fin 2) * 512 + 1 * l.val = l.val; rw [i1]; omega

theorem w15 (t : Fin cfg0.N) (k : Fin 32) (l : Fin 512) : iblk m c 15 t (ix2 k l) = V m c main_arg4 (ix2 k l) := by
  refine congrArg (V m c main_arg4) (funext fun a => Fin.ext ?_)
  obtain ⟨i0, i1⟩ := (idx_at t).2.2.2.2.2.2.2.2.2.2.2.2.2.2.2.1
  match a with
  | ⟨0, _⟩ => show win0_15.index t (0 : Fin 2) * 32 + 1 * k.val = k.val; rw [i0]; omega
  | ⟨1, _⟩ => show win0_15.index t (1 : Fin 2) * 512 + 1 * l.val = l.val; rw [i1]; omega

theorem w16 (t : Fin cfg0.N) (k : Fin 512) (l : Fin 1024) : iblk m c 16 t (ix2 k l) = V m c main_v75 (ix2 k l) := by
  refine congrArg (V m c main_v75) (funext fun a => Fin.ext ?_)
  obtain ⟨i0, i1⟩ := (idx_at t).2.2.2.2.2.2.2.2.2.2.2.2.2.2.2.2.1
  match a with
  | ⟨0, _⟩ => show win0_16.index t (0 : Fin 2) * 512 + 1 * k.val = k.val; rw [i0]; omega
  | ⟨1, _⟩ => show win0_16.index t (1 : Fin 2) * 1024 + 1 * l.val = l.val; rw [i1]; omega

theorem w17 (t : Fin cfg0.N) (k : Fin 1024) (l : Fin 1024) : iblk m c 17 t (ix2 k l) = V m c main_v76 (ix2 k l) := by
  refine congrArg (V m c main_v76) (funext fun a => Fin.ext ?_)
  obtain ⟨i0, i1⟩ := (idx_at t).2.2.2.2.2.2.2.2.2.2.2.2.2.2.2.2.2.1
  match a with
  | ⟨0, _⟩ => show win0_17.index t (0 : Fin 2) * 1024 + 1 * k.val = k.val; rw [i0]; omega
  | ⟨1, _⟩ => show win0_17.index t (1 : Fin 2) * 1024 + 1 * l.val = l.val; rw [i1]; omega

theorem w18 (t : Fin cfg0.N) (k : Fin 1024) (l : Fin 1024) : iblk m c 18 t (ix2 k l) = V m c main_v77 (ix2 k l) := by
  refine congrArg (V m c main_v77) (funext fun a => Fin.ext ?_)
  obtain ⟨i0, i1⟩ := (idx_at t).2.2.2.2.2.2.2.2.2.2.2.2.2.2.2.2.2.2.1
  match a with
  | ⟨0, _⟩ => show win0_18.index t (0 : Fin 2) * 1024 + 1 * k.val = k.val; rw [i0]; omega
  | ⟨1, _⟩ => show win0_18.index t (1 : Fin 2) * 1024 + 1 * l.val = l.val; rw [i1]; omega

/-- The weights as functions of row and column. -/
def P : Par := Ref.par (m ((c : Thread nD τ).loc main_arg5)) (m ((c : Thread nD τ).loc main_arg6))
  (m ((c : Thread nD τ).loc main_arg7)) (m ((c : Thread nD τ).loc main_arg8)) (m ((c : Thread nD τ).loc main_arg9))
  (m ((c : Thread nD τ).loc main_arg10)) (m ((c : Thread nD τ).loc main_arg11)) (m ((c : Thread nD τ).loc main_arg12))
  (m ((c : Thread nD τ).loc main_arg13)) (m ((c : Thread nD τ).loc main_arg14)) (m ((c : Thread nD τ).loc main_arg15))
  (m ((c : Thread nD τ).loc main_arg16))

theorem wts (t : Fin cfg0.N) : Ker.Wts (P m c) (iblk m c 1 t) (iblk m c 2 t) (iblk m c 3 t) (iblk m c 4 t) (iblk m c 5 t)
    (iblk m c 6 t) (iblk m c 7 t) (iblk m c 8 t) (iblk m c 9 t) (iblk m c 16 t) (iblk m c 17 t) (iblk m c 18 t) where
  g k := (w1 m c t 0 k).trans (SampleHost.v0 m c k)
  wl k l := (w2 m c t k l).trans (SampleHost.v2 m c k l)
  cw q k := (w3 m c t q k).trans (congrFun (V_main_arg7 m c) _)
  cb k := (w4 m c t 0 k).trans (SampleHost.v3 m c k)
  rw k l := (w5 m c t k l).trans (SampleHost.v37 m c k l)
  rb k := (w6 m c t 0 k).trans (SampleHost.v38 m c k)
  iw k l := (w7 m c t k l).trans (SampleHost.v72 m c k l)
  ib k := (w8 m c t 0 k).trans (SampleHost.v73 m c k)
  lam k := (w9 m c t 0 k).trans (SampleHost.v74 m c k)
  oa k l := (w16 m c t k l).trans (SampleHost.v75 m c k l)
  ob k l := (w17 m c t k l).trans (SampleHost.v76 m c k l)
  wo k l := (w18 m c t k l).trans (SampleHost.v77 m c k l)

/-- The arguments by their names. -/
def X : FVec Ideal S32x1024 .f32 := m ((c : Thread nD τ).loc main_arg0)
def CS : FVec Ideal S32x3x1024 .f32 := m ((c : Thread nD τ).loc main_arg1)
def H : FVec Ideal S32x1024 .f32 := m ((c : Thread nD τ).loc main_arg2)
def Y : FVec Ideal S32x512 .f32 := m ((c : Thread nD τ).loc main_arg3)
def GA : FVec Ideal S32x512 .f32 := m ((c : Thread nD τ).loc main_arg4)

theorem x_at (t : Fin cfg0.N) (r : Fin 32) : (fun k => iblk m c 0 t (ix2 r k)) = fun k => X m c (ix2 r k) :=
  funext fun k => (w0 m c t r k).trans (congrFun (V_main_arg0 m c) _)

theorem h_at (t : Fin cfg0.N) (r : Fin 32) : (fun k => iblk m c 13 t (ix2 r k)) = fun k => H m c (ix2 r k) :=
  funext fun k => (w13 m c t r k).trans (congrFun (V_main_arg2 m c) _)

theorem y_at (t : Fin cfg0.N) (r : Fin 32) : (fun k => iblk m c 14 t (ix2 r k)) = fun k => Y m c (ix2 r k) :=
  funext fun k => (w14 m c t r k).trans (congrFun (V_main_arg3 m c) _)

theorem ga_at (t : Fin cfg0.N) (r : Fin 32) : (fun k => iblk m c 15 t (ix2 r k)) = fun k => GA m c (ix2 r k) :=
  funext fun k => (w15 m c t r k).trans (congrFun (V_main_arg4 m c) _)

theorem c0_at (t : Fin cfg0.N) (r : Fin 32) : (fun k => iblk m c 10 t (ix2 r k)) = fun k => CS m c (ix3 r 0 k) :=
  funext fun k => (w10 m c t r k).trans (SampleHost.v79 m c r k)

theorem c1_at (t : Fin cfg0.N) (r : Fin 32) : (fun k => iblk m c 11 t (ix2 r k)) = fun k => CS m c (ix3 r 1 k) :=
  funext fun k => (w11 m c t r k).trans (SampleHost.v81 m c r k)

theorem c2_at (t : Fin cfg0.N) (r : Fin 32) : (fun k => iblk m c 12 t (ix2 r k)) = fun k => CS m c (ix3 r 2 k) :=
  funext fun k => (w12 m c t r k).trans (SampleHost.v83 m c r k)

def A19 : Mat 1024 := merged (P m c) (X m c) (CS m c) (H m c) (Y m c) (GA m c)
def A20 : Mat 1024 := rows (P m c) (X m c)
def A21 : Mat 1024 := states (P m c) (X m c) (CS m c) (H m c)

theorem arr20 (t : Fin cfg0.N) : (dats m 0 c).arrAt 20 cfg0.N = A20 m c := by
  refine ext2 fun r l => ?_
  have h := congrFun ((dats m 0 c).read_blk_arrAt_eq_flushed 20 (fun t t' _ _ hne => absurd ((fin_N0 t).trans (fin_N0 t').symm) hne) cfg0.N t t.isLt ((idx_at t).2.2.2.2.2.2.2.2.2.2.2.2.2.2.2.2.2.2.2.2.2.2.2.1)) (ix2 r l)
  refine Eq.trans (congrArg ((dats m 0 c).arrAt 20 cfg0.N) (funext fun a => Fin.ext ?_)) (h.trans ?_)
  · obtain ⟨i0, i1⟩ := (idx_at t).2.2.2.2.2.2.2.2.2.2.2.2.2.2.2.2.2.2.2.2.1
    match a with
    | ⟨0, _⟩ => show r.val = win0_20.index t (0 : Fin 2) * 32 + 1 * r.val; rw [i0]; omega
    | ⟨1, _⟩ => show l.val = win0_20.index t (1 : Fin 2) * 1024 + 1 * l.val; rw [i1]; omega
  · refine Eq.trans (show _ = (dats m 0 c).after 20 t (ix2 r l) from rfl) ?_
    rw [after0_20, out20]
    refine (SampleKer.w_at (P m c) _ _ _ (wts m c t).g (wts m c t).wl r l).trans ?_
    rw [x_at]
    rfl

theorem arr21 (t : Fin cfg0.N) : (dats m 0 c).arrAt 21 cfg0.N = A21 m c := by
  refine ext2 fun r l => ?_
  have h := congrFun ((dats m 0 c).read_blk_arrAt_eq_flushed 21 (fun t t' _ _ hne => absurd ((fin_N0 t).trans (fin_N0 t').symm) hne) cfg0.N t t.isLt ((idx_at t).2.2.2.2.2.2.2.2.2.2.2.2.2.2.2.2.2.2.2.2.2.2.2.2)) (ix2 r l)
  refine Eq.trans (congrArg ((dats m 0 c).arrAt 21 cfg0.N) (funext fun a => Fin.ext ?_)) (h.trans ?_)
  · obtain ⟨i0, i1⟩ := (idx_at t).2.2.2.2.2.2.2.2.2.2.2.2.2.2.2.2.2.2.2.2.2.1
    match a with
    | ⟨0, _⟩ => show r.val = win0_21.index t (0 : Fin 2) * 32 + 1 * r.val; rw [i0]; omega
    | ⟨1, _⟩ => show l.val = win0_21.index t (1 : Fin 2) * 1024 + 1 * l.val; rw [i1]; omega
  · refine Eq.trans (show _ = (dats m 0 c).after 21 t (ix2 r l) from rfl) ?_
    rw [after0_21, out21]
    refine (SampleKer.hn_at _ _ _ _ _ (wts m c t) r l).trans ?_
    rw [x_at, h_at, c0_at, c1_at, c2_at]
    rfl

theorem arr19 (t : Fin cfg0.N) : (dats m 0 c).arrAt 19 cfg0.N = A19 m c := by
  refine ext2 fun r l => ?_
  have h := congrFun ((dats m 0 c).read_blk_arrAt_eq_flushed 19 (fun t t' _ _ hne => absurd ((fin_N0 t).trans (fin_N0 t').symm) hne) cfg0.N t t.isLt ((idx_at t).2.2.2.2.2.2.2.2.2.2.2.2.2.2.2.2.2.2.2.2.2.2.1)) (ix2 r l)
  refine Eq.trans (congrArg ((dats m 0 c).arrAt 19 cfg0.N) (funext fun a => Fin.ext ?_)) (h.trans ?_)
  · obtain ⟨i0, i1⟩ := (idx_at t).2.2.2.2.2.2.2.2.2.2.2.2.2.2.2.2.2.2.2.1
    match a with
    | ⟨0, _⟩ => show r.val = win0_19.index t (0 : Fin 2) * 32 + 1 * r.val; rw [i0]; omega
    | ⟨1, _⟩ => show l.val = win0_19.index t (1 : Fin 2) * 1024 + 1 * l.val; rw [i1]; omega
  · refine Eq.trans (show _ = (dats m 0 c).after 19 t (ix2 r l) from rfl) ?_
    rw [after0_19, out19]
    refine (SampleKer.mg_at _ _ _ _ _ _ _ (wts m c t) r l).trans ?_
    rw [x_at, h_at, y_at, ga_at, c0_at, c1_at, c2_at]
    rfl

/-- The call's three arrays after the run; the arguments are kept. -/
theorem run (ρ : Dev nD → PrngReg) : θ_run defs (onTc (τ := τ) (main (F := Ideal))) ⟨m, fun _ => 0, ρ⟩ (fun r => ∀ c : Dev nD,
      r.2.mem ((c.tc : Thread nD τ).loc main_v84_0) = A19 m c
      ∧ r.2.mem ((c.tc : Thread nD τ).loc main_v84_1) = A20 m c
      ∧ r.2.mem ((c.tc : Thread nD τ).loc main_v84_2) = A21 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨((h.1 c).1 19).trans (arr19 m c t0_0), ((h.1 c).1 20).trans (arr20 m c t0_0),
      ((h.1 c).1 21).trans (arr21 m c t0_0), h.2 c⟩)
    (θ_run_and (run_main m ρ) (unchanged m ρ))

end Cert.Lru.SampleArr

end
-- ==== Proof.Lru.SampleRef.lean ====
/-
  The sample batch's reference at an index: the plain forms of `SampleSpec.lean` over the arguments.
-/
module

public import proofs.«01_k».proof.Proof.Lru.SampleSpec
public import proofs.«01_k».proof.Proof.Lru.Ref
public import proofs.«01_k».proof.Proof.Gen.Reference3Ideal.Run
public import Idealize.ShloMosaic.Lib.Tactic
public import Idealize.ShloMosaic.Lib.Pointwise

@[expose] public section

set_option maxRecDepth 16384

noncomputable section

namespace Cert.Lru.SampleRef

open Idealize.ShloMosaic Idealize.ShloMosaic.TcCoe Idealize.SL.Sem Idealize.ShloMosaic.StableHlo
open Cert.Reference3Ideal Cert.Reference3Ideal.Gen Cert.Lru

/-! ## The reference's stages -/

/-- The projection. -/
def zR (A0 : FVec Ideal S32x1024 .f32) (A5 : FVec Ideal S1024 .f32) (A6 : FVec Ideal S1024x6728 .f32) :
    FVec Ideal S32x4096 .f32 :=
  Host.dotGeneral dot_S32x1024_S1024x4096_S32x4096_1_0_0_1_n_n none (mulf (mulf A0 (broadcastInDim S32x1024 ![0, 1] bcast_S32x1_S32x1024_0_1 (Host.rsqrt (addf (Host.divf (broadcastInDim S32x1 ![0] bcast_S32_S32x1_0 (Host.reduceAdd (mulf A0 A0) (constant S_ .f32 0x00000000#32) reducesTo_S32x1024_S32_d1 h_S_)) (broadcastInDim S32x1 ![] bcast_S_S32x1 (constant S_ .f32 0x44800000#32))) (broadcastInDim S32x1 ![] bcast_S_S32x1 (constant S_ .f32 0x358637BD#32)))))) (broadcastInDim S32x1024 ![0, 1] bcast_S1x1024_S32x1024_0_1 (broadcastInDim S1x1024 ![1] bcast_S1024_S1x1024_1 A5))) (extractStridedSlice S1024x4096 ![0, 2632] A6 slices_S1024x6728_S1024x4096_0_2632)

/-- The convolution. -/
def xcR (A1 : FVec Ideal S32x3x1024 .f32) (A7 : FVec Ideal S4x1024 .f32) (A8 : FVec Ideal S1024 .f32)
    (Z : FVec Ideal S32x4096 .f32) : FVec Ideal S32x1024 .f32 :=
  addf (broadcastInDim S32x1024 ![0, 1] bcast_S1x1024_S32x1024_0_1 (broadcastInDim S1x1024 ![1] bcast_S1024_S1x1024_1 A8)) (addf (addf (addf (addf (broadcastInDim S32x1024 ![] bcast_S_S32x1024 (constant S_ .f32 0x00000000#32)) (mulf (broadcastInDim S32x1024 ![0, 1] bcast_S1x1024_S32x1024_0_1 (broadcastInDim S1x1024 ![1] bcast_S1024_S1x1024_1 (shapeCast _ (extractStridedSlice S1x1024 ![0, 0] A7 slices_S4x1024_S1x1024_0_0) shapeCasts_S1x1024_S1024))) (shapeCast _ (extractStridedSlice S32x1x1024 ![0, 0, 0] (concatenate S32x4x1024 1 [⟨S32x3x1024, A1⟩, ⟨S32x1x1024, (broadcastInDim S32x1x1024 ![0, 2] bcast_S32x1024_S32x1x1024_0_2 (extractStridedSlice S32x1024 ![0, 0] Z slices_S32x4096_S32x1024_0_0))⟩] concatenates_S32x3x1024_S32x1x1024_S32x4x1024_d1) slices_S32x4x1024_S32x1x1024_0_0_0) shapeCasts_S32x1x1024_S32x1024))) (mulf (broadcastInDim S32x1024 ![0, 1] bcast_S1x1024_S32x1024_0_1 (broadcastInDim S1x1024 ![1] bcast_S1024_S1x1024_1 (shapeCast _ (extractStridedSlice S1x1024 ![1, 0] A7 slices_S4x1024_S1x1024_1_0) shapeCasts_S1x1024_S1024))) (shapeCast _ (extractStridedSlice S32x1x1024 ![0, 1, 0] (concatenate S32x4x1024 1 [⟨S32x3x1024, A1⟩, ⟨S32x1x1024, (broadcastInDim S32x1x1024 ![0, 2] bcast_S32x1024_S32x1x1024_0_2 (extractStridedSlice S32x1024 ![0, 0] Z slices_S32x4096_S32x1024_0_0))⟩] concatenates_S32x3x1024_S32x1x1024_S32x4x1024_d1) slices_S32x4x1024_S32x1x1024_0_1_0) shapeCasts_S32x1x1024_S32x1024))) (mulf (broadcastInDim S32x1024 ![0, 1] bcast_S1x1024_S32x1024_0_1 (broadcastInDim S1x1024 ![1] bcast_S1024_S1x1024_1 (shapeCast _ (extractStridedSlice S1x1024 ![2, 0] A7 slices_S4x1024_S1x1024_2_0) shapeCasts_S1x1024_S1024))) (shapeCast _ (extractStridedSlice S32x1x1024 ![0, 2, 0] (concatenate S32x4x1024 1 [⟨S32x3x1024, A1⟩, ⟨S32x1x1024, (broadcastInDim S32x1x1024 ![0, 2] bcast_S32x1024_S32x1x1024_0_2 (extractStridedSlice S32x1024 ![0, 0] Z slices_S32x4096_S32x1024_0_0))⟩] concatenates_S32x3x1024_S32x1x1024_S32x4x1024_d1) slices_S32x4x1024_S32x1x1024_0_2_0) shapeCasts_S32x1x1024_S32x1024))) (mulf (broadcastInDim S32x1024 ![0, 1] bcast_S1x1024_S32x1024_0_1 (broadcastInDim S1x1024 ![1] bcast_S1024_S1x1024_1 (shapeCast _ (extractStridedSlice S1x1024 ![3, 0] A7 slices_S4x1024_S1x1024_3_0) shapeCasts_S1x1024_S1024))) (shapeCast _ (extractStridedSlice S32x1x1024 ![0, 3, 0] (concatenate S32x4x1024 1 [⟨S32x3x1024, A1⟩, ⟨S32x1x1024, (broadcastInDim S32x1x1024 ![0, 2] bcast_S32x1024_S32x1x1024_0_2 (extractStridedSlice S32x1024 ![0, 0] Z slices_S32x4096_S32x1024_0_0))⟩] concatenates_S32x3x1024_S32x1x1024_S32x4x1024_d1) slices_S32x4x1024_S32x1x1024_0_3_0) shapeCasts_S32x1x1024_S32x1024)))

/-- A gate. -/
def gateR (G : FVec Ideal S16x64x64 .f32) (B : FVec Ideal S1024 .f32) (XC : FVec Ideal S32x1024 .f32) :
    FVec Ideal S32x1024 .f32 :=
  Host.divf (broadcastInDim S32x1024 ![] bcast_S_S32x1024 (constant S_ .f32 0x3F800000#32)) (addf (broadcastInDim S32x1024 ![] bcast_S_S32x1024 (constant S_ .f32 0x3F800000#32)) (Host.exp (Host.negf (addf (shapeCast _ (transpose S32x16x64 [2, 0, 1] (Host.dotGeneral dot_S16x64x64_S32x16x64_S16x64x32_1_2_2_0_0_1 none G (shapeCast _ XC shapeCasts_S32x1024_S32x16x64)) transposes_S16x64x32_S32x16x64_2_0_1) shapeCasts_S32x16x64_S32x1024) (broadcastInDim S32x1024 ![0, 1] bcast_S1x1024_S32x1024_0_1 (broadcastInDim S1x1024 ![1] bcast_S1024_S1x1024_1 B))))))

/-- The decay's exponent. -/
def laR (R : FVec Ideal S32x1024 .f32) (A13 : FVec Ideal S1024 .f32) : FVec Ideal S32x1024 .f32 :=
  mulf (mulf (broadcastInDim S32x1024 ![] bcast_S_S32x1024 (constant S_ .f32 0xC1000000#32)) R) (broadcastInDim S32x1024 ![0, 1] bcast_S1x1024_S32x1024_0_1 (broadcastInDim S1x1024 ![1] bcast_S1024_S1x1024_1 (select (cmpf .une (subf (Host.negf A13) (broadcastInDim S1024 ![] bcast_S_S1024 (constant S_ .f32 0x00000000#32))) (subf (Host.negf A13) (broadcastInDim S1024 ![] bcast_S_S1024 (constant S_ .f32 0x00000000#32)))) (addf (Host.negf A13) (broadcastInDim S1024 ![] bcast_S_S1024 (constant S_ .f32 0x00000000#32))) (addf (maximumf (Host.negf A13) (broadcastInDim S1024 ![] bcast_S_S1024 (constant S_ .f32 0x00000000#32))) (Host.log1p (Host.exp (Host.negf (Host.absf (subf (Host.negf A13) (broadcastInDim S1024 ![] bcast_S_S1024 (constant S_ .f32 0x00000000#32)))))))))))

/-- The new state. -/
def hR (LA I XC A2 : FVec Ideal S32x1024 .f32) : FVec Ideal S32x1024 .f32 :=
  addf (mulf (Host.sqrt (Host.negf (Host.expm1 (mulf (broadcastInDim S32x1024 ![] bcast_S_S32x1024 (constant S_ .f32 0x40000000#32)) LA)))) (mulf I XC)) (mulf (Host.exp LA) A2)

/-- The merge. -/
def oR (A0 : FVec Ideal S32x1024 .f32) (A3 A4 : FVec Ideal S32x512 .f32) (Z : FVec Ideal S32x4096 .f32)
    (H : FVec Ideal S32x1024 .f32) (A14 : FVec Ideal S512x1024 .f32) (A15 A16 : FVec Ideal S1024x1024 .f32) :
    FVec Ideal S32x1024 .f32 :=
  addf A0 (Host.dotGeneral dot_S32x1024_S1024x1024_S32x1024_1_0_0_1_n_n none (addf (mulf (Host.divf (broadcastInDim S32x1024 ![] bcast_S_S32x1024 (constant S_ .f32 0x3F800000#32)) (addf (broadcastInDim S32x1024 ![] bcast_S_S32x1024 (constant S_ .f32 0x3F800000#32)) (Host.exp (Host.negf (extractStridedSlice S32x1024 ![0, 2048] Z slices_S32x4096_S32x1024_0_2048))))) (Host.dotGeneral dot_S32x512_S512x1024_S32x1024_1_0_0_1_n_n none (mulf A3 (mulf A4 (Host.divf (broadcastInDim S32x512 ![] bcast_S_S32x512 (constant S_ .f32 0x3F800000#32)) (addf (broadcastInDim S32x512 ![] bcast_S_S32x512 (constant S_ .f32 0x3F800000#32)) (Host.exp (Host.negf A4)))))) A14)) (mulf (Host.divf (broadcastInDim S32x1024 ![] bcast_S_S32x1024 (constant S_ .f32 0x3F800000#32)) (addf (broadcastInDim S32x1024 ![] bcast_S_S32x1024 (constant S_ .f32 0x3F800000#32)) (Host.exp (Host.negf (extractStridedSlice S32x1024 ![0, 3072] Z slices_S32x4096_S32x1024_0_3072))))) (Host.dotGeneral dot_S32x1024_S1024x1024_S32x1024_1_0_0_1_n_n none (mulf H (mulf (extractStridedSlice S32x1024 ![0, 1024] Z slices_S32x4096_S32x1024_0_1024) (Host.divf (broadcastInDim S32x1024 ![] bcast_S_S32x1024 (constant S_ .f32 0x3F800000#32)) (addf (broadcastInDim S32x1024 ![] bcast_S_S32x1024 (constant S_ .f32 0x3F800000#32)) (Host.exp (Host.negf (extractStridedSlice S32x1024 ![0, 1024] Z slices_S32x4096_S32x1024_0_1024))))))) A15))) A16)

variable (P : Par) (r : Fin 32)

theorem zR_at (x : FVec Ideal S32x1024 .f32) (g : FVec Ideal S1024 .f32) (w : FVec Ideal S1024x6728 .f32)
    (hg : ∀ k, P.g k = g (ix1 k)) (hw : ∀ k c, P.wl k c = w (ix2 k ⟨2632 + c.val, by omega⟩)) (c : Fin 4096) :
    zR x g w (ix2 r c) = zrow P (fun k => x (ix2 r k)) c := by
  unfold zrow hrow
  simp only [hg, hw]
  pointwise [zR]

theorem xcR_at (cs : FVec Ideal S32x3x1024 .f32) (cw : FVec Ideal S4x1024 .f32) (cb : FVec Ideal S1024 .f32)
    (Z : FVec Ideal S32x4096 .f32) (X : Fin 1024 → EReal) (hz : ∀ c, Z (ix2 r c) = zrow P X c)
    (hcw : ∀ q c, P.cw q c = cw (ix2 q c)) (hcb : ∀ c, P.cb c = cb (ix1 c)) (c : Fin 1024) :
    xcR cs cw cb Z (ix2 r c)
      = sconv P (fun k => cs (ix3 r 0 k)) (fun k => cs (ix3 r 1 k)) (fun k => cs (ix3 r 2 k)) X c := by
  unfold sconv
  rw [← hz, hcb, hcw, hcw, hcw, hcw]
  pointwise [xcR, part]

theorem gateR_at (G : FVec Ideal S16x64x64 .f32) (B : FVec Ideal S1024 .f32) (XC : FVec Ideal S32x1024 .f32) (c : Fin 1024) :
    gateR G B XC (ix2 r c) = gate (fun n k l => G (ix3 n k l)) (fun c => B (ix1 c)) (fun k => XC (ix2 r k)) c := by
  pointwise [gateR]
  rfl

theorem laR_at (R : FVec Ideal S32x1024 .f32) (lam : FVec Ideal S1024 .f32) (c : Fin 1024) :
    laR R lam (ix2 r c) = logA (R (ix2 r c)) (-(lam (ix1 c))) := by
  pointwise [laR]
  rw [if_neg (by simp), ofBits_neg8]
  rfl

theorem hR_at (LA I XC h : FVec Ideal S32x1024 .f32) (c : Fin 1024) :
    hR LA I XC h (ix2 r c) = Ideal.sqrt (-(Ideal.expm1 (((2 : ℝ) : EReal) * LA (ix2 r c)))) * (I (ix2 r c) * XC (ix2 r c))
      + Ideal.exp (LA (ix2 r c)) * h (ix2 r c) := by
  rw [← ofBits_two]
  pointwise [hR]
  rfl

theorem oR_at (x : FVec Ideal S32x1024 .f32) (y ga : FVec Ideal S32x512 .f32) (Z : FVec Ideal S32x4096 .f32)
    (H : FVec Ideal S32x1024 .f32) (oa : FVec Ideal S512x1024 .f32) (ob wo : FVec Ideal S1024x1024 .f32)
    (hz : ∀ c, Z (ix2 r c) = zrow P (fun k => x (ix2 r k)) c) (ha : ∀ k c, P.oa k c = oa (ix2 k c))
    (hb : ∀ k c, P.ob k c = ob (ix2 k c)) (ho : ∀ k c, P.wo k c = wo (ix2 k c)) (c : Fin 1024) :
    oR x y ga Z H oa ob wo (ix2 r c)
      = mrow P (fun k => x (ix2 r k)) (fun k => y (ix2 r k)) (fun k => ga (ix2 r k)) (fun k => H (ix2 r k)) c := by
  unfold mrow sgm
  simp only [← hz, ha, hb, ho]
  pointwise [oR, part]

section arrays

variable (A0 : FVec Ideal S32x1024 .f32) (A1 : FVec Ideal S32x3x1024 .f32) (A2 : FVec Ideal S32x1024 .f32) (A3 : FVec Ideal S32x512 .f32) (A4 : FVec Ideal S32x512 .f32) (A5 : FVec Ideal S1024 .f32) (A6 : FVec Ideal S1024x6728 .f32) (A7 : FVec Ideal S4x1024 .f32) (A8 : FVec Ideal S1024 .f32) (A9 : FVec Ideal S16x64x64 .f32) (A10 : FVec Ideal S1024 .f32) (A11 : FVec Ideal S16x64x64 .f32) (A12 : FVec Ideal S1024 .f32) (A13 : FVec Ideal S1024 .f32) (A14 : FVec Ideal S512x1024 .f32) (A15 : FVec Ideal S1024x1024 .f32) (A16 : FVec Ideal S1024x1024 .f32)

theorem z_eq (r : Fin 32) (c : Fin 4096) : zR A0 A5 A6 (ix2 r c) = zrow (Ref.par A5 A6 A7 A8 A9 A10 A11 A12 A13 A14 A15 A16) (fun k => A0 (ix2 r k)) c :=
  zR_at (Ref.par A5 A6 A7 A8 A9 A10 A11 A12 A13 A14 A15 A16) r A0 A5 A6 (fun _ => rfl) (fun _ _ => rfl) c

theorem rows_eq : extractStridedSlice S32x1024 ![0, 0] (zR A0 A5 A6) slices_S32x4096_S32x1024_0_0 = rows (Ref.par A5 A6 A7 A8 A9 A10 A11 A12 A13 A14 A15 A16) A0 :=
  ext2 fun r c => by
    refine Eq.trans ?_ (z_eq A0 A5 A6 A7 A8 A9 A10 A11 A12 A13 A14 A15 A16 r (part 0 c))
    generalize zR A0 A5 A6 = Z
    pointwise [part]

theorem xc_eq (r : Fin 32) (c : Fin 1024) : (xcR A1 A7 A8 (zR A0 A5 A6)) (ix2 r c)
    = sconv (Ref.par A5 A6 A7 A8 A9 A10 A11 A12 A13 A14 A15 A16) (fun k => A1 (ix3 r 0 k)) (fun k => A1 (ix3 r 1 k)) (fun k => A1 (ix3 r 2 k)) (fun k => A0 (ix2 r k)) c :=
  xcR_at (Ref.par A5 A6 A7 A8 A9 A10 A11 A12 A13 A14 A15 A16) r A1 A7 A8 _ _ (fun l => z_eq A0 A5 A6 A7 A8 A9 A10 A11 A12 A13 A14 A15 A16 r l) (fun _ _ => rfl) (fun _ => rfl) c

theorem states_eq : hR (laR (gateR A9 A10 (xcR A1 A7 A8 (zR A0 A5 A6))) A13) (gateR A11 A12 (xcR A1 A7 A8 (zR A0 A5 A6))) (xcR A1 A7 A8 (zR A0 A5 A6)) A2 = states (Ref.par A5 A6 A7 A8 A9 A10 A11 A12 A13 A14 A15 A16) A0 A1 A2 :=
  ext2 fun r c => by
    have hx : (fun k => (xcR A1 A7 A8 (zR A0 A5 A6)) (ix2 r k)) = _ := funext fun k => xc_eq A0 A1 A5 A6 A7 A8 A9 A10 A11 A12 A13 A14 A15 A16 r k
    rw [hR_at, laR_at, gateR_at, gateR_at, hx, xc_eq A0 A1 A5 A6 A7 A8 A9 A10 A11 A12 A13 A14 A15 A16 r c]
    rfl

theorem merged_eq : oR A0 A3 A4 (zR A0 A5 A6) (hR (laR (gateR A9 A10 (xcR A1 A7 A8 (zR A0 A5 A6))) A13) (gateR A11 A12 (xcR A1 A7 A8 (zR A0 A5 A6))) (xcR A1 A7 A8 (zR A0 A5 A6)) A2) A14 A15 A16 = merged (Ref.par A5 A6 A7 A8 A9 A10 A11 A12 A13 A14 A15 A16) A0 A1 A2 A3 A4 :=
  ext2 fun r c => by
    rw [oR_at (Ref.par A5 A6 A7 A8 A9 A10 A11 A12 A13 A14 A15 A16) r A0 A3 A4 _ _ A14 A15 A16 (fun l => z_eq A0 A5 A6 A7 A8 A9 A10 A11 A12 A13 A14 A15 A16 r l) (fun _ _ => rfl)
      (fun _ _ => rfl) (fun _ _ => rfl) c, states_eq]
    rfl

end arrays

/-- The reference's three arrays after the run; the arguments are kept. -/
theorem ref_run (m : (ℓ : Loc nD τ sig) → Buf (Elt Ideal) ℓ) (ρ : Dev nD → PrngReg) :
    θ_run defs (onTc (τ := τ) (main (F := Ideal))) ⟨m, fun _ => 0, ρ⟩ (fun r => ∀ (c : Dev nD),
      ∀ A0 A1 A2 A3 A4 A5 A6 A7 A8 A9 A10 A11 A12 A13 A14 A15 A16, m ((c.tc : Thread nD τ).loc main_arg0) = A0 → m ((c.tc : Thread nD τ).loc main_arg1) = A1 → m ((c.tc : Thread nD τ).loc main_arg2) = A2 → m ((c.tc : Thread nD τ).loc main_arg3) = A3 → m ((c.tc : Thread nD τ).loc main_arg4) = A4 → m ((c.tc : Thread nD τ).loc main_arg5) = A5 → m ((c.tc : Thread nD τ).loc main_arg6) = A6 → m ((c.tc : Thread nD τ).loc main_arg7) = A7 → m ((c.tc : Thread nD τ).loc main_arg8) = A8 → m ((c.tc : Thread nD τ).loc main_arg9) = A9 → m ((c.tc : Thread nD τ).loc main_arg10) = A10 → m ((c.tc : Thread nD τ).loc main_arg11) = A11 → m ((c.tc : Thread nD τ).loc main_arg12) = A12 → m ((c.tc : Thread nD τ).loc main_arg13) = A13 → m ((c.tc : Thread nD τ).loc main_arg14) = A14 → m ((c.tc : Thread nD τ).loc main_arg15) = A15 → m ((c.tc : Thread nD τ).loc main_arg16) = A16 →
      r.2.mem ((c.tc : Thread nD τ).loc main_v121) = merged (Ref.par A5 A6 A7 A8 A9 A10 A11 A12 A13 A14 A15 A16) A0 A1 A2 A3 A4
      ∧ r.2.mem ((c.tc : Thread nD τ).loc main_v15) = rows (Ref.par A5 A6 A7 A8 A9 A10 A11 A12 A13 A14 A15 A16) A0
      ∧ r.2.mem ((c.tc : Thread nD τ).loc main_v98) = states (Ref.par A5 A6 A7 A8 A9 A10 A11 A12 A13 A14 A15 A16) A0 A1 A2
      ∧ r.2.mem ((c.tc : Thread nD τ).loc main_arg0) = A0
      ∧ r.2.mem ((c.tc : Thread nD τ).loc main_arg1) = A1
      ∧ r.2.mem ((c.tc : Thread nD τ).loc main_arg2) = A2
      ∧ r.2.mem ((c.tc : Thread nD τ).loc main_arg3) = A3
      ∧ r.2.mem ((c.tc : Thread nD τ).loc main_arg4) = A4
      ∧ r.2.mem ((c.tc : Thread nD τ).loc main_arg5) = A5
      ∧ r.2.mem ((c.tc : Thread nD τ).loc main_arg6) = A6
      ∧ r.2.mem ((c.tc : Thread nD τ).loc main_arg7) = A7
      ∧ r.2.mem ((c.tc : Thread nD τ).loc main_arg8) = A8
      ∧ r.2.mem ((c.tc : Thread nD τ).loc main_arg9) = A9
      ∧ r.2.mem ((c.tc : Thread nD τ).loc main_arg10) = A10
      ∧ r.2.mem ((c.tc : Thread nD τ).loc main_arg11) = A11
      ∧ r.2.mem ((c.tc : Thread nD τ).loc main_arg12) = A12
      ∧ r.2.mem ((c.tc : Thread nD τ).loc main_arg13) = A13
      ∧ r.2.mem ((c.tc : Thread nD τ).loc main_arg14) = A14
      ∧ r.2.mem ((c.tc : Thread nD τ).loc main_arg15) = A15
      ∧ r.2.mem ((c.tc : Thread nD τ).loc main_arg16) = A16) :=
  (θ_run defs _ _).mono (fun r h c A0 A1 A2 A3 A4 A5 A6 A7 A8 A9 A10 A11 A12 A13 A14 A15 A16 h0 h1 h2 h3 h4 h5 h6 h7 h8 h9 h10 h11 h12 h13 h14 h15 h16 => by
    obtain ⟨e1, e2, e3, er⟩ := h c
    subst h0 h1 h2 h3 h4 h5 h6 h7 h8 h9 h10 h11 h12 h13 h14 h15 h16
    refine ⟨e1.trans (Eq.trans ?_ (merged_eq _ _ _ _ _ _ _ _ _ _ _ _ _ _ _ _ _)),
      e2.trans (Eq.trans ?_ (rows_eq _ _ _ _ _ _ _ _ _ _ _ _ _)),
      e3.trans (Eq.trans ?_ (states_eq _ _ _ _ _ _ _ _ _ _ _ _ _ _ _)), er⟩
    all_goals rfl) (Value.run m ρ)

end Cert.Lru.SampleRef

end
-- ==== Proof.Norm.Final.lean ====
/-
  The final normalisation: each row of the kernel's array and of the reference's is the row normalised by its root mean
  square and scaled.
-/
module

public import proofs.«01_k».proof.Proof.Lru.Spec
public import proofs.«01_k».proof.Proof.Gen.Kernel4Ideal.Value
public import proofs.«01_k».proof.Proof.Gen.Reference4Ideal.Run
public import Idealize.ShloMosaic.Lib.Tactic
public import Idealize.ShloMosaic.Lib.StableHlo.Run
public import Idealize.ShloMosaic.Lib.StableHlo.ReadAt
public import Idealize.ShloMosaic.Lib.Pointwise

@[expose] public section

set_option maxRecDepth 16384

noncomputable section

namespace Cert.Norm.Final

open Idealize.ShloMosaic Idealize.ShloMosaic.TcCoe Idealize.SL.Sem Idealize.ShloMosaic.StableHlo
open Cert.Lru

/-- The reference's result over its arguments. -/
def spec {m : ℕ} (x : FVec Ideal (⟨2, ![m, 1024]⟩ : Shape) .f32) (g : FVec Ideal (⟨1, ![1024]⟩ : Shape) .f32) :
    FVec Ideal (⟨2, ![m, 1024]⟩ : Shape) .f32 :=
  fun j => hrow (fun l => x (ix2 (j 0) l)) (fun l => g (ix1 l)) (j 1)

section kernel

open Cert.Kernel4Ideal Cert.Kernel4Ideal.Gen

/-- The block's payload at an index. -/
theorem pay_at (p : Vec Ideal S256x1024 .f32) (q : Vec Ideal S1x1024 .f32) (r : Fin 256) (l : Fin 1024) :
    k0_pay1 (F := Ideal) p q (ix2 r l) = hrow (fun l => p (ix2 r l)) (fun l => q (ix2 0 l)) l := by
  unfold hrow
  pointwise [k0_pay1]

variable (m : (ℓ : Loc nD τ sig) → Buf (Elt Ideal) ℓ) (c : Dev nD)

theorem idx_at : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (cfg0.win 2).flush t = true :=
  (by decide +kernel : ∀ t : Fin grid0.N, _)

theorem row_lt (t : Fin cfg0.N) (r : Fin 256) : 256 * t.val + r.val < 16384 := by
  have := lt_of_lt_of_eq t.isLt N_0; omega

theorem w0 (t : Fin cfg0.N) (k : Fin 256) (l : Fin 1024) :
    iblk m c 0 t (ix2 k l)
      = (m ((c.tc : Thread nD τ).loc main_arg0) : FVec Ideal S16384x1024 .f32) (ix2 ⟨256 * t.val + k.val, row_lt t k⟩ l) := by
  refine Eq.trans (congrArg (V m c main_arg0) (funext fun a => Fin.ext ?_)) (congrFun (V_main_arg0 m c) _)
  obtain ⟨i0, i1⟩ := (idx_at t).1
  match a with
  | ⟨0, _⟩ => show win0_0.index t (0 : Fin 2) * 256 + 1 * k.val = 256 * t.val + k.val; rw [i0]; omega
  | ⟨1, _⟩ => show win0_0.index t (1 : Fin 2) * 1024 + 1 * l.val = l.val; rw [i1]; omega

/-- The scale as the region finds it: one row of the argument. -/
theorem scale_at (l : Fin 1024) :
    V m c main_v0 (ix2 0 l) = (m ((c.tc : Thread nD τ).loc main_arg1) : FVec Ideal S1024 .f32) (ix1 l) := by
  simp only [V, hostOps0]
  after_reads_at

theorem w1 (t : Fin cfg0.N) (l : Fin 1024) :
    iblk m c 1 t (ix2 0 l) = (m ((c.tc : Thread nD τ).loc main_arg1) : FVec Ideal S1024 .f32) (ix1 l) := by
  refine Eq.trans (congrArg (V m c main_v0) (funext fun a => Fin.ext ?_)) (scale_at m c l)
  obtain ⟨i0, i1⟩ := (idx_at t).2.1
  match a with
  | ⟨0, _⟩ => show win0_1.index t (0 : Fin 2) * 1 + 1 * 0 = 0; rw [i0]
  | ⟨1, _⟩ => show win0_1.index t (1 : Fin 2) * 1024 + 1 * l.val = l.val; rw [i1]; omega

theorem hz : (![0, 0] : Fin 2 → Nat) = fun _ => 0 := funext fun a => by fin_cases a <;> rfl

/-- What a point leaves in its block is the payload of its two input blocks. -/
theorem out_eq (x0 : Vec Ideal S256x1024 .f32) (x1 : Vec Ideal S1x1024 .f32) : out0_2 x0 x1 = k0_pay1 x0 x1 := by
  unfold out0_2
  rw [View.canon_unit_zero hz, View.ld_unit_zero hz, View.ld_unit_zero hz]

/-- The final array at an index. -/
theorem arr_at (t : Fin cfg0.N) (r : Fin 256) (l : Fin 1024) :
    (dats m 0 c).arrAt 2 cfg0.N (ix2 ⟨256 * t.val + r.val, row_lt t r⟩ l)
      = hrow (fun l => (m ((c.tc : Thread nD τ).loc main_arg0) : FVec Ideal S16384x1024 .f32)
          (ix2 ⟨256 * t.val + r.val, row_lt t r⟩ l))
        (fun l => (m ((c.tc : Thread nD τ).loc main_arg1) : FVec Ideal S1024 .f32) (ix1 l)) l := by
  have h := congrFun (Value.blocks2 m c t (idx_at t).2.2.2) (ix2 r l)
  rw [Value.flushed2, out_eq] at h
  refine Eq.trans (congrArg ((dats m 0 c).arrAt 2 cfg0.N) (funext fun a => Fin.ext ?_)) (h.trans ?_)
  · obtain ⟨i0, i1⟩ := (idx_at t).2.2.1
    match a with
    | ⟨0, _⟩ => show 256 * t.val + r.val = win0_2.index t (0 : Fin 2) * 256 + 1 * r.val; rw [i0]; omega
    | ⟨1, _⟩ => show l.val = win0_2.index t (1 : Fin 2) * 1024 + 1 * l.val; rw [i1]; omega
  · refine (pay_at (iblk m c 0 t) (iblk m c 1 t) r l).trans ?_
    exact congrArg₂ (fun x g => hrow x g l) (funext fun l => w0 m c t r l) (funext fun l => w1 m c t l)

theorem arr_eq :
    (dats m 0 c).arrAt 2 cfg0.N = spec (m ((c.tc : Thread nD τ).loc main_arg0)) (m ((c.tc : Thread nD τ).loc main_arg1)) := by
  funext j
  rw [← ix2_eta j]
  have hj : (j 0).val < 16384 := (j 0).isLt
  have h := arr_at m c ⟨(j 0).val / 256, by rw [show cfg0.N = 64 from N_0]; omega⟩ ⟨(j 0).val % 256, by omega⟩ (j 1)
  have e : (⟨256 * ((j 0).val / 256) + (j 0).val % 256, by omega⟩ : Fin 16384) = j 0 := Fin.ext (by show 256 * ((j 0).val / 256) + (j 0).val % 256 = (j 0).val; omega)
  rw [e] at h
  exact h

end kernel

section reference

open Cert.Reference4Ideal Cert.Reference4Ideal.Gen

variable (m : (ℓ : Loc nD τ sig) → Buf (Elt Ideal) ℓ) (ρ : Dev nD → PrngReg)

/-- The reference ends with `spec` of its arguments. -/
theorem ref_run :
    θ_run defs (onTc (τ := τ) (main (F := Ideal))) ⟨m, fun _ => 0, ρ⟩ fun r => ∀ c : Dev nD,
      r.2.mem ((c.tc : Thread nD τ).loc main_v12)
        = spec (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    obtain ⟨e, er⟩ := h c
    refine ⟨e.trans ?_, er⟩
    generalize (m ((c.tc : Thread nD τ).loc main_arg0)) = x
    generalize (m ((c.tc : Thread nD τ).loc main_arg1)) = g
    funext j
    rw [← ix2_eta j]
    unfold spec hrow
    pointwise []) (Value.run m ρ)

end reference

end Cert.Norm.Final

end
-- ==== Proof.Norm.SampleProj.lean ====
/-
  The projection's reference for the sample batch, read against the same plain form at 32 rows.
-/
module

public import proofs.«01_k».proof.Proof.Norm.Proj
public import proofs.«01_k».proof.Proof.Gen.Reference5Ideal.Run
public import Idealize.ShloMosaic.Lib.Tactic
public import Idealize.ShloMosaic.Lib.Pointwise

@[expose] public section

set_option maxRecDepth 16384

noncomputable section

namespace Cert.Norm.SampleProj

open Idealize.ShloMosaic Idealize.ShloMosaic.TcCoe Idealize.SL.Sem Idealize.ShloMosaic.StableHlo
open Cert.Lru Cert.Norm.Proj

section reference

open Cert.Reference5Ideal Cert.Reference5Ideal.Gen

variable (x : FVec Ideal S32x1024 .f32) (g : FVec Ideal S1024 .f32) (w : FVec Ideal S1024x6728 .f32)

/-- The reference's projection. -/
def proj : FVec Ideal S32x6728 .f32 :=
  Host.dotGeneral dot_S32x1024_S1024x6728_S32x6728_1_0_0_1_n_n none (mulf (mulf x (broadcastInDim S32x1024 ![0, 1] bcast_S32x1_S32x1024_0_1 (Host.rsqrt (addf (Host.divf (broadcastInDim S32x1 ![0] bcast_S32_S32x1_0 (Host.reduceAdd (mulf x x) (constant S_ .f32 0x00000000#32) reducesTo_S32x1024_S32_d1 h_S_)) (broadcastInDim S32x1 ![] bcast_S_S32x1 (constant S_ .f32 0x44800000#32))) (broadcastInDim S32x1 ![] bcast_S_S32x1 (constant S_ .f32 0x358637BD#32)))))) (broadcastInDim S32x1024 ![0, 1] bcast_S1x1024_S32x1024_0_1 (broadcastInDim S1x1024 ![1] bcast_S1024_S1x1024_1 g))) w

theorem proj_at (r : Fin 32) (e : Fin 6728) : proj x g w (ix2 r e) = ent x g w r e := by
  unfold ent hrow
  pointwise [proj]

theorem queries_eq :
    truncf .bf16 (transpose S512x32 [1, 0] (Host.divf (extractStridedSlice S32x512 ![0, 0] (proj x g w)
      slices_S32x6728_S32x512_0_0) (broadcastInDim S32x512 ![] bcast_S_S32x512
        (mulf (constant S_ .f32 0x41000000#32) (Host.log (constant S_ .f32 0x40000000#32)))))
      transposes_S32x512_S512x32_1_0) bitsLt_bf16_f32 = queries x g w := by
  refine ext2 fun e r => ?_
  rw [queries_at, ← proj_at, ← div_scale]
  pointwise []

variable (m : (ℓ : Loc nD τ sig) → Buf (Elt Ideal) ℓ) (ρ : Dev nD → PrngReg)

/-- The reference ends with the bands of its projection. -/
theorem ref_run :
    θ_run defs (onTc (τ := τ) (main (F := Ideal))) ⟨m, fun _ => 0, ρ⟩ fun r => ∀ c : Dev nD, ∀ x g w,
      x = m ((c.tc : Thread nD τ).loc main_arg0) → g = m ((c.tc : Thread nD τ).loc main_arg1) →
      w = m ((c.tc : Thread nD τ).loc main_arg2) →
      (r.2.mem ((c.tc : Thread nD τ).loc main_v26) = queries x g w
      ∧ r.2.mem ((c.tc : Thread nD τ).loc main_v27) = bandT x g w .f32 512 512 (by decide)
      ∧ r.2.mem ((c.tc : Thread nD τ).loc main_v28) = bandT x g w .f32 512 1024 (by decide)
      ∧ r.2.mem ((c.tc : Thread nD τ).loc main_v30) = bandT x g w .bf16 512 2048 (by decide)
      ∧ r.2.mem ((c.tc : Thread nD τ).loc main_v31) = bandT x g w .f32 64 2560 (by decide)
      ∧ r.2.mem ((c.tc : Thread nD τ).loc main_v32) = bandT x g w .f32 8 2624 (by decide)
      ∧ r.2.mem ((c.tc : Thread nD τ).loc main_v34) = bandT x g w .bf16 512 512 (by decide)
      ∧ r.2.mem ((c.tc : Thread nD τ).loc main_v36) = bandT x g w .bf16 512 1024 (by decide)
      ∧ r.2.mem ((c.tc : Thread nD τ).loc main_v37) = band x g w .bf16 512 512 (by decide)
      ∧ r.2.mem ((c.tc : Thread nD τ).loc main_v38) = band x g w .bf16 64 2560 (by decide)
      ∧ r.2.mem ((c.tc : Thread nD τ).loc main_v17) = band x g w .f32 512 1536 (by decide)
      ∧ r.2.mem ((c.tc : Thread nD τ).loc main_arg0) = x
      ∧ r.2.mem ((c.tc : Thread nD τ).loc main_arg1) = g
      ∧ r.2.mem ((c.tc : Thread nD τ).loc main_arg2) = w) :=
  (θ_run defs _ _).mono (fun r h c x g w hx hg hw => by
    obtain ⟨e0, e1, e2, e3, e4, e5, e6, e7, e8, e9, e10, er⟩ := h c
    simp only [← hx, ← hg, ← hw] at e0 e1 e2 e3 e4 e5 e6 e7 e8 e9 e10 er
    refine ⟨e0.trans (queries_eq x g w), e1.trans ?_, e2.trans ?_, e3.trans ?_, e4.trans ?_, e5.trans ?_, e6.trans ?_, e7.trans ?_,
      e8.trans ?_, e9.trans ?_, e10.trans ?_, er⟩
    all_goals
      clear e0 e1 e2 e3 e4 e5 e6 e7 e8 e9 e10 er hx hg hw
      rw [← proj]
      refine ext2 fun r e => ?_
      first
        | rw [band_at, ← proj_at]
        | rw [bandT_at, ← proj_at]
      pointwise []) (Value.run m ρ)

end reference

end Cert.Norm.SampleProj

end
-- ==== Proof.Norm.SampleProjKer.lean ====
/-
  The sample batch's projection kernel read against its plain form: its host weights, a point's blocks, and its eleven arrays.
-/
module

public import proofs.«01_k».proof.Proof.Norm.SampleProj
public import proofs.«01_k».proof.Proof.Gen.Kernel5Ideal.Value
public import Idealize.ShloMosaic.Lib.StableHlo.Run
public import Idealize.ShloMosaic.Lib.StableHlo.ReadAt

@[expose] public section

set_option maxRecDepth 16384

noncomputable section

namespace Cert.Norm.SampleProjKer

open Idealize.ShloMosaic Idealize.ShloMosaic.TcCoe Idealize.SL.Sem
open Cert.Kernel5Ideal Cert.Kernel5Ideal.Gen
open Cert.Lru Cert.Norm.Proj

section payloads

variable (p : Vec Ideal S32x1024 .f32) (q : Vec Ideal S1x1024 .f32) (a : Vec Ideal S2128x1024 .bf16)

/-- The block's normalised rows. -/
theorem norm_at (r : Fin 32) (l : Fin 1024) :
    k0_pay7 (F := Ideal) p q (ix2 r l) = hrow (fun l => p (ix2 r l)) (fun l => q (ix2 0 l)) l := by
  unfold hrow
  pointwise [k0_pay7]

/-- The weights' rows times the block's rows. -/
theorem prod_at (e : Fin 2128) (r : Fin 32) :
    k0_pay8 (F := Ideal) p q a (ix2 e r) = ∑ k, hrow (fun l => p (ix2 r l)) (fun l => q (ix2 0 l)) k * a (ix2 e k) := by
  have h : k0_pay8 (F := Ideal) p q a (ix2 e r) = ∑ k, a (ix2 e k) * k0_pay7 (F := Ideal) p q (ix2 r k) := by
    pointwise [k0_pay8]
  rw [h]
  exact Finset.sum_congr rfl fun k _ => by rw [norm_at, mul_comm]

theorem scale_value :
    Named.named (F := Ideal) κ "q_scale" (φ := .f32) 0x3E38AA3B#32 = (((8 * Real.log 2)⁻¹ : ℝ) : EReal) :=
  IdealRules.named_const.ideal_named_scalar _ _ _ _ rfl

theorem pay9_at (e : Fin 512) (r : Fin 32) :
    k0_pay9 (F := Ideal) p q a (ix2 e r)
      = k0_pay8 (F := Ideal) p q a (ix2 ⟨e.val, by omega⟩ r) * (((8 * Real.log 2)⁻¹ : ℝ) : EReal) := by
  rw [← scale_value]
  pointwise [k0_pay9]

theorem pay10_at (e : Fin 512) (r : Fin 32) :
    k0_pay10 (F := Ideal) p q a (ix2 e r) = k0_pay8 (F := Ideal) p q a (ix2 ⟨512 + e.val, by omega⟩ r) := by
  pointwise [k0_pay10]

theorem pay11_at (e : Fin 512) (r : Fin 32) :
    k0_pay11 (F := Ideal) p q a (ix2 e r) = k0_pay8 (F := Ideal) p q a (ix2 ⟨1024 + e.val, by omega⟩ r) := by
  pointwise [k0_pay11]

theorem pay12_at (e : Fin 512) (r : Fin 32) :
    k0_pay12 (F := Ideal) p q a (ix2 e r) = k0_pay8 (F := Ideal) p q a (ix2 ⟨512 + e.val, by omega⟩ r) := by
  pointwise [k0_pay12]

theorem pay13_at (e : Fin 512) (r : Fin 32) :
    k0_pay13 (F := Ideal) p q a (ix2 e r) = k0_pay8 (F := Ideal) p q a (ix2 ⟨1024 + e.val, by omega⟩ r) := by
  pointwise [k0_pay13]

theorem pay1_at (z : FVec Ideal S2128x32 .f32) (e : Fin 512) (r : Fin 32) :
    k0_pay1 (F := Ideal) z (ix2 e r) = z (ix2 ⟨1536 + e.val, by omega⟩ r) := by
  pointwise [k0_pay1]

theorem pay2_at (z : FVec Ideal S2128x32 .f32) (e : Fin 64) (r : Fin 32) :
    k0_pay2 (F := Ideal) z (ix2 e r) = z (ix2 ⟨2048 + e.val, by omega⟩ r) := by
  pointwise [k0_pay2]

theorem pay3_at (z : FVec Ideal S2128x32 .f32) (e : Fin 8) (r : Fin 32) :
    k0_pay3 (F := Ideal) z (ix2 e r) = z (ix2 ⟨2112 + e.val, by omega⟩ r) := by
  pointwise [k0_pay3]

theorem pay4_at (h : FVec Ideal S32x1024 .bf16) (b : Vec Ideal S1024x512 .bf16) (r : Fin 32) (e : Fin 512) :
    k0_pay4 (F := Ideal) h b (ix2 r e) = ∑ k, h (ix2 r k) * b (ix2 k e) := by
  pointwise [k0_pay4]

theorem pay5_at (h : FVec Ideal S32x1024 .bf16) (b : Vec Ideal S1024x64 .bf16) (r : Fin 32) (e : Fin 64) :
    k0_pay5 (F := Ideal) h b (ix2 r e) = ∑ k, h (ix2 r k) * b (ix2 k e) := by
  pointwise [k0_pay5]

theorem pay6_at (h : FVec Ideal S32x1024 .bf16) (b : Vec Ideal S1024x512 .bf16) (r : Fin 32) (e : Fin 512) :
    k0_pay6 (F := Ideal) h b (ix2 r e) = ∑ k, h (ix2 r k) * b (ix2 k e) := by
  pointwise [k0_pay6]

end payloads

section host

variable (m : (ℓ : Loc nD τ sig) → Buf (Elt Ideal) ℓ) (c : Dev nD)

/-- The arguments. -/
abbrev X : FVec Ideal S32x1024 .f32 := m ((c.tc : Thread nD τ).loc main_arg0)
abbrev G : FVec Ideal S1024 .f32 := m ((c.tc : Thread nD τ).loc main_arg1)
abbrev W : FVec Ideal S1024x6728 .f32 := m ((c.tc : Thread nD τ).loc main_arg2)

theorem host_gain (l : Fin 1024) : V m c main_v5 (ix2 0 l) = G m c (ix1 l) := by
  simp only [V, hostOps0, hostOps0_1, hostOps0_2, List.flatten_cons, List.flatten_nil, List.append_nil,
    List.cons_append, List.nil_append]
  after_reads_at

theorem host_k (k : Fin 1024) (l : Fin 512) : V m c main_v8 (ix2 k l) = W m c (ix2 k ⟨512 + l.val, by omega⟩) := by
  simp only [V, hostOps0, hostOps0_1, hostOps0_2, List.flatten_cons, List.flatten_nil, List.append_nil,
    List.cons_append, List.nil_append]
  after_reads_at

theorem host_gate (k : Fin 1024) (l : Fin 512) : V m c main_v10 (ix2 k l) = W m c (ix2 k ⟨1536 + l.val, by omega⟩) := by
  simp only [V, hostOps0, hostOps0_1, hostOps0_2, List.flatten_cons, List.flatten_nil, List.append_nil,
    List.cons_append, List.nil_append]
  after_reads_at

theorem host_ki (k : Fin 1024) (l : Fin 64) : V m c main_v12 (ix2 k l) = W m c (ix2 k ⟨2560 + l.val, by omega⟩) := by
  simp only [V, hostOps0, hostOps0_1, hostOps0_2, List.flatten_cons, List.flatten_nil, List.append_nil,
    List.cons_append, List.nil_append]
  after_reads_at

/-- The transposed weights: rows below 1536 are the columns as they stand, the rest are 512 columns further on. -/
theorem host_att (e : Fin 2128) (k : Fin 1024) (e' : Fin 6728)
    (h : (e.val < 1536 ∧ e'.val = e.val) ∨ (1536 ≤ e.val ∧ e.val < 2120 ∧ e'.val = e.val + 512)) :
    V m c main_v6 (ix2 e k) = W m c (ix2 k e') := by
  simp only [V, hostOps0, hostOps0_1, hostOps0_2, List.flatten_cons, List.flatten_nil, List.append_nil,
    List.cons_append, List.nil_append]
  after_reads_at
  rcases h with ⟨h1, h2⟩ | ⟨h1, h2, h3⟩
  · rw [dif_pos (by omega), dif_pos (by omega)]
    after_reads_at
    exact congrArg (W m c) (congrArg (ix2 k) (Fin.ext h2.symm))
  · rw [dif_pos (by omega), dif_neg (by omega)]
    after_reads_at
    exact congrArg (W m c) (congrArg (ix2 k) (Fin.ext (by simp only; omega)))

end host

end Cert.Norm.SampleProjKer

end
-- ==== Proof.Norm.SampleProjArr.lean ====
/-
  The sample batch's projection: each of its kernel's eleven arrays is its band of the projection, in one block of 32 rows.
-/
module

public import proofs.«01_k».proof.Proof.Norm.SampleProjKer

@[expose] public section

set_option maxRecDepth 16384

noncomputable section

namespace Cert.Norm.SampleProjArr

open Idealize.ShloMosaic Idealize.ShloMosaic.TcCoe Idealize.SL.Sem
open Cert.Kernel5Ideal Cert.Kernel5Ideal.Gen
open Cert.Lru Cert.Norm.Proj Cert.Norm.SampleProjKer

theorem size : cfg0.N * 32 = 32 := by rw [show cfg0.N = 1 from N_0]

/-- Where the windows stand at a point: the rows' block, the weights whole, the results' blocks. -/
theorem idx_in : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

theorem at6 : ∀ t : Fin cfg0.N, win0_6.index t (0 : Fin 2) = 0 ∧ win0_6.index t (1 : Fin 2) = t.val :=
  (by decide +kernel : ∀ t : Fin grid0.N, _)
theorem at7 : ∀ t : Fin cfg0.N, win0_7.index t (0 : Fin 2) = 0 ∧ win0_7.index t (1 : Fin 2) = t.val :=
  (by decide +kernel : ∀ t : Fin grid0.N, _)
theorem at8 : ∀ t : Fin cfg0.N, win0_8.index t (0 : Fin 2) = 0 ∧ win0_8.index t (1 : Fin 2) = t.val :=
  (by decide +kernel : ∀ t : Fin grid0.N, _)
theorem at9 : ∀ t : Fin cfg0.N, win0_9.index t (0 : Fin 2) = 0 ∧ win0_9.index t (1 : Fin 2) = t.val :=
  (by decide +kernel : ∀ t : Fin grid0.N, _)
theorem at10 : ∀ t : Fin cfg0.N, win0_10.index t (0 : Fin 2) = 0 ∧ win0_10.index t (1 : Fin 2) = t.val :=
  (by decide +kernel : ∀ t : Fin grid0.N, _)
theorem at11 : ∀ t : Fin cfg0.N, win0_11.index t (0 : Fin 2) = 0 ∧ win0_11.index t (1 : Fin 2) = t.val :=
  (by decide +kernel : ∀ t : Fin grid0.N, _)
theorem at12 : ∀ t : Fin cfg0.N, win0_12.index t (0 : Fin 2) = 0 ∧ win0_12.index t (1 : Fin 2) = t.val :=
  (by decide +kernel : ∀ t : Fin grid0.N, _)
theorem at13 : ∀ t : Fin cfg0.N, win0_13.index t (0 : Fin 2) = 0 ∧ win0_13.index t (1 : Fin 2) = t.val :=
  (by decide +kernel : ∀ t : Fin grid0.N, _)
theorem at14 : ∀ t : Fin cfg0.N, win0_14.index t (0 : Fin 2) = t.val ∧ win0_14.index t (1 : Fin 2) = 0 :=
  (by decide +kernel : ∀ t : Fin grid0.N, _)
theorem at15 : ∀ t : Fin cfg0.N, win0_15.index t (0 : Fin 2) = t.val ∧ win0_15.index t (1 : Fin 2) = 0 :=
  (by decide +kernel : ∀ t : Fin grid0.N, _)
theorem at16 : ∀ t : Fin cfg0.N, win0_16.index t (0 : Fin 2) = t.val ∧ win0_16.index t (1 : Fin 2) = 0 :=
  (by decide +kernel : ∀ t : Fin grid0.N, _)

/-- Every point writes its blocks back. -/
theorem flushes : ∀ t : Fin cfg0.N, ∀ w : Fin cfg0.W, 6 ≤ w.val → (cfg0.win w).flush t = true :=
  (by decide +kernel : ∀ t : Fin grid0.N, ∀ w : Fin cfg0.W, _)

section outs

theorem hz : (![0, 0] : Fin 2 → Nat) = fun _ => 0 := funext fun a => by fin_cases a <;> rfl

variable (x0 : Vec Ideal S32x1024 .f32) (x1 : Vec Ideal S1x1024 .f32) (x2 : Vec Ideal S2128x1024 .bf16)
  (x3 : Vec Ideal S1024x512 .bf16) (x4 : Vec Ideal S1024x512 .bf16) (x5 : Vec Ideal S1024x64 .bf16)

/-- What a point leaves in its blocks, over its input blocks. -/
theorem outs :
    out0_6 x0 x1 x2 x3 x4 x5 = k0_pay9 x0 x1 x2 ∧ out0_7 x0 x1 x2 x3 x4 x5 = k0_pay10 x0 x1 x2
    ∧ out0_8 x0 x1 x2 x3 x4 x5 = k0_pay11 x0 x1 x2 ∧ out0_9 x0 x1 x2 x3 x4 x5 = k0_pay1 (k0_pay8 x0 x1 x2)
    ∧ out0_10 x0 x1 x2 x3 x4 x5 = k0_pay2 (k0_pay8 x0 x1 x2) ∧ out0_11 x0 x1 x2 x3 x4 x5 = k0_pay3 (k0_pay8 x0 x1 x2)
    ∧ out0_12 x0 x1 x2 x3 x4 x5 = k0_pay12 x0 x1 x2 ∧ out0_13 x0 x1 x2 x3 x4 x5 = k0_pay13 x0 x1 x2
    ∧ out0_14 x0 x1 x2 x3 x4 x5 = k0_pay4 (k0_pay7 x0 x1) x3 ∧ out0_15 x0 x1 x2 x3 x4 x5 = k0_pay5 (k0_pay7 x0 x1) x5
    ∧ out0_16 x0 x1 x2 x3 x4 x5 = k0_pay6 (k0_pay7 x0 x1) x4 := by
  refine ⟨?_, ?_, ?_, ?_, ?_, ?_, ?_, ?_, ?_, ?_, ?_⟩ <;>
  · simp only [out0_6, out0_7, out0_8, out0_9, out0_10, out0_11, out0_12, out0_13, out0_14, out0_15, out0_16,
      k0_pay14, k0_pay15]
    rw [View.canon_unit_zero hz]
    repeat rw [View.ld_unit_zero hz]

end outs

variable (m : (ℓ : Loc nD τ sig) → Buf (Elt Ideal) ℓ) (c : Dev nD)

section blocks

variable (t : Fin cfg0.N)

theorem in0 (k : Fin 32) (l : Fin 1024) : iblk m c 0 t (ix2 k l) = X m c (ix2 (row size t k) l) := by
  refine Eq.trans (congrArg (V m c main_arg0) (funext fun a => Fin.ext ?_)) (congrFun (V_main_arg0 m c) _)
  obtain ⟨i0, i1⟩ := (idx_in t).1
  match a with
  | ⟨0, _⟩ => show win0_0.index t (0 : Fin 2) * 32 + 1 * k.val = 32 * t.val + k.val; rw [i0]; omega
  | ⟨1, _⟩ => show win0_0.index t (1 : Fin 2) * 1024 + 1 * l.val = l.val; rw [i1]; omega

theorem in1 (l : Fin 1024) : iblk m c 1 t (ix2 0 l) = G m c (ix1 l) := by
  refine Eq.trans (congrArg (V m c main_v5) (funext fun a => Fin.ext ?_)) (host_gain m c l)
  obtain ⟨i0, i1⟩ := (idx_in t).2.1
  match a with
  | ⟨0, _⟩ => show win0_1.index t (0 : Fin 2) * 1 + 1 * 0 = 0; rw [i0]
  | ⟨1, _⟩ => show win0_1.index t (1 : Fin 2) * 1024 + 1 * l.val = l.val; rw [i1]; omega

theorem in2 (e : Fin 2128) (k : Fin 1024) : iblk m c 2 t (ix2 e k) = V m c main_v6 (ix2 e k) := by
  refine congrArg (V m c main_v6) (funext fun a => Fin.ext ?_)
  obtain ⟨i0, i1⟩ := (idx_in t).2.2.1
  match a with
  | ⟨0, _⟩ => show win0_2.index t (0 : Fin 2) * 2128 + 1 * e.val = e.val; rw [i0]; omega
  | ⟨1, _⟩ => show win0_2.index t (1 : Fin 2) * 1024 + 1 * k.val = k.val; rw [i1]; omega

theorem in3 (k : Fin 1024) (e : Fin 512) : iblk m c 3 t (ix2 k e) = W m c (ix2 k ⟨512 + e.val, by omega⟩) := by
  refine Eq.trans (congrArg (V m c main_v8) (funext fun a => Fin.ext ?_)) (host_k m c k e)
  obtain ⟨i0, i1⟩ := (idx_in t).2.2.2.1
  match a with
  | ⟨0, _⟩ => show win0_3.index t (0 : Fin 2) * 1024 + 1 * k.val = k.val; rw [i0]; omega
  | ⟨1, _⟩ => show win0_3.index t (1 : Fin 2) * 512 + 1 * e.val = e.val; rw [i1]; omega

theorem in4 (k : Fin 1024) (e : Fin 512) : iblk m c 4 t (ix2 k e) = W m c (ix2 k ⟨1536 + e.val, by omega⟩) := by
  refine Eq.trans (congrArg (V m c main_v10) (funext fun a => Fin.ext ?_)) (host_gate m c k e)
  obtain ⟨i0, i1⟩ := (idx_in t).2.2.2.2.1
  match a with
  | ⟨0, _⟩ => show win0_4.index t (0 : Fin 2) * 1024 + 1 * k.val = k.val; rw [i0]; omega
  | ⟨1, _⟩ => show win0_4.index t (1 : Fin 2) * 512 + 1 * e.val = e.val; rw [i1]; omega

theorem in5 (k : Fin 1024) (e : Fin 64) : iblk m c 5 t (ix2 k e) = W m c (ix2 k ⟨2560 + e.val, by omega⟩) := by
  refine Eq.trans (congrArg (V m c main_v12) (funext fun a => Fin.ext ?_)) (host_ki m c k e)
  obtain ⟨i0, i1⟩ := (idx_in t).2.2.2.2.2
  match a with
  | ⟨0, _⟩ => show win0_5.index t (0 : Fin 2) * 1024 + 1 * k.val = k.val; rw [i0]; omega
  | ⟨1, _⟩ => show win0_5.index t (1 : Fin 2) * 64 + 1 * e.val = e.val; rw [i1]; omega

/-- The block's normalised rows are the rows normalised. -/
theorem norm_row (r : Fin 32) (k : Fin 1024) :
    k0_pay7 (F := Ideal) (iblk m c 0 t) (iblk m c 1 t) (ix2 r k)
      = hrow (fun l => X m c (ix2 (row size t r) l)) (fun l => G m c (ix1 l)) k :=
  (norm_at (iblk m c 0 t) (iblk m c 1 t) r k).trans
    (congrArg₂ (fun x g => hrow x g k) (funext fun l => in0 m c t r l) (funext fun l => in1 m c t l))

/-- The block's product is the projection's. -/
theorem col (e : Fin 2128) (r : Fin 32) (e' : Fin 6728)
    (h : (e.val < 1536 ∧ e'.val = e.val) ∨ (1536 ≤ e.val ∧ e.val < 2120 ∧ e'.val = e.val + 512)) :
    k0_pay8 (F := Ideal) (iblk m c 0 t) (iblk m c 1 t) (iblk m c 2 t) (ix2 e r)
      = ent (X m c) (G m c) (W m c) (row size t r) e' :=
  (prod_at (iblk m c 0 t) (iblk m c 1 t) (iblk m c 2 t) e r).trans (Finset.sum_congr rfl fun k _ =>
    congrArg₂ (· * ·) (congrArg₂ (fun x g => hrow x g k) (funext fun l => in0 m c t r l) (funext fun l => in1 m c t l))
      ((in2 m c t e k).trans (host_att m c e k e' h)))

end blocks

/-- The eleven arrays. -/
theorem arr6 : (dats m 0 c).arrAt 6 cfg0.N = queries (X m c) (G m c) (W m c) :=
  of_cols size (fun t => out0_6 (iblk m c 0 t) (iblk m c 1 t) (iblk m c 2 t) (iblk m c 3 t) (iblk m c 4 t) (iblk m c 5 t))
    (fun t j => ((cfg0.win 6).blk t).view.emb j) (fun t => win0_6.index t) at6 (fun _ _ _ => rfl) (fun _ _ _ => rfl)
    (fun t j => congrFun ((Value.blocks6 m c t (flushes t 6 (by decide))).trans (Value.flushed6 m c t)) j)
    fun t e r => by
      rw [(outs _ _ _ _ _ _).1]
      exact (pay9_at _ _ _ e r).trans (congrArg (· * (((8 * Real.log 2)⁻¹ : ℝ) : EReal))
        (col m c t _ r _ (Or.inl ⟨by simp only; omega, rfl⟩)))

theorem arr7 : (dats m 0 c).arrAt 7 cfg0.N = bandT (X m c) (G m c) (W m c) .f32 512 512 (by decide) :=
  of_cols size (fun t => out0_7 (iblk m c 0 t) (iblk m c 1 t) (iblk m c 2 t) (iblk m c 3 t) (iblk m c 4 t) (iblk m c 5 t))
    (fun t j => ((cfg0.win 7).blk t).view.emb j) (fun t => win0_7.index t) at7 (fun _ _ _ => rfl) (fun _ _ _ => rfl)
    (fun t j => congrFun ((Value.blocks7 m c t (flushes t 7 (by decide))).trans (Value.flushed7 m c t)) j)
    fun t e r => by
      rw [(outs _ _ _ _ _ _).2.1]
      exact (pay10_at _ _ _ e r).trans (col m c t _ r _ (Or.inl ⟨by simp only; omega, rfl⟩))

theorem arr8 : (dats m 0 c).arrAt 8 cfg0.N = bandT (X m c) (G m c) (W m c) .f32 512 1024 (by decide) :=
  of_cols size (fun t => out0_8 (iblk m c 0 t) (iblk m c 1 t) (iblk m c 2 t) (iblk m c 3 t) (iblk m c 4 t) (iblk m c 5 t))
    (fun t j => ((cfg0.win 8).blk t).view.emb j) (fun t => win0_8.index t) at8 (fun _ _ _ => rfl) (fun _ _ _ => rfl)
    (fun t j => congrFun ((Value.blocks8 m c t (flushes t 8 (by decide))).trans (Value.flushed8 m c t)) j)
    fun t e r => by
      rw [(outs _ _ _ _ _ _).2.2.1]
      exact (pay11_at _ _ _ e r).trans (col m c t _ r _ (Or.inl ⟨by simp only; omega, rfl⟩))

theorem arr9 : (dats m 0 c).arrAt 9 cfg0.N = bandT (X m c) (G m c) (W m c) .bf16 512 2048 (by decide) :=
  of_cols size (fun t => out0_9 (iblk m c 0 t) (iblk m c 1 t) (iblk m c 2 t) (iblk m c 3 t) (iblk m c 4 t) (iblk m c 5 t))
    (fun t j => ((cfg0.win 9).blk t).view.emb j) (fun t => win0_9.index t) at9 (fun _ _ _ => rfl) (fun _ _ _ => rfl)
    (fun t j => congrFun ((Value.blocks9 m c t (flushes t 9 (by decide))).trans (Value.flushed9 m c t)) j)
    fun t e r => by
      rw [(outs _ _ _ _ _ _).2.2.2.1]
      exact (pay1_at _ e r).trans (col m c t _ r _ (Or.inr ⟨by simp only; omega, by simp only; omega, by show 2048 + e.val = 1536 + e.val + 512; omega⟩))

theorem arr10 : (dats m 0 c).arrAt 10 cfg0.N = bandT (X m c) (G m c) (W m c) .f32 64 2560 (by decide) :=
  of_cols size (fun t => out0_10 (iblk m c 0 t) (iblk m c 1 t) (iblk m c 2 t) (iblk m c 3 t) (iblk m c 4 t) (iblk m c 5 t))
    (fun t j => ((cfg0.win 10).blk t).view.emb j) (fun t => win0_10.index t) at10 (fun _ _ _ => rfl) (fun _ _ _ => rfl)
    (fun t j => congrFun ((Value.blocks10 m c t (flushes t 10 (by decide))).trans (Value.flushed10 m c t)) j)
    fun t e r => by
      rw [(outs _ _ _ _ _ _).2.2.2.2.1]
      exact (pay2_at _ e r).trans (col m c t _ r _ (Or.inr ⟨by simp only; omega, by simp only; omega, by show 2560 + e.val = 2048 + e.val + 512; omega⟩))

theorem arr11 : (dats m 0 c).arrAt 11 cfg0.N = bandT (X m c) (G m c) (W m c) .f32 8 2624 (by decide) :=
  of_cols size (fun t => out0_11 (iblk m c 0 t) (iblk m c 1 t) (iblk m c 2 t) (iblk m c 3 t) (iblk m c 4 t) (iblk m c 5 t))
    (fun t j => ((cfg0.win 11).blk t).view.emb j) (fun t => win0_11.index t) at11 (fun _ _ _ => rfl) (fun _ _ _ => rfl)
    (fun t j => congrFun ((Value.blocks11 m c t (flushes t 11 (by decide))).trans (Value.flushed11 m c t)) j)
    fun t e r => by
      rw [(outs _ _ _ _ _ _).2.2.2.2.2.1]
      exact (pay3_at _ e r).trans (col m c t _ r _ (Or.inr ⟨by simp only; omega, by simp only; omega, by show 2624 + e.val = 2112 + e.val + 512; omega⟩))

theorem arr12 : (dats m 0 c).arrAt 12 cfg0.N = bandT (X m c) (G m c) (W m c) .bf16 512 512 (by decide) :=
  of_cols size (fun t => out0_12 (iblk m c 0 t) (iblk m c 1 t) (iblk m c 2 t) (iblk m c 3 t) (iblk m c 4 t) (iblk m c 5 t))
    (fun t j => ((cfg0.win 12).blk t).view.emb j) (fun t => win0_12.index t) at12 (fun _ _ _ => rfl) (fun _ _ _ => rfl)
    (fun t j => congrFun ((Value.blocks12 m c t (flushes t 12 (by decide))).trans (Value.flushed12 m c t)) j)
    fun t e r => by
      rw [(outs _ _ _ _ _ _).2.2.2.2.2.2.1]
      exact (pay12_at _ _ _ e r).trans (col m c t _ r _ (Or.inl ⟨by simp only; omega, rfl⟩))

theorem arr13 : (dats m 0 c).arrAt 13 cfg0.N = bandT (X m c) (G m c) (W m c) .bf16 512 1024 (by decide) :=
  of_cols size (fun t => out0_13 (iblk m c 0 t) (iblk m c 1 t) (iblk m c 2 t) (iblk m c 3 t) (iblk m c 4 t) (iblk m c 5 t))
    (fun t j => ((cfg0.win 13).blk t).view.emb j) (fun t => win0_13.index t) at13 (fun _ _ _ => rfl) (fun _ _ _ => rfl)
    (fun t j => congrFun ((Value.blocks13 m c t (flushes t 13 (by decide))).trans (Value.flushed13 m c t)) j)
    fun t e r => by
      rw [(outs _ _ _ _ _ _).2.2.2.2.2.2.2.1]
      exact (pay13_at _ _ _ e r).trans (col m c t _ r _ (Or.inl ⟨by simp only; omega, rfl⟩))

theorem arr14 : (dats m 0 c).arrAt 14 cfg0.N = band (X m c) (G m c) (W m c) .bf16 512 512 (by decide) :=
  of_rows size (fun t => out0_14 (iblk m c 0 t) (iblk m c 1 t) (iblk m c 2 t) (iblk m c 3 t) (iblk m c 4 t) (iblk m c 5 t))
    (fun t j => ((cfg0.win 14).blk t).view.emb j) (fun t => win0_14.index t) at14 (fun _ _ _ => rfl) (fun _ _ _ => rfl)
    (fun t j => congrFun ((Value.blocks14 m c t (flushes t 14 (by decide))).trans (Value.flushed14 m c t)) j)
    fun t r e => by
      rw [(outs _ _ _ _ _ _).2.2.2.2.2.2.2.2.1]
      exact (pay4_at _ _ r e).trans (Finset.sum_congr rfl fun k _ => congrArg₂ (· * ·) (norm_row m c t r k) (in3 m c t k e))

theorem arr15 : (dats m 0 c).arrAt 15 cfg0.N = band (X m c) (G m c) (W m c) .bf16 64 2560 (by decide) :=
  of_rows size (fun t => out0_15 (iblk m c 0 t) (iblk m c 1 t) (iblk m c 2 t) (iblk m c 3 t) (iblk m c 4 t) (iblk m c 5 t))
    (fun t j => ((cfg0.win 15).blk t).view.emb j) (fun t => win0_15.index t) at15 (fun _ _ _ => rfl) (fun _ _ _ => rfl)
    (fun t j => congrFun ((Value.blocks15 m c t (flushes t 15 (by decide))).trans (Value.flushed15 m c t)) j)
    fun t r e => by
      rw [(outs _ _ _ _ _ _).2.2.2.2.2.2.2.2.2.1]
      exact (pay5_at _ _ r e).trans (Finset.sum_congr rfl fun k _ => congrArg₂ (· * ·) (norm_row m c t r k) (in5 m c t k e))

theorem arr16 : (dats m 0 c).arrAt 16 cfg0.N = band (X m c) (G m c) (W m c) .f32 512 1536 (by decide) :=
  of_rows size (fun t => out0_16 (iblk m c 0 t) (iblk m c 1 t) (iblk m c 2 t) (iblk m c 3 t) (iblk m c 4 t) (iblk m c 5 t))
    (fun t j => ((cfg0.win 16).blk t).view.emb j) (fun t => win0_16.index t) at16 (fun _ _ _ => rfl) (fun _ _ _ => rfl)
    (fun t j => congrFun ((Value.blocks16 m c t (flushes t 16 (by decide))).trans (Value.flushed16 m c t)) j)
    fun t r e => by
      rw [(outs _ _ _ _ _ _).2.2.2.2.2.2.2.2.2.2]
      exact (pay6_at _ _ r e).trans (Finset.sum_congr rfl fun k _ => congrArg₂ (· * ·) (norm_row m c t r k) (in4 m c t k e))

end Cert.Norm.SampleProjArr

end
-- ==== Proof.Norm.SampleFinal.lean ====
/-
  The final normalisation of the sample batch: each row of the kernel's array and of the reference's is the row normalised by its root mean
  square and scaled.
-/
module

public import proofs.«01_k».proof.Proof.Norm.Final
public import proofs.«01_k».proof.Proof.Gen.Kernel6Ideal.Value
public import proofs.«01_k».proof.Proof.Gen.Reference6Ideal.Run
public import Idealize.ShloMosaic.Lib.Tactic
public import Idealize.ShloMosaic.Lib.StableHlo.Run
public import Idealize.ShloMosaic.Lib.StableHlo.ReadAt
public import Idealize.ShloMosaic.Lib.Pointwise

@[expose] public section

set_option maxRecDepth 16384

noncomputable section

namespace Cert.Norm.SampleFinal

open Idealize.ShloMosaic Idealize.ShloMosaic.TcCoe Idealize.SL.Sem Idealize.ShloMosaic.StableHlo
open Cert.Lru Cert.Norm.Final

section kernel

open Cert.Kernel6Ideal Cert.Kernel6Ideal.Gen

/-- The block's payload at an index. -/
theorem pay_at (p : Vec Ideal S32x1024 .f32) (q : Vec Ideal S1x1024 .f32) (r : Fin 32) (l : Fin 1024) :
    k0_pay1 (F := Ideal) p q (ix2 r l) = hrow (fun l => p (ix2 r l)) (fun l => q (ix2 0 l)) l := by
  unfold hrow
  pointwise [k0_pay1]

variable (m : (ℓ : Loc nD τ sig) → Buf (Elt Ideal) ℓ) (c : Dev nD)

theorem idx_at : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (cfg0.win 2).flush t = true :=
  (by decide +kernel : ∀ t : Fin grid0.N, _)

theorem row_lt (t : Fin cfg0.N) (r : Fin 32) : 32 * t.val + r.val < 32 := by
  have := lt_of_lt_of_eq t.isLt N_0; omega

theorem w0 (t : Fin cfg0.N) (k : Fin 32) (l : Fin 1024) :
    iblk m c 0 t (ix2 k l)
      = (m ((c.tc : Thread nD τ).loc main_arg0) : FVec Ideal S32x1024 .f32) (ix2 ⟨32 * t.val + k.val, row_lt t k⟩ l) := by
  refine Eq.trans (congrArg (V m c main_arg0) (funext fun a => Fin.ext ?_)) (congrFun (V_main_arg0 m c) _)
  obtain ⟨i0, i1⟩ := (idx_at t).1
  match a with
  | ⟨0, _⟩ => show win0_0.index t (0 : Fin 2) * 32 + 1 * k.val = 32 * t.val + k.val; rw [i0]; omega
  | ⟨1, _⟩ => show win0_0.index t (1 : Fin 2) * 1024 + 1 * l.val = l.val; rw [i1]; omega

/-- The scale as the region finds it: one row of the argument. -/
theorem scale_at (l : Fin 1024) :
    V m c main_v0 (ix2 0 l) = (m ((c.tc : Thread nD τ).loc main_arg1) : FVec Ideal S1024 .f32) (ix1 l) := by
  simp only [V, hostOps0]
  after_reads_at

theorem w1 (t : Fin cfg0.N) (l : Fin 1024) :
    iblk m c 1 t (ix2 0 l) = (m ((c.tc : Thread nD τ).loc main_arg1) : FVec Ideal S1024 .f32) (ix1 l) := by
  refine Eq.trans (congrArg (V m c main_v0) (funext fun a => Fin.ext ?_)) (scale_at m c l)
  obtain ⟨i0, i1⟩ := (idx_at t).2.1
  match a with
  | ⟨0, _⟩ => show win0_1.index t (0 : Fin 2) * 1 + 1 * 0 = 0; rw [i0]
  | ⟨1, _⟩ => show win0_1.index t (1 : Fin 2) * 1024 + 1 * l.val = l.val; rw [i1]; omega

theorem hz : (![0, 0] : Fin 2 → Nat) = fun _ => 0 := funext fun a => by fin_cases a <;> rfl

/-- What a point leaves in its block is the payload of its two input blocks. -/
theorem out_eq (x0 : Vec Ideal S32x1024 .f32) (x1 : Vec Ideal S1x1024 .f32) : out0_2 x0 x1 = k0_pay1 x0 x1 := by
  unfold out0_2
  rw [View.canon_unit_zero hz, View.ld_unit_zero hz, View.ld_unit_zero hz]

/-- The final array at an index. -/
theorem arr_at (t : Fin cfg0.N) (r : Fin 32) (l : Fin 1024) :
    (dats m 0 c).arrAt 2 cfg0.N (ix2 ⟨32 * t.val + r.val, row_lt t r⟩ l)
      = hrow (fun l => (m ((c.tc : Thread nD τ).loc main_arg0) : FVec Ideal S32x1024 .f32)
          (ix2 ⟨32 * t.val + r.val, row_lt t r⟩ l))
        (fun l => (m ((c.tc : Thread nD τ).loc main_arg1) : FVec Ideal S1024 .f32) (ix1 l)) l := by
  have h := congrFun (Value.blocks2 m c t (idx_at t).2.2.2) (ix2 r l)
  rw [Value.flushed2, out_eq] at h
  refine Eq.trans (congrArg ((dats m 0 c).arrAt 2 cfg0.N) (funext fun a => Fin.ext ?_)) (h.trans ?_)
  · obtain ⟨i0, i1⟩ := (idx_at t).2.2.1
    match a with
    | ⟨0, _⟩ => show 32 * t.val + r.val = win0_2.index t (0 : Fin 2) * 32 + 1 * r.val; rw [i0]; omega
    | ⟨1, _⟩ => show l.val = win0_2.index t (1 : Fin 2) * 1024 + 1 * l.val; rw [i1]; omega
  · refine (pay_at (iblk m c 0 t) (iblk m c 1 t) r l).trans ?_
    exact congrArg₂ (fun x g => hrow x g l) (funext fun l => w0 m c t r l) (funext fun l => w1 m c t l)

theorem arr_eq :
    (dats m 0 c).arrAt 2 cfg0.N = spec (m ((c.tc : Thread nD τ).loc main_arg0)) (m ((c.tc : Thread nD τ).loc main_arg1)) := by
  funext j
  rw [← ix2_eta j]
  have hj : (j 0).val < 32 := (j 0).isLt
  have h := arr_at m c ⟨(j 0).val / 32, by rw [show cfg0.N = 1 from N_0]; omega⟩ ⟨(j 0).val % 32, by omega⟩ (j 1)
  have e : (⟨32 * ((j 0).val / 32) + (j 0).val % 32, by omega⟩ : Fin 32) = j 0 := Fin.ext (by show 32 * ((j 0).val / 32) + (j 0).val % 32 = (j 0).val; omega)
  rw [e] at h
  exact h

end kernel

section reference

open Cert.Reference6Ideal Cert.Reference6Ideal.Gen

variable (m : (ℓ : Loc nD τ sig) → Buf (Elt Ideal) ℓ) (ρ : Dev nD → PrngReg)

/-- The reference ends with `spec` of its arguments. -/
theorem ref_run :
    θ_run defs (onTc (τ := τ) (main (F := Ideal))) ⟨m, fun _ => 0, ρ⟩ fun r => ∀ c : Dev nD,
      r.2.mem ((c.tc : Thread nD τ).loc main_v12)
        = spec (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    obtain ⟨e, er⟩ := h c
    refine ⟨e.trans ?_, er⟩
    generalize (m ((c.tc : Thread nD τ).loc main_arg0)) = x
    generalize (m ((c.tc : Thread nD τ).loc main_arg1)) = g
    funext j
    rw [← ix2_eta j]
    unfold spec hrow
    pointwise []) (Value.run m ρ)

end reference

end Cert.Norm.SampleFinal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Step
public import proofs.«01_k».proof.Proof.Lru.Fin
public import proofs.«01_k».proof.Proof.Norm.ProjArr
public import proofs.«01_k».proof.Proof.Lru.SampleArr
public import proofs.«01_k».proof.Proof.Lru.SampleRef
public import proofs.«01_k».proof.Proof.Norm.Final
public import proofs.«01_k».proof.Proof.Norm.SampleProjArr
public import proofs.«01_k».proof.Proof.Norm.SampleFinal
public import proofs.«01_k».proof.Proof.Gen.Kernel2.Frame
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel5.Frame
public import proofs.«01_k».proof.Proof.Gen.Kernel6.Frame
public import Idealize.ShloMosaic.Adequacy
public import Idealize.ShloMosaic.Init

@[expose] public section

noncomputable section

namespace Cert.Proof

open Idealize.ShloMosaic Idealize.SL.Sem Cert.Kernel

/-- The reference keeps its arguments; it declares no semaphore. -/
theorem frame_reference : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.Lru.RefRun.run (F := Ideal) m ρ)

/-- The kernel's three arrays are the reference's. -/
theorem algebraic : Cert.algebraic_KernelIdeal_ReferenceIdeal := by
  intro m g m' g' _ hag
  refine ⟨Cert.KernelIdeal.Value.G15 m, Cert.KernelIdeal.Value.G16 m, Cert.KernelIdeal.Value.G17 m,
    Cert.KernelIdeal.Value.run m g, ?_⟩
  refine (θ_run Cert.ReferenceIdeal.defs _ _).mono (fun r h c => ?_) (Cert.Lru.RefRun.run (F := Ideal) m' g')
  obtain ⟨e1, e2, e3, er⟩ := h c
  obtain ⟨a0, a1, a2, a3, a4, a5, a6, a7, a8, a9, a10, a11, a12, a13, a14⟩ := hag c
  have hg := Cert.Lru.Fin.good_states (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))
    (m' ((c.tc : Thread Cert.ReferenceIdeal.nD Cert.ReferenceIdeal.τ).loc Cert.ReferenceIdeal.main_arg8))
    (m' ((c.tc : Thread Cert.ReferenceIdeal.nD Cert.ReferenceIdeal.τ).loc Cert.ReferenceIdeal.main_arg9))
    (m' ((c.tc : Thread Cert.ReferenceIdeal.nD Cert.ReferenceIdeal.τ).loc Cert.ReferenceIdeal.main_arg10))
    (m' ((c.tc : Thread Cert.ReferenceIdeal.nD Cert.ReferenceIdeal.τ).loc Cert.ReferenceIdeal.main_arg11))
    (m' ((c.tc : Thread Cert.ReferenceIdeal.nD Cert.ReferenceIdeal.τ).loc Cert.ReferenceIdeal.main_arg12))
    (m' ((c.tc : Thread Cert.ReferenceIdeal.nD Cert.ReferenceIdeal.τ).loc Cert.ReferenceIdeal.main_arg13))
    (m' ((c.tc : Thread Cert.ReferenceIdeal.nD Cert.ReferenceIdeal.τ).loc Cert.ReferenceIdeal.main_arg14))
    16384 le_rfl
  have hP : Cert.Lru.Fold.P m c = Cert.Lru.Ref.par
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))
    (m' ((c.tc : Thread Cert.ReferenceIdeal.nD Cert.ReferenceIdeal.τ).loc Cert.ReferenceIdeal.main_arg8))
    (m' ((c.tc : Thread Cert.ReferenceIdeal.nD Cert.ReferenceIdeal.τ).loc Cert.ReferenceIdeal.main_arg9))
    (m' ((c.tc : Thread Cert.ReferenceIdeal.nD Cert.ReferenceIdeal.τ).loc Cert.ReferenceIdeal.main_arg10))
    (m' ((c.tc : Thread Cert.ReferenceIdeal.nD Cert.ReferenceIdeal.τ).loc Cert.ReferenceIdeal.main_arg11))
    (m' ((c.tc : Thread Cert.ReferenceIdeal.nD Cert.ReferenceIdeal.τ).loc Cert.ReferenceIdeal.main_arg12))
    (m' ((c.tc : Thread Cert.ReferenceIdeal.nD Cert.ReferenceIdeal.τ).loc Cert.ReferenceIdeal.main_arg13))
    (m' ((c.tc : Thread Cert.ReferenceIdeal.nD Cert.ReferenceIdeal.τ).loc Cert.ReferenceIdeal.main_arg14))
    := by
    rw [a3, a4, a5, a6, a7, a8, a9, a10, a11, a12, a13, a14]; rfl
  have hX : Cert.Lru.Fold.X m c = Cert.Lru.Ref.rows (m' ((c.tc : Thread Cert.ReferenceIdeal.nD Cert.ReferenceIdeal.τ).loc Cert.ReferenceIdeal.main_arg0)) := by
    rw [a0]; rfl
  have hY : Cert.Lru.Fold.Y m c = Cert.Lru.Ref.rows (m' ((c.tc : Thread Cert.ReferenceIdeal.nD Cert.ReferenceIdeal.τ).loc Cert.ReferenceIdeal.main_arg1)) := by
    rw [a1]; rfl
  have hG : Cert.Lru.Fold.GA m c = Cert.Lru.Ref.rows (m' ((c.tc : Thread Cert.ReferenceIdeal.nD Cert.ReferenceIdeal.τ).loc Cert.ReferenceIdeal.main_arg2)) := by
    rw [a2]; rfl
  refine ⟨e1.trans ?_, e2.trans ?_, e3.trans ?_, er⟩
  · exact Cert.Lru.Fin.merged_eq _ _ _ _ _ _ _ _ _ _ _ _ _ m c hP hX _ _ hY hG _ _ rfl hg
  · exact Cert.Lru.Fin.tail_eq _ _ _ _ _ _ _ _ _ _ _ _ _ m c hP hX _
  · exact Cert.Lru.Fin.last_eq _ _ _ _ _ _ _ _ _ _ _ _ _ m c hP hX _ _ rfl hg

/-- The projection's reference keeps its arguments. -/
theorem frame_reference2 : Cert.quiescent_Reference2Ideal := fun m ρ _ =>
  (θ_run Cert.Reference2Ideal.defs _ _).mono (fun r h => ⟨fun c => (h c _ _ _ rfl rfl rfl).2.2.2.2.2.2.2.2.2.2.2,
      Idealize.ShloMosaic.sem_eq_zero_of_no_sems (by decide) r.2⟩)
    (Cert.Norm.Proj.ref_run m ρ)

/-- The final norm's reference keeps its arguments. -/
theorem frame_reference4 : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Norm.Final.ref_run m ρ)

open Cert.Norm in
/-- The projection kernel's eleven arrays are the reference's. -/
theorem algebraic2 : Cert.algebraic_Kernel2Ideal_Reference2Ideal := by
  intro m g m' g' _ hag
  refine ⟨fun c => Proj.queries (ProjKer.X m c) (ProjKer.G m c) (ProjKer.W m c),
    fun c => Proj.bandT (ProjKer.X m c) (ProjKer.G m c) (ProjKer.W m c) .f32 512 512 (by decide),
    fun c => Proj.bandT (ProjKer.X m c) (ProjKer.G m c) (ProjKer.W m c) .f32 512 1024 (by decide),
    fun c => Proj.bandT (ProjKer.X m c) (ProjKer.G m c) (ProjKer.W m c) .bf16 512 2048 (by decide),
    fun c => Proj.bandT (ProjKer.X m c) (ProjKer.G m c) (ProjKer.W m c) .f32 64 2560 (by decide),
    fun c => Proj.bandT (ProjKer.X m c) (ProjKer.G m c) (ProjKer.W m c) .f32 8 2624 (by decide),
    fun c => Proj.bandT (ProjKer.X m c) (ProjKer.G m c) (ProjKer.W m c) .bf16 512 512 (by decide),
    fun c => Proj.bandT (ProjKer.X m c) (ProjKer.G m c) (ProjKer.W m c) .bf16 512 1024 (by decide),
    fun c => Proj.band (ProjKer.X m c) (ProjKer.G m c) (ProjKer.W m c) .bf16 512 512 (by decide),
    fun c => Proj.band (ProjKer.X m c) (ProjKer.G m c) (ProjKer.W m c) .bf16 64 2560 (by decide),
    fun c => Proj.band (ProjKer.X m c) (ProjKer.G m c) (ProjKer.W m c) .f32 512 1536 (by decide), ?_, ?_⟩
  · refine (θ_run Cert.Kernel2Ideal.defs _ _).mono (fun r h c => ?_) (Cert.Kernel2Ideal.Value.run_blocks m g)
    obtain ⟨e0, e1, e2, e3, e4, e5, e6, e7, e8, e9, e10, er⟩ := h c
    exact ⟨e0.trans (ProjArr.arr6 m c), e1.trans (ProjArr.arr7 m c), e2.trans (ProjArr.arr8 m c), e3.trans (ProjArr.arr9 m c), e4.trans (ProjArr.arr10 m c), e5.trans (ProjArr.arr11 m c), e6.trans (ProjArr.arr12 m c), e7.trans (ProjArr.arr13 m c), e8.trans (ProjArr.arr14 m c), e9.trans (ProjArr.arr15 m c), e10.trans (ProjArr.arr16 m c), er⟩
  · refine (θ_run Cert.Reference2Ideal.defs _ _).mono (fun r h c => ?_) (Proj.ref_run m' g')
    obtain ⟨a0, a1, a2⟩ := hag c
    obtain ⟨e0, e1, e2, e3, e4, e5, e6, e7, e8, e9, e10, k0, k1, k2⟩ := h c _ _ _ a0.symm a1.symm a2.symm
    exact ⟨e0, e1, e2, e3, e4, e5, e6, e7, e8, e9, e10, k0.trans a0.symm, k1.trans a1.symm, k2.trans a2.symm⟩

/-- The final norm's array is the reference's. -/
theorem algebraic4 : Cert.algebraic_Kernel4Ideal_Reference4Ideal := by
  intro m g m' g' _ hag
  refine ⟨fun c => Cert.Norm.Final.spec
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1)), ?_, ?_⟩
  · refine (θ_run Cert.Kernel4Ideal.defs _ _).mono (fun r h c => ?_) (Cert.Kernel4Ideal.Value.run_blocks m g)
    obtain ⟨e0, er⟩ := h c
    exact ⟨e0.trans (Cert.Norm.Final.arr_eq m c), er⟩
  · refine (θ_run Cert.Reference4Ideal.defs _ _).mono (fun r h c => ?_) (Cert.Norm.Final.ref_run m' g')
    obtain ⟨a0, a1⟩ := hag c
    obtain ⟨e0, er⟩ := h c
    exact ⟨e0.trans (congrArg₂ Cert.Norm.Final.spec a0 a1), er⟩

/-- The sample batch's projection's reference keeps its arguments. -/
theorem frame_reference5 : Cert.quiescent_Reference5Ideal := fun m ρ _ =>
  (θ_run Cert.Reference5Ideal.defs _ _).mono (fun r h => ⟨fun c => (h c _ _ _ rfl rfl rfl).2.2.2.2.2.2.2.2.2.2.2,
      Idealize.ShloMosaic.sem_eq_zero_of_no_sems (by decide) r.2⟩)
    (Cert.Norm.SampleProj.ref_run m ρ)

/-- The sample batch's final norm's reference keeps its arguments. -/
theorem frame_reference6 : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Norm.SampleFinal.ref_run m ρ)

open Cert.Norm in
/-- The projection kernel's eleven arrays for the sample batch are the reference's. -/
theorem algebraic5 : Cert.algebraic_Kernel5Ideal_Reference5Ideal := by
  intro m g m' g' _ hag
  refine ⟨fun c => Proj.queries (SampleProjKer.X m c) (SampleProjKer.G m c) (SampleProjKer.W m c),
    fun c => Proj.bandT (SampleProjKer.X m c) (SampleProjKer.G m c) (SampleProjKer.W m c) .f32 512 512 (by decide),
    fun c => Proj.bandT (SampleProjKer.X m c) (SampleProjKer.G m c) (SampleProjKer.W m c) .f32 512 1024 (by decide),
    fun c => Proj.bandT (SampleProjKer.X m c) (SampleProjKer.G m c) (SampleProjKer.W m c) .bf16 512 2048 (by decide),
    fun c => Proj.bandT (SampleProjKer.X m c) (SampleProjKer.G m c) (SampleProjKer.W m c) .f32 64 2560 (by decide),
    fun c => Proj.bandT (SampleProjKer.X m c) (SampleProjKer.G m c) (SampleProjKer.W m c) .f32 8 2624 (by decide),
    fun c => Proj.bandT (SampleProjKer.X m c) (SampleProjKer.G m c) (SampleProjKer.W m c) .bf16 512 512 (by decide),
    fun c => Proj.bandT (SampleProjKer.X m c) (SampleProjKer.G m c) (SampleProjKer.W m c) .bf16 512 1024 (by decide),
    fun c => Proj.band (SampleProjKer.X m c) (SampleProjKer.G m c) (SampleProjKer.W m c) .bf16 512 512 (by decide),
    fun c => Proj.band (SampleProjKer.X m c) (SampleProjKer.G m c) (SampleProjKer.W m c) .bf16 64 2560 (by decide),
    fun c => Proj.band (SampleProjKer.X m c) (SampleProjKer.G m c) (SampleProjKer.W m c) .f32 512 1536 (by decide), ?_, ?_⟩
  · refine (θ_run Cert.Kernel5Ideal.defs _ _).mono (fun r h c => ?_) (Cert.Kernel5Ideal.Value.run_blocks m g)
    obtain ⟨e0, e1, e2, e3, e4, e5, e6, e7, e8, e9, e10, er⟩ := h c
    exact ⟨e0.trans (SampleProjArr.arr6 m c), e1.trans (SampleProjArr.arr7 m c), e2.trans (SampleProjArr.arr8 m c), e3.trans (SampleProjArr.arr9 m c), e4.trans (SampleProjArr.arr10 m c), e5.trans (SampleProjArr.arr11 m c), e6.trans (SampleProjArr.arr12 m c), e7.trans (SampleProjArr.arr13 m c), e8.trans (SampleProjArr.arr14 m c), e9.trans (SampleProjArr.arr15 m c), e10.trans (SampleProjArr.arr16 m c), er⟩
  · refine (θ_run Cert.Reference5Ideal.defs _ _).mono (fun r h c => ?_) (SampleProj.ref_run m' g')
    obtain ⟨a0, a1, a2⟩ := hag c
    obtain ⟨e0, e1, e2, e3, e4, e5, e6, e7, e8, e9, e10, k0, k1, k2⟩ := h c _ _ _ a0.symm a1.symm a2.symm
    exact ⟨e0, e1, e2, e3, e4, e5, e6, e7, e8, e9, e10, k0.trans a0.symm, k1.trans a1.symm, k2.trans a2.symm⟩

/-- The final norm's array for the sample batch is the reference's. -/
theorem algebraic6 : Cert.algebraic_Kernel6Ideal_Reference6Ideal := by
  intro m g m' g' _ hag
  refine ⟨fun c => Cert.Norm.Final.spec
      (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1)), ?_, ?_⟩
  · refine (θ_run Cert.Kernel6Ideal.defs _ _).mono (fun r h c => ?_) (Cert.Kernel6Ideal.Value.run_blocks m g)
    obtain ⟨e0, er⟩ := h c
    exact ⟨e0.trans (Cert.Norm.SampleFinal.arr_eq m c), er⟩
  · refine (θ_run Cert.Reference6Ideal.defs _ _).mono (fun r h c => ?_) (Cert.Norm.SampleFinal.ref_run m' g')
    obtain ⟨a0, a1⟩ := hag c
    obtain ⟨e0, er⟩ := h c
    exact ⟨e0.trans (congrArg₂ Cert.Norm.Final.spec a0 a1), er⟩

/-- The reference of the sample batch's RG-LRU call keeps its arguments. -/
theorem frame_reference3 : Cert.quiescent_Reference3Ideal := fun m ρ _ =>
  (θ_run Cert.Reference3Ideal.defs _ _).mono (fun r h => ⟨fun c => (h c _ _ _ _ _ _ _ _ _ _ _ _ _ _ _ _ _ rfl rfl rfl rfl rfl rfl rfl rfl rfl rfl rfl rfl rfl rfl rfl rfl rfl).2.2.2,
      Idealize.ShloMosaic.sem_eq_zero_of_no_sems (by decide) r.2⟩)
    (Cert.Lru.SampleRef.ref_run m ρ)

/-- The sample batch's merged rows, new convolution rows and new states are the reference's. -/
theorem algebraic3 : Cert.algebraic_Kernel3Ideal_Reference3Ideal := by
  intro m g m' g' _ hag
  refine ⟨Cert.Lru.SampleArr.A19 m, Cert.Lru.SampleArr.A20 m, Cert.Lru.SampleArr.A21 m, Cert.Lru.SampleArr.run m g, ?_⟩
  refine (θ_run Cert.Reference3Ideal.defs _ _).mono (fun r h c => ?_) (Cert.Lru.SampleRef.ref_run m' g')
  obtain ⟨a0, a1, a2, a3, a4, a5, a6, a7, a8, a9, a10, a11, a12, a13, a14, a15, a16⟩ := hag c
  obtain ⟨e0, e1, e2, k0, k1, k2, k3, k4, k5, k6, k7, k8, k9, k10, k11, k12, k13, k14, k15, k16⟩ := h c _ _ _ _ _ _ _ _ _ _ _ _ _ _ _ _ _ a0 a1 a2 a3 a4 a5 a6 a7 a8 a9 a10 a11 a12 a13 a14 a15 a16
  exact ⟨e0, e1, e2, k0.trans a0.symm, k1.trans a1.symm, k2.trans a2.symm, k3.trans a3.symm, k4.trans a4.symm, k5.trans a5.symm, k6.trans a6.symm, k7.trans a7.symm, k8.trans a8.symm, k9.trans a9.symm, k10.trans a10.symm, k11.trans a11.symm, k12.trans a12.symm, k13.trans a13.symm, k14.trans a14.symm, k15.trans a15.symm, k16.trans a16.symm⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  trivial, algebraic,
  IdealRules.named_const.statement Cert.Kernel2Ideal.κ "q_scale" .f32 0x3E38AA3B#32 _ rfl, algebraic2,
  trivial, algebraic3,
  trivial, algebraic4,
  IdealRules.named_const.statement Cert.Kernel5Ideal.κ "q_scale" .f32 0x3E38AA3B#32 _ rfl, algebraic5,
  trivial, algebraic6⟩

end Cert.Proof

end
